-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_inputs_finite [hPre_encoder_inputs_finite : Cert.Pre_encoder_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_inputs_finite [hPre_encoder_inputs_finite : Cert.Pre_encoder_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_encoder_inputs_finite [hKernelIdeal : Cert.KernelIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_encoder_inputs_finite [hReferenceIdeal : Cert.ReferenceIdeal.Facts] [hPre_encoder_inputs_finite : Cert.Pre_encoder_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_encoder_inputs_finite [hKernelIdeal : Cert.KernelIdeal.Facts] [hReferenceIdeal : Cert.ReferenceIdeal.Facts] [hPre_encoder_inputs_finite : Cert.Pre_encoder_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_encoder_inputs_finite : Cert.Pre_encoder_inputs_finite.Facts),
    quiescent_Kernel (hKernel := hKernel)
    ∧ quiescent_KernelIdeal (hKernelIdeal := hKernelIdeal)
    ∧ quiescent_KernelIdeal_pre_encoder_inputs_finite (hKernelIdeal := hKernelIdeal) (hPre_encoder_inputs_finite := hPre_encoder_inputs_finite)
    ∧ quiescent_ReferenceIdeal (hReferenceIdeal := hReferenceIdeal)
    ∧ quiescent_ReferenceIdeal_pre_encoder_inputs_finite (hReferenceIdeal := hReferenceIdeal) (hPre_encoder_inputs_finite := hPre_encoder_inputs_finite)
    ∧ preserves_Kernel_KernelIdeal
    ∧ algebraic_KernelIdeal_ReferenceIdeal_pre_encoder_inputs_finite (hKernelIdeal := hKernelIdeal) (hReferenceIdeal := hReferenceIdeal) (hPre_encoder_inputs_finite := hPre_encoder_inputs_finite)
-- ==== Pre_encoder_inputs_finite.lean ====
abbrev S256x3x32x32 : Shape := ⟨4, ![256, 3, 32, 32]⟩
abbrev S512x64 : Shape := ⟨2, ![512, 64]⟩
abbrev S256x3x4x4 : Shape := ⟨4, ![256, 3, 4, 4]⟩
abbrev S256 : Shape := ⟨1, ![256]⟩
abbrev S256x256x4x4 : Shape := ⟨4, ![256, 256, 4, 4]⟩
abbrev S64x256x3x3 : Shape := ⟨4, ![64, 256, 3, 3]⟩
abbrev S64 : Shape := ⟨1, ![64]⟩
abbrev S256x64x3x3 : Shape := ⟨4, ![256, 64, 3, 3]⟩
abbrev S3x256x4x4 : Shape := ⟨4, ![3, 256, 4, 4]⟩
abbrev S3 : Shape := ⟨1, ![3]⟩
abbrev S_ : Shape := ⟨0, ![]⟩

class Facts : Prop where
  bcast_S_S256x3x32x32 : S_.BroadcastsInDim S256x3x32x32 (![] : Fin 0 → Fin S256x3x32x32.rank)
  reducesTo_S256x3x32x32_S_d0_1_2_3 : S256x3x32x32.ReducesTo [0, 1, 2, 3] S_
  h_S_ : 0 < S_.numel
  bcast_S_S256x3x4x4 : S_.BroadcastsInDim S256x3x4x4 (![] : Fin 0 → Fin S256x3x4x4.rank)
  reducesTo_S256x3x4x4_S_d0_1_2_3 : S256x3x4x4.ReducesTo [0, 1, 2, 3] S_
  bcast_S_S256 : S_.BroadcastsInDim S256 (![] : Fin 0 → Fin S256.rank)
  reducesTo_S256_S_d0 : S256.ReducesTo [0] S_
  bcast_S_S256x256x4x4 : S_.BroadcastsInDim S256x256x4x4 (![] : Fin 0 → Fin S256x256x4x4.rank)
  reducesTo_S256x256x4x4_S_d0_1_2_3 : S256x256x4x4.ReducesTo [0, 1, 2, 3] S_
  bcast_S_S64x256x3x3 : S_.BroadcastsInDim S64x256x3x3 (![] : Fin 0 → Fin S64x256x3x3.rank)
  reducesTo_S64x256x3x3_S_d0_1_2_3 : S64x256x3x3.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S64x256x3x3 .f32) (main_arg7 : FVec F S64 .f32) (main_v13 : IVec S_ 1) (main_v16 : IVec S256x256x4x4 1) : IVec S_ 1 :=
  let main_c_5 : IVec S_ 1 := constantI S_ 1 1#1
  let main_v17 : IVec S_ 1 := (fun x v => Host.reduce IntOp.andi x v reducesTo_S256x256x4x4_S_d0_1_2_3 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256x3x3 .f32 := Host.absf main_arg6
  let main_cst_8 : FVec F S_ .f32 := constant S_ .f32 0x7F800000#32
  let main_v25 : FVec F S64x256x3x3 .f32 := broadcastInDim S64x256x3x3 ![] bcast_S_S64x256x3x3 main_cst_8
  let main_v26 : IVec S64x256x3x3 1 := cmpf .olt main_v24 main_v25
  let main_c_9 : IVec S_ 1 := constantI S_ 1 1#1
  let main_v27 : IVec S_ 1 := (fun x v => Host.reduce IntOp.andi x v reducesTo_S64x256x3x3_S_d0_1_2_3 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S256x3x32x32 .f32) (main_arg1 : FVec F S512x64 .f32) (main_arg2 : FVec F S256x3x4x4 .f32) (main_arg3 : FVec F S256 .f32) (main_arg4 : FVec F S256x256x4x4 .f32) (main_arg5 : FVec F S256 .f32) (main_arg6 : FVec F S64x256x3x3 .f32) (main_arg7 : FVec F S64 .f32) (main_arg8 : FVec F S256x64x3x3 .f32) (main_arg9 : FVec F S256 .f32) (main_arg10 : FVec F S256x256x4x4 .f32) (main_arg11 : FVec F S256 .f32) (main_arg12 : FVec F S3x256x4x4 .f32) (main_arg13 : FVec F S3 .f32) : IVec S_ 1 :=
  let main_v0 : FVec F S256x3x32x32 .f32 := Host.absf main_arg0
  let main_cst : FVec F S_ .f32 := constant S_ .f32 0x7F800000#32
  let main_v1 : FVec F S256x3x32x32 .f32 := broadcastInDim S256x3x32x32 ![] bcast_S_S256x3x32x32 main_cst
  let main_v2 : IVec S256x3x32x32 1 := cmpf .olt main_v0 main_v1
  let main_c : IVec S_ 1 := constantI S_ 1 1#1
  let main_v3 : IVec S_ 1 := (fun x v => Host.reduce IntOp.andi x v reducesTo_S256x3x32x32_S_d0_1_2_3 h_S_) main_v2 main_c
  let main_v4 : FVec F S256x3x4x4 .f32 := Host.absf main_arg2
  let main_cst_0 : FVec F S_ .f32 := constant S_ .f32 0x7F800000#32
  let main_v5 : FVec F S256x3x4x4 .f32 := broadcastInDim S256x3x4x4 ![] bcast_S_S256x3x4x4 main_cst_0
  let main_v6 : IVec S256x3x4x4 1 := cmpf .olt main_v4 main_v5
  let main_c_1 : IVec S_ 1 := constantI S_ 1 1#1
  let main_v7 : IVec S_ 1 := (fun x v => Host.reduce IntOp.andi x v reducesTo_S256x3x4x4_S_d0_1_2_3 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256x4x4 .f32 := Host.absf main_arg4
  let main_cst_4 : FVec F S_ .f32 := constant S_ .f32 0x7F800000#32
  let main_v15 : FVec F S256x256x4x4 .f32 := broadcastInDim S256x256x4x4 ![] bcast_S_S256x256x4x4 main_cst_4
  let main_v16 : IVec S256x256x4x4 1 := cmpf .olt main_v14 main_v15
  fn_part1 (F := F) main_arg5 main_arg6 main_arg7 main_v13 main_v16
-- ==== Kernel.lean ====
abbrev S256x3x32x32 : Shape := ⟨4, ![256, 3, 32, 32]⟩
abbrev S512x64 : Shape := ⟨2, ![512, 64]⟩
abbrev S256x3x4x4 : Shape := ⟨4, ![256, 3, 4, 4]⟩
abbrev S256 : Shape := ⟨1, ![256]⟩
abbrev S256x256x4x4 : Shape := ⟨4, ![256, 256, 4, 4]⟩
abbrev S64x256x3x3 : Shape := ⟨4, ![64, 256, 3, 3]⟩
abbrev S64 : Shape := ⟨1, ![64]⟩
abbrev S256x64x3x3 : Shape := ⟨4, ![256, 64, 3, 3]⟩
abbrev S3x256x4x4 : Shape := ⟨4, ![3, 256, 4, 4]⟩
abbrev S3 : Shape := ⟨1, ![3]⟩
abbrev S4x34x16 : Shape := ⟨3, ![4, 34, 16]⟩
abbrev S192x96 : Shape := ⟨2, ![192, 96]⟩
abbrev S_ : Shape := ⟨0, ![]⟩
abbrev S256x3x34x34 : Shape := ⟨4, ![256, 3, 34, 34]⟩
abbrev S256x3x17x2x34 : Shape := ⟨5, ![256, 3, 17, 2, 34]⟩
abbrev S4x4x3x256 : Shape := ⟨4, ![4, 4, 3, 256]⟩
abbrev S4x3x256x34x16 : Shape := ⟨5, ![4, 3, 256, 34, 16]⟩
abbrev S3x4x34x16x256 : Shape := ⟨5, ![3, 4, 34, 16, 256]⟩
abbrev S408x4096 : Shape := ⟨2, ![408, 4096]⟩
abbrev S1x256 : Shape := ⟨2, ![1, 256]⟩
abbrev S1x1x1x256 : Shape := ⟨4, ![1, 1, 1, 256]⟩
abbrev S16x1x1x256 : Shape := ⟨4, ![16, 1, 1, 256]⟩
abbrev S16x256 : Shape := ⟨2, ![16, 256]⟩
abbrev S1x4096 : Shape := ⟨2, ![1, 4096]⟩
abbrev S256x16x4096 : Shape := ⟨3, ![256, 16, 4096]⟩
abbrev S32x3x17x2x34 : Shape := ⟨5, ![32, 3, 17, 2, 34]⟩
abbrev S32x16x4096 : Shape := ⟨3, ![32, 16, 4096]⟩
abbrev S32x1x16x1x34 : Shape := ⟨5, ![32, 1, 16, 1, 34]⟩
abbrev S32x16x34 : Shape := ⟨3, ![32, 16, 34]⟩
abbrev S32x16x408 : Shape := ⟨3, ![32, 16, 408]⟩
abbrev S512x408 : Shape := ⟨2, ![512, 408]⟩
abbrev S512x4096 : Shape := ⟨2, ![512, 4096]⟩
abbrev S256x16x16x256 : Shape := ⟨4, ![256, 16, 16, 256]⟩
abbrev S256x18x18x256 : Shape := ⟨4, ![256, 18, 18, 256]⟩
abbrev S256x9x2x9x2x256 : Shape := ⟨6, ![256, 9, 2, 9, 2, 256]⟩
abbrev S256x9x9x2x2x256 : Shape := ⟨6, ![256, 9, 9, 2, 2, 256]⟩
abbrev S256x9x9x1024 : Shape := ⟨4, ![256, 9, 9, 1024]⟩
abbrev S4x4x256x256 : Shape := ⟨4, ![4, 4, 256, 256]⟩
abbrev S2x2x2x2x256x256 : Shape := ⟨6, ![2, 2, 2, 2, 256, 256]⟩
abbrev S4x1024x256 : Shape := ⟨3, ![4, 1024, 256]⟩
abbrev S256x8x8x256 : Shape := ⟨4, ![256, 8, 8, 256]⟩
abbrev S16x9x9x1024 : Shape := ⟨4, ![16, 9, 9, 1024]⟩
abbrev S16x8x8x256 : Shape := ⟨4, ![16, 8, 8, 256]⟩
abbrev S1024x256 : Shape := ⟨2, ![1024, 256]⟩
abbrev S16x8x8x1024 : Shape := ⟨4, ![16, 8, 8, 1024]⟩
abbrev S1024x1024 : Shape := ⟨2, ![1024, 1024]⟩
abbrev S1x1024x256 : Shape := ⟨3, ![1, 1024, 256]⟩
abbrev S256x10x10x256 : Shape := ⟨4, ![256, 10, 10, 256]⟩
abbrev S3x3x256x64 : Shape := ⟨4, ![3, 3, 256, 64]⟩
abbrev S9x256x64 : Shape := ⟨3, ![9, 256, 64]⟩
abbrev S1x64 : Shape := ⟨2, ![1, 64]⟩
abbrev S256x8x8x64 : Shape := ⟨4, ![256, 8, 8, 64]⟩
abbrev S32x10x10x256 : Shape := ⟨4, ![32, 10, 10, 256]⟩
abbrev S32x8x8x64 : Shape := ⟨4, ![32, 8, 8, 64]⟩
abbrev S2048x64 : Shape := ⟨2, ![2048, 64]⟩
abbrev S32x8x8x256 : Shape := ⟨4, ![32, 8, 8, 256]⟩
abbrev S2048x256 : Shape := ⟨2, ![2048, 256]⟩
abbrev S1x256x64 : Shape := ⟨3, ![1, 256, 64]⟩
abbrev S256x64 : Shape := ⟨2, ![256, 64]⟩
abbrev S16384x64 : Shape := ⟨2, ![16384, 64]⟩
abbrev S64x512 : Shape := ⟨2, ![64, 512]⟩
abbrev S512 : Shape := ⟨1, ![512]⟩
abbrev S1x512 : Shape := ⟨2, ![1, 512]⟩
abbrev S2048 : Shape := ⟨1, ![2048]⟩
abbrev S2048x1 : Shape := ⟨2, ![2048, 1]⟩
abbrev S2048x512 : Shape := ⟨2, ![2048, 512]⟩
abbrev S256x10x10x64 : Shape := ⟨4, ![256, 10, 10, 64]⟩
abbrev S3x3x64x256 : Shape := ⟨4, ![3, 3, 64, 256]⟩
abbrev S9x64x256 : Shape := ⟨3, ![9, 64, 256]⟩
abbrev S576x256 : Shape := ⟨2, ![576, 256]⟩
abbrev S32x10x10x64 : Shape := ⟨4, ![32, 10, 10, 64]⟩
abbrev S2048x576 : Shape := ⟨2, ![2048, 576]⟩
abbrev S256x4x64x256 : Shape := ⟨4, ![256, 4, 64, 256]⟩
abbrev S16x10x10x256 : Shape := ⟨4, ![16, 10, 10, 256]⟩
abbrev S16x4x64x256 : Shape := ⟨4, ![16, 4, 64, 256]⟩
abbrev S1x1x256x256 : Shape := ⟨4, ![1, 1, 256, 256]⟩
abbrev S256x256 : Shape := ⟨2, ![256, 256]⟩
abbrev S16x64x256 : Shape := ⟨3, ![16, 64, 256]⟩
abbrev S16x1x64x256 : Shape := ⟨4, ![16, 1, 64, 256]⟩
abbrev S256x2x2x8x8x256 : Shape := ⟨6, ![256, 2, 2, 8, 8, 256]⟩
abbrev S256x8x2x8x2x256 : Shape := ⟨6, ![256, 8, 2, 8, 2, 256]⟩
abbrev S256x4x3x4 : Shape := ⟨4, ![256, 4, 3, 4]⟩
abbrev S256x48 : Shape := ⟨2, ![256, 48]⟩
abbrev S3x32 : Shape := ⟨2, ![3, 32]⟩
abbrev S96 : Shape := ⟨1, ![96]⟩
abbrev S1x96 : Shape := ⟨2, ![1, 96]⟩
abbrev S256x2x16x96 : Shape := ⟨4, ![256, 2, 16, 96]⟩
abbrev S32x16x16x256 : Shape := ⟨4, ![32, 16, 16, 256]⟩
abbrev S32x2x16x96 : Shape := ⟨4, ![32, 2, 16, 96]⟩
abbrev S8192x256 : Shape := ⟨2, ![8192, 256]⟩
abbrev S8192x48 : Shape := ⟨2, ![8192, 48]⟩
abbrev S32x16x16x48 : Shape := ⟨4, ![32, 16, 16, 48]⟩
abbrev S32x1x16x12 : Shape := ⟨4, ![32, 1, 16, 12]⟩
abbrev S32x16x16x12 : Shape := ⟨4, ![32, 16, 16, 12]⟩
abbrev S32x15x16x12 : Shape := ⟨4, ![32, 15, 16, 12]⟩
abbrev S32x1x16x16x12 : Shape := ⟨5, ![32, 1, 16, 16, 12]⟩
abbrev S32x2x16x16x12 : Shape := ⟨5, ![32, 2, 16, 16, 12]⟩
abbrev S1024x192 : Shape := ⟨2, ![1024, 192]⟩
abbrev S1024x96 : Shape := ⟨2, ![1024, 96]⟩
abbrev S256x2x16x3x32 : Shape := ⟨5, ![256, 2, 16, 3, 32]⟩
abbrev S256x3x16x2x32 : Shape := ⟨5, ![256, 3, 16, 2, 32]⟩

abbrev nBuf : Space → Nat
  | .hbm => 87
  | .vmem => 44
  | .smem => 0
  | _ => 0

abbrev bufTy : (tb : Table) → Fin (tcTables nBuf tb) → BufTy
  | .hbm, ⟨0, _⟩ => ⟨S256x3x32x32, .f32⟩
  | .hbm, ⟨1, _⟩ => ⟨S512x64, .f32⟩
  | .hbm, ⟨2, _⟩ => ⟨S256x3x4x4, .f32⟩
  | .hbm, ⟨3, _⟩ => ⟨S256, .f32⟩
  | .hbm, ⟨4, _⟩ => ⟨S256x256x4x4, .f32⟩
  | .hbm, ⟨5, _⟩ => ⟨S256, .f32⟩
  | .hbm, ⟨6, _⟩ => ⟨S64x256x3x3, .f32⟩
  | .hbm, ⟨7, _⟩ => ⟨S64, .f32⟩
  | .hbm, ⟨8, _⟩ => ⟨S256x64x3x3, .f32⟩
  | .hbm, ⟨9, _⟩ => ⟨S256, .f32⟩
  | .hbm, ⟨10, _⟩ => ⟨S256x256x4x4, .f32⟩
  | .hbm, ⟨11, _⟩ => ⟨S256, .f32⟩
  | .hbm, ⟨12, _⟩ => ⟨S3x256x4x4, .f32⟩
  | .hbm, ⟨13, _⟩ => ⟨S3, .f32⟩
  | .hbm, ⟨14, _⟩ => ⟨S4x34x16, .f32⟩
  | .hbm, ⟨15, _⟩ => ⟨S192x96, .f32⟩
  | .hbm, ⟨16, _⟩ => ⟨S_, .i32⟩
  | .hbm, ⟨17, _⟩ => ⟨S_, .f32⟩
  | .hbm, ⟨18, _⟩ => ⟨S256x3x34x34, .f32⟩
  | .hbm, ⟨19, _⟩ => ⟨S256x3x17x2x34, .f32⟩
  | .hbm, ⟨20, _⟩ => ⟨S4x4x3x256, .f32⟩
  | .hbm, ⟨21, _⟩ => ⟨S4x3x256x34x16, .f32⟩
  | .hbm, ⟨22, _⟩ => ⟨S3x4x34x16x256, .f32⟩
  | .hbm, ⟨23, _⟩ => ⟨S408x4096, .f32⟩
  | .hbm, ⟨24, _⟩ => ⟨S1x256, .f32⟩
  | .hbm, ⟨25, _⟩ => ⟨S1x1x1x256, .f32⟩
  | .hbm, ⟨26, _⟩ => ⟨S16x1x1x256, .f32⟩
  | .hbm, ⟨27, _⟩ => ⟨S16x256, .f32⟩
  | .hbm, ⟨28, _⟩ => ⟨S1x4096, .f32⟩
  | .hbm, ⟨29, _⟩ => ⟨S256x16x4096, .f32⟩
  | .hbm, ⟨30, _⟩ => ⟨S256x16x16x256, .f32⟩
  | .hbm, ⟨31, _⟩ => ⟨S_, .i32⟩
  | .hbm, ⟨32, _⟩ => ⟨S_, .f32⟩
  | .hbm, ⟨33, _⟩ => ⟨S256x18x18x256, .f32⟩
  | .hbm, ⟨34, _⟩ => ⟨S256x9x2x9x2x256, .f32⟩
  | .hbm, ⟨35, _⟩ => ⟨S256x9x9x2x2x256, .f32⟩
  | .hbm, ⟨36, _⟩ => ⟨S256x9x9x1024, .f32⟩
  | .hbm, ⟨37, _⟩ => ⟨S4x4x256x256, .f32⟩
  | .hbm, ⟨38, _⟩ => ⟨S2x2x2x2x256x256, .f32⟩
  | .hbm, ⟨39, _⟩ => ⟨S2x2x2x2x256x256, .f32⟩
  | .hbm, ⟨40, _⟩ => ⟨S4x1024x256, .f32⟩
  | .hbm, ⟨41, _⟩ => ⟨S1x256, .f32⟩
  | .hbm, ⟨42, _⟩ => ⟨S256x8x8x256, .f32⟩
  | .hbm, ⟨43, _⟩ => ⟨S_, .i32⟩
  | .hbm, ⟨44, _⟩ => ⟨S_, .f32⟩
  | .hbm, ⟨45, _⟩ => ⟨S256x10x10x256, .f32⟩
  | .hbm, ⟨46, _⟩ => ⟨S3x3x256x64, .f32⟩
  | .hbm, ⟨47, _⟩ => ⟨S9x256x64, .f32⟩
  | .hbm, ⟨48, _⟩ => ⟨S1x64, .f32⟩
  | .hbm, ⟨49, _⟩ => ⟨S256x8x8x64, .f32⟩
  | .hbm, ⟨50, _⟩ => ⟨S16384x64, .f32⟩
  | .hbm, ⟨51, _⟩ => ⟨S64x512, .f32⟩
  | .hbm, ⟨52, _⟩ => ⟨S512x64, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S16384x64, .f32⟩
  | .hbm, ⟨57, _⟩ => ⟨S256x8x8x64, .f32⟩
  | .hbm, ⟨58, _⟩ => ⟨S_, .i32⟩
  | .hbm, ⟨59, _⟩ => ⟨S_, .f32⟩
  | .hbm, ⟨60, _⟩ => ⟨S256x10x10x64, .f32⟩
  | .hbm, ⟨61, _⟩ => ⟨S3x3x64x256, .f32⟩
  | .hbm, ⟨62, _⟩ => ⟨S9x64x256, .f32⟩
  | .hbm, ⟨63, _⟩ => ⟨S576x256, .f32⟩
  | .hbm, ⟨64, _⟩ => ⟨S1x256, .f32⟩
  | .hbm, ⟨65, _⟩ => ⟨S256x8x8x256, .f32⟩
  | .hbm, ⟨66, _⟩ => ⟨S4x4x256x256, .f32⟩
  | .hbm, ⟨67, _⟩ => ⟨S2x2x2x2x256x256, .f32⟩
  | .hbm, ⟨68, _⟩ => ⟨S2x2x2x2x256x256, .f32⟩
  | .hbm, ⟨69, _⟩ => ⟨S4x4x256x256, .f32⟩
  | .hbm, ⟨70, _⟩ => ⟨S_, .i32⟩
  | .hbm, ⟨71, _⟩ => ⟨S_, .f32⟩
  | .hbm, ⟨72, _⟩ => ⟨S256x10x10x256, .f32⟩
  | .hbm, ⟨73, _⟩ => ⟨S1x256, .f32⟩
  | .hbm, ⟨74, _⟩ => ⟨S256x4x64x256, .f32⟩
  | .hbm, ⟨75, _⟩ => ⟨S256x2x2x8x8x256, .f32⟩
  | .hbm, ⟨76, _⟩ => ⟨S256x8x2x8x2x256, .f32⟩
  | .hbm, ⟨77, _⟩ => ⟨S256x16x16x256, .f32⟩
  | .hbm, ⟨78, _⟩ => ⟨S256x4x3x4, .f32⟩
  | .hbm, ⟨79, _⟩ => ⟨S256x48, .f32⟩
  | .hbm, ⟨80, _⟩ => ⟨S3x32, .f32⟩
  | .hbm, ⟨81, _⟩ => ⟨S96, .f32⟩
  | .hbm, ⟨82, _⟩ => ⟨S1x96, .f32⟩
  | .hbm, ⟨83, _⟩ => ⟨S256x2x16x96, .f32⟩
  | .hbm, ⟨84, _⟩ => ⟨S256x2x16x3x32, .f32⟩
  | .hbm, ⟨85, _⟩ => ⟨S256x3x16x2x32, .f32⟩
  | .hbm, ⟨86, _⟩ => ⟨S256x3x32x32, .f32⟩
  | .local _ .vmem, ⟨0, _⟩ => ⟨S32x3x17x2x34, .f32⟩
  | .local _ .vmem, ⟨1, _⟩ => ⟨S32x3x17x2x34, .f32⟩
  | .local _ .vmem, ⟨2, _⟩ => ⟨S408x4096, .f32⟩
  | .local _ .vmem, ⟨3, _⟩ => ⟨S1x4096, .f32⟩
  | .local _ .vmem, ⟨4, _⟩ => ⟨S32x16x4096, .f32⟩
  | .local _ .vmem, ⟨5, _⟩ => ⟨S32x16x4096, .f32⟩
  | .local _ .vmem, ⟨6, _⟩ => ⟨S16x9x9x1024, .f32⟩
  | .local _ .vmem, ⟨7, _⟩ => ⟨S16x9x9x1024, .f32⟩
  | .local _ .vmem, ⟨8, _⟩ => ⟨S4x1024x256, .f32⟩
  | .local _ .vmem, ⟨9, _⟩ => ⟨S1x256, .f32⟩
  | .local _ .vmem, ⟨10, _⟩ => ⟨S16x8x8x256, .f32⟩
  | .local _ .vmem, ⟨11, _⟩ => ⟨S16x8x8x256, .f32⟩
  | .local _ .vmem, ⟨12, _⟩ => ⟨S32x10x10x256, .f32⟩
  | .local _ .vmem, ⟨13, _⟩ => ⟨S32x10x10x256, .f32⟩
  | .local _ .vmem, ⟨14, _⟩ => ⟨S9x256x64, .f32⟩
  | .local _ .vmem, ⟨15, _⟩ => ⟨S1x64, .f32⟩
  | .local _ .vmem, ⟨16, _⟩ => ⟨S32x8x8x64, .f32⟩
  | .local _ .vmem, ⟨17, _⟩ => ⟨S32x8x8x64, .f32⟩
  | .local _ .vmem, ⟨18, _⟩ => ⟨S2048x64, .f32⟩
  | .local _ .vmem, ⟨19, _⟩ => ⟨S2048x64, .f32⟩
  | .local _ .vmem, ⟨20, _⟩ => ⟨S64x512, .f32⟩
  | .local _ .vmem, ⟨21, _⟩ => ⟨S1x512, .f32⟩
  | .local _ .vmem, ⟨22, _⟩ => ⟨S512x64, .f32⟩
  | .local _ .vmem, ⟨23, _⟩ => ⟨S2048x64, .f32⟩
  | .local _ .vmem, ⟨24, _⟩ => ⟨S2048x64, .f32⟩
  | .local _ .vmem, ⟨25, _⟩ => ⟨S32x10x10x64, .f32⟩
  | .local _ .vmem, ⟨26, _⟩ => ⟨S32x10x10x64, .f32⟩
  | .local _ .vmem, ⟨27, _⟩ => ⟨S576x256, .f32⟩
  | .local _ .vmem, ⟨28, _⟩ => ⟨S1x256, .f32⟩
  | .local _ .vmem, ⟨29, _⟩ => ⟨S32x8x8x256, .f32⟩
  | .local _ .vmem, ⟨30, _⟩ => ⟨S32x8x8x256, .f32⟩
  | .local _ .vmem, ⟨31, _⟩ => ⟨S16x10x10x256, .f32⟩
  | .local _ .vmem, ⟨32, _⟩ => ⟨S16x10x10x256, .f32⟩
  | .local _ .vmem, ⟨33, _⟩ => ⟨S4x4x256x256, .f32⟩
  | .local _ .vmem, ⟨34, _⟩ => ⟨S1x256, .f32⟩
  | .local _ .vmem, ⟨35, _⟩ => ⟨S16x4x64x256, .f32⟩
  | .local _ .vmem, ⟨36, _⟩ => ⟨S16x4x64x256, .f32⟩
  | .local _ .vmem, ⟨37, _⟩ => ⟨S32x16x16x256, .f32⟩
  | .local _ .vmem, ⟨38, _⟩ => ⟨S32x16x16x256, .f32⟩
  | .local _ .vmem, ⟨39, _⟩ => ⟨S256x48, .f32⟩
  | .local _ .vmem, ⟨40, _⟩ => ⟨S192x96, .f32⟩
  | .local _ .vmem, ⟨41, _⟩ => ⟨S1x96, .f32⟩
  | .local _ .vmem, ⟨42, _⟩ => ⟨S32x2x16x96, .f32⟩
  | .local _ .vmem, ⟨43, _⟩ => ⟨S32x2x16x96, .f32⟩
  | _, _ => ⟨S256x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_4 : Ref sig .tc := ⟨.hbm, 58, rfl⟩
abbrev main_call3_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_call4_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem4_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x3x17x2x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S408x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x9x9x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x8x8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S32x10x10x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S32x8x8x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S32x10x10x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S576x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S32x8x8x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S16x10x10x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x4x256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S16x4x64x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S32x16x16x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x48 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S192x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S32x2x16x96 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== ReferenceIdeal.lean ====
abbrev S256x3x32x32 : Shape := ⟨4, ![256, 3, 32, 32]⟩
abbrev S512x64 : Shape := ⟨2, ![512, 64]⟩
abbrev S256x3x4x4 : Shape := ⟨4, ![256, 3, 4, 4]⟩
abbrev S256 : Shape := ⟨1, ![256]⟩
abbrev S256x256x4x4 : Shape := ⟨4, ![256, 256, 4, 4]⟩
abbrev S64x256x3x3 : Shape := ⟨4, ![64, 256, 3, 3]⟩
abbrev S64 : Shape := ⟨1, ![64]⟩
abbrev S256x64x3x3 : Shape := ⟨4, ![256, 64, 3, 3]⟩
abbrev S3x256x4x4 : Shape := ⟨4, ![3, 256, 4, 4]⟩
abbrev S3 : Shape := ⟨1, ![3]⟩
abbrev S_ : Shape := ⟨0, ![]⟩
abbrev S256x3x34x34 : Shape := ⟨4, ![256, 3, 34, 34]⟩
abbrev S256x3x16x34 : Shape := ⟨4, ![256, 3, 16, 34]⟩
abbrev S256x3x1x16x34 : Shape := ⟨5, ![256, 3, 1, 16, 34]⟩
abbrev S256x3x4x16x34 : Shape := ⟨5, ![256, 3, 4, 16, 34]⟩
abbrev S256x3x4x16x16 : Shape := ⟨5, ![256, 3, 4, 16, 16]⟩
abbrev S256x3x4x1x16x16 : Shape := ⟨6, ![256, 3, 4, 1, 16, 16]⟩
abbrev S256x3x4x4x16x16 : Shape := ⟨6, ![256, 3, 4, 4, 16, 16]⟩
abbrev S256x3x16x16x16 : Shape := ⟨5, ![256, 3, 16, 16, 16]⟩
abbrev S256x3x16 : Shape := ⟨3, ![256, 3, 16]⟩
abbrev S256x256x16x16 : Shape := ⟨4, ![256, 256, 16, 16]⟩
abbrev S1x256x1x1 : Shape := ⟨4, ![1, 256, 1, 1]⟩
abbrev S256x256x18x18 : Shape := ⟨4, ![256, 256, 18, 18]⟩
abbrev S256x256x8x18 : Shape := ⟨4, ![256, 256, 8, 18]⟩
abbrev S256x256x1x8x18 : Shape := ⟨5, ![256, 256, 1, 8, 18]⟩
abbrev S256x256x4x8x18 : Shape := ⟨5, ![256, 256, 4, 8, 18]⟩
abbrev S256x256x4x8x8 : Shape := ⟨5, ![256, 256, 4, 8, 8]⟩
abbrev S256x256x4x1x8x8 : Shape := ⟨6, ![256, 256, 4, 1, 8, 8]⟩
abbrev S256x256x4x4x8x8 : Shape := ⟨6, ![256, 256, 4, 4, 8, 8]⟩
abbrev S256x256x16x8x8 : Shape := ⟨5, ![256, 256, 16, 8, 8]⟩
abbrev S256x256x16 : Shape := ⟨3, ![256, 256, 16]⟩
abbrev S256x256x8x8 : Shape := ⟨4, ![256, 256, 8, 8]⟩
abbrev S256x256x10x10 : Shape := ⟨4, ![256, 256, 10, 10]⟩
abbrev S256x256x8x10 : Shape := ⟨4, ![256, 256, 8, 10]⟩
abbrev S256x256x1x8x10 : Shape := ⟨5, ![256, 256, 1, 8, 10]⟩
abbrev S256x256x3x8x10 : Shape := ⟨5, ![256, 256, 3, 8, 10]⟩
abbrev S256x256x3x8x8 : Shape := ⟨5, ![256, 256, 3, 8, 8]⟩
abbrev S256x256x3x1x8x8 : Shape := ⟨6, ![256, 256, 3, 1, 8, 8]⟩
abbrev S256x256x3x3x8x8 : Shape := ⟨6, ![256, 256, 3, 3, 8, 8]⟩
abbrev S256x256x9x8x8 : Shape := ⟨5, ![256, 256, 9, 8, 8]⟩
abbrev S64x256x9 : Shape := ⟨3, ![64, 256, 9]⟩
abbrev S64x256x8x8 : Shape := ⟨4, ![64, 256, 8, 8]⟩
abbrev S256x64x8x8 : Shape := ⟨4, ![256, 64, 8, 8]⟩
abbrev S1x64x1x1 : Shape := ⟨4, ![1, 64, 1, 1]⟩
abbrev S256x8x8x64 : Shape := ⟨4, ![256, 8, 8, 64]⟩
abbrev S16384x64 : Shape := ⟨2, ![16384, 64]⟩
abbrev S16384 : Shape := ⟨1, ![16384]⟩
abbrev S16384x1 : Shape := ⟨2, ![16384, 1]⟩
abbrev S64x512 : Shape := ⟨2, ![64, 512]⟩
abbrev S16384x512 : Shape := ⟨2, ![16384, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S256x64x10x10 : Shape := ⟨4, ![256, 64, 10, 10]⟩
abbrev S256x64x8x10 : Shape := ⟨4, ![256, 64, 8, 10]⟩
abbrev S256x64x1x8x10 : Shape := ⟨5, ![256, 64, 1, 8, 10]⟩
abbrev S256x64x3x8x10 : Shape := ⟨5, ![256, 64, 3, 8, 10]⟩
abbrev S256x64x3x8x8 : Shape := ⟨5, ![256, 64, 3, 8, 8]⟩
abbrev S256x64x3x1x8x8 : Shape := ⟨6, ![256, 64, 3, 1, 8, 8]⟩
abbrev S256x64x3x3x8x8 : Shape := ⟨6, ![256, 64, 3, 3, 8, 8]⟩
abbrev S256x64x9x8x8 : Shape := ⟨5, ![256, 64, 9, 8, 8]⟩
abbrev S256x64x9 : Shape := ⟨3, ![256, 64, 9]⟩
abbrev S256x256x19x19 : Shape := ⟨4, ![256, 256, 19, 19]⟩
abbrev S256x256x16x19 : Shape := ⟨4, ![256, 256, 16, 19]⟩
abbrev S256x256x1x16x19 : Shape := ⟨5, ![256, 256, 1, 16, 19]⟩
abbrev S256x256x4x16x19 : Shape := ⟨5, ![256, 256, 4, 16, 19]⟩
abbrev S256x256x4x16x16 : Shape := ⟨5, ![256, 256, 4, 16, 16]⟩
abbrev S256x256x4x1x16x16 : Shape := ⟨6, ![256, 256, 4, 1, 16, 16]⟩
abbrev S256x256x4x4x16x16 : Shape := ⟨6, ![256, 256, 4, 4, 16, 16]⟩
abbrev S256x256x16x16x16 : Shape := ⟨5, ![256, 256, 16, 16, 16]⟩
abbrev S256x256x35x35 : Shape := ⟨4, ![256, 256, 35, 35]⟩
abbrev S256x256x32x35 : Shape := ⟨4, ![256, 256, 32, 35]⟩
abbrev S256x256x1x32x35 : Shape := ⟨5, ![256, 256, 1, 32, 35]⟩
abbrev S256x256x4x32x35 : Shape := ⟨5, ![256, 256, 4, 32, 35]⟩
abbrev S256x256x4x32x32 : Shape := ⟨5, ![256, 256, 4, 32, 32]⟩
abbrev S256x256x4x1x32x32 : Shape := ⟨6, ![256, 256, 4, 1, 32, 32]⟩
abbrev S256x256x4x4x32x32 : Shape := ⟨6, ![256, 256, 4, 4, 32, 32]⟩
abbrev S256x256x16x32x32 : Shape := ⟨5, ![256, 256, 16, 32, 32]⟩
abbrev S3x256x16 : Shape := ⟨3, ![3, 256, 16]⟩
abbrev S3x256x32x32 : Shape := ⟨4, ![3, 256, 32, 32]⟩
abbrev S1x3x1x1 : Shape := ⟨4, ![1, 3, 1, 1]⟩

abbrev nBuf : Space → Nat
  | .hbm => 231
  | .vmem => 0
  | .smem => 0
  | _ => 0

abbrev hbmTy0_0 (i : Nat) : BufTy := match i % 128 with
  | 0 => ⟨S256x3x32x32, .f32⟩
  | 1 => ⟨S512x64, .f32⟩
  | 2 => ⟨S256x3x4x4, .f32⟩
  | 3 => ⟨S256, .f32⟩
  | 4 => ⟨S256x256x4x4, .f32⟩
  | 5 => ⟨S256, .f32⟩
  | 6 => ⟨S64x256x3x3, .f32⟩
  | 7 => ⟨S64, .f32⟩
  | 8 => ⟨S256x64x3x3, .f32⟩
  | 9 => ⟨S256, .f32⟩
  | 10 => ⟨S256x256x4x4, .f32⟩
  | 11 => ⟨S256, .f32⟩
  | 12 => ⟨S3x256x4x4, .f32⟩
  | 13 => ⟨S3, .f32⟩
  | 14 => ⟨S_, .f32⟩
  | 15 => ⟨S256x3x34x34, .f32⟩
  | 16 => ⟨S256x3x16x34, .f32⟩
  | 17 => ⟨S256x3x16x34, .f32⟩
  | 18 => ⟨S256x3x16x34, .f32⟩
  | 19 => ⟨S256x3x16x34, .f32⟩
  | 20 => ⟨S256x3x1x16x34, .f32⟩
  | 21 => ⟨S256x3x1x16x34, .f32⟩
  | 22 => ⟨S256x3x1x16x34, .f32⟩
  | 23 => ⟨S256x3x1x16x34, .f32⟩
  | 24 => ⟨S256x3x4x16x34, .f32⟩
  | 25 => ⟨S256x3x4x16x16, .f32⟩
  | 26 => ⟨S256x3x4x16x16, .f32⟩
  | 27 => ⟨S256x3x4x16x16, .f32⟩
  | 28 => ⟨S256x3x4x16x16, .f32⟩
  | 29 => ⟨S256x3x4x1x16x16, .f32⟩
  | 30 => ⟨S256x3x4x1x16x16, .f32⟩
  | 31 => ⟨S256x3x4x1x16x16, .f32⟩
  | 32 => ⟨S256x3x4x1x16x16, .f32⟩
  | 33 => ⟨S256x3x4x4x16x16, .f32⟩
  | 34 => ⟨S256x3x16x16x16, .f32⟩
  | 35 => ⟨S256x3x16, .f32⟩
  | 36 => ⟨S256x256x16x16, .f32⟩
  | 37 => ⟨S256x256x16x16, .f32⟩
  | 38 => ⟨S1x256x1x1, .f32⟩
  | 39 => ⟨S256x256x16x16, .f32⟩
  | 40 => ⟨S256x256x16x16, .f32⟩
  | 41 => ⟨S_, .f32⟩
  | 42 => ⟨S256x256x16x16, .f32⟩
  | 43 => ⟨S256x256x16x16, .f32⟩
  | 44 => ⟨S_, .f32⟩
  | 45 => ⟨S256x256x18x18, .f32⟩
  | 46 => ⟨S256x256x8x18, .f32⟩
  | 47 => ⟨S256x256x8x18, .f32⟩
  | 48 => ⟨S256x256x8x18, .f32⟩
  | 49 => ⟨S256x256x8x18, .f32⟩
  | 50 => ⟨S256x256x1x8x18, .f32⟩
  | 51 => ⟨S256x256x1x8x18, .f32⟩
  | 52 => ⟨S256x256x1x8x18, .f32⟩
  | 53 => ⟨S256x256x1x8x18, .f32⟩
  | 54 => ⟨S256x256x4x8x18, .f32⟩
  | 55 => ⟨S256x256x4x8x8, .f32⟩
  | 56 => ⟨S256x256x4x8x8, .f32⟩
  | 57 => ⟨S256x256x4x8x8, .f32⟩
  | 58 => ⟨S256x256x4x8x8, .f32⟩
  | 59 => ⟨S256x256x4x1x8x8, .f32⟩
  | 60 => ⟨S256x256x4x1x8x8, .f32⟩
  | 61 => ⟨S256x256x4x1x8x8, .f32⟩
  | 62 => ⟨S256x256x4x1x8x8, .f32⟩
  | 63 => ⟨S256x256x4x4x8x8, .f32⟩
  | 64 => ⟨S256x256x16x8x8, .f32⟩
  | 65 => ⟨S256x256x16, .f32⟩
  | 66 => ⟨S256x256x8x8, .f32⟩
  | 67 => ⟨S256x256x8x8, .f32⟩
  | 68 => ⟨S1x256x1x1, .f32⟩
  | 69 => ⟨S256x256x8x8, .f32⟩
  | 70 => ⟨S256x256x8x8, .f32⟩
  | 71 => ⟨S_, .f32⟩
  | 72 => ⟨S256x256x8x8, .f32⟩
  | 73 => ⟨S256x256x8x8, .f32⟩
  | 74 => ⟨S_, .f32⟩
  | 75 => ⟨S256x256x10x10, .f32⟩
  | 76 => ⟨S256x256x8x10, .f32⟩
  | 77 => ⟨S256x256x8x10, .f32⟩
  | 78 => ⟨S256x256x8x10, .f32⟩
  | 79 => ⟨S256x256x1x8x10, .f32⟩
  | 80 => ⟨S256x256x1x8x10, .f32⟩
  | 81 => ⟨S256x256x1x8x10, .f32⟩
  | 82 => ⟨S256x256x3x8x10, .f32⟩
  | 83 => ⟨S256x256x3x8x8, .f32⟩
  | 84 => ⟨S256x256x3x8x8, .f32⟩
  | 85 => ⟨S256x256x3x8x8, .f32⟩
  | 86 => ⟨S256x256x3x1x8x8, .f32⟩
  | 87 => ⟨S256x256x3x1x8x8, .f32⟩
  | 88 => ⟨S256x256x3x1x8x8, .f32⟩
  | 89 => ⟨S256x256x3x3x8x8, .f32⟩
  | 90 => ⟨S256x256x9x8x8, .f32⟩
  | 91 => ⟨S64x256x9, .f32⟩
  | 92 => ⟨S64x256x8x8, .f32⟩
  | 93 => ⟨S256x64x8x8, .f32⟩
  | 94 => ⟨S1x64x1x1, .f32⟩
  | 95 => ⟨S256x64x8x8, .f32⟩
  | 96 => ⟨S256x64x8x8, .f32⟩
  | 97 => ⟨S256x8x8x64, .f32⟩
  | 98 => ⟨S16384x64, .f32⟩
  | 99 => ⟨S16384x64, .f32⟩
  | 100 => ⟨S_, .f32⟩
  | 101 => ⟨S16384, .f32⟩
  | 102 => ⟨S16384x1, .f32⟩
  | 103 => ⟨S64x512, .f32⟩
  | 104 => ⟨S16384x512, .f32⟩
  | 105 => ⟨S_, .f32⟩
  | 106 => ⟨S16384x512, .f32⟩
  | 107 => ⟨S16384x512, .f32⟩
  | 108 => ⟨S16384x512, .f32⟩
  | 109 => ⟨S16384x512, .f32⟩
  | 110 => ⟨S512x64, .f32⟩
  | 111 => ⟨S_, .f32⟩
  | 112 => ⟨S512, .f32⟩
  | 113 => ⟨S1x512, .f32⟩
  | 114 => ⟨S16384x512, .f32⟩
  | 115 => ⟨S16384x512, .f32⟩
  | 116 => ⟨S16384x512, .i32⟩
  | 117 => ⟨S_, .f32⟩
  | 118 => ⟨S_, .i32⟩
  | 119 => ⟨S16384, .f32⟩
  | 120 => ⟨S16384, .i32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S256x3x32x32, .f32⟩

abbrev hbmTy0_1 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x64, .f32⟩
  | 12 => ⟨S16384x64, .i1⟩
  | 13 => ⟨S_, .f32⟩
  | 14 => ⟨S16384x64, .f32⟩
  | 15 => ⟨S16384x64, .f32⟩
  | 16 => ⟨S256x8x8x64, .f32⟩
  | 17 => ⟨S256x8x8x64, .f32⟩
  | 18 => ⟨S256x8x8x64, .f32⟩
  | 19 => ⟨S256x64x8x8, .f32⟩
  | 20 => ⟨S_, .f32⟩
  | 21 => ⟨S256x64x10x10, .f32⟩
  | 22 => ⟨S256x64x8x10, .f32⟩
  | 23 => ⟨S256x64x8x10, .f32⟩
  | 24 => ⟨S256x64x8x10, .f32⟩
  | 25 => ⟨S256x64x1x8x10, .f32⟩
  | 26 => ⟨S256x64x1x8x10, .f32⟩
  | 27 => ⟨S256x64x1x8x10, .f32⟩
  | 28 => ⟨S256x64x3x8x10, .f32⟩
  | 29 => ⟨S256x64x3x8x8, .f32⟩
  | 30 => ⟨S256x64x3x8x8, .f32⟩
  | 31 => ⟨S256x64x3x8x8, .f32⟩
  | 32 => ⟨S256x64x3x1x8x8, .f32⟩
  | 33 => ⟨S256x64x3x1x8x8, .f32⟩
  | 34 => ⟨S256x64x3x1x8x8, .f32⟩
  | 35 => ⟨S256x64x3x3x8x8, .f32⟩
  | 36 => ⟨S256x64x9x8x8, .f32⟩
  | 37 => ⟨S256x64x9, .f32⟩
  | 38 => ⟨S256x256x8x8, .f32⟩
  | 39 => ⟨S256x256x8x8, .f32⟩
  | 40 => ⟨S1x256x1x1, .f32⟩
  | 41 => ⟨S256x256x8x8, .f32⟩
  | 42 => ⟨S256x256x8x8, .f32⟩
  | 43 => ⟨S_, .f32⟩
  | 44 => ⟨S256x256x8x8, .f32⟩
  | 45 => ⟨S256x256x8x8, .f32⟩
  | 46 => ⟨S_, .f32⟩
  | 47 => ⟨S256x256x19x19, .f32⟩
  | 48 => ⟨S256x256x16x19, .f32⟩
  | 49 => ⟨S256x256x16x19, .f32⟩
  | 50 => ⟨S256x256x16x19, .f32⟩
  | 51 => ⟨S256x256x16x19, .f32⟩
  | 52 => ⟨S256x256x1x16x19, .f32⟩
  | 53 => ⟨S256x256x1x16x19, .f32⟩
  | 54 => ⟨S256x256x1x16x19, .f32⟩
  | 55 => ⟨S256x256x1x16x19, .f32⟩
  | 56 => ⟨S256x256x4x16x19, .f32⟩
  | 57 => ⟨S256x256x4x16x16, .f32⟩
  | 58 => ⟨S256x256x4x16x16, .f32⟩
  | 59 => ⟨S256x256x4x16x16, .f32⟩
  | 60 => ⟨S256x256x4x16x16, .f32⟩
  | 61 => ⟨S256x256x4x1x16x16, .f32⟩
  | 62 => ⟨S256x256x4x1x16x16, .f32⟩
  | 63 => ⟨S256x256x4x1x16x16, .f32⟩
  | 64 => ⟨S256x256x4x1x16x16, .f32⟩
  | 65 => ⟨S256x256x4x4x16x16, .f32⟩
  | 66 => ⟨S256x256x16x16x16, .f32⟩
  | 67 => ⟨S256x256x16, .f32⟩
  | 68 => ⟨S256x256x16x16, .f32⟩
  | 69 => ⟨S256x256x16x16, .f32⟩
  | 70 => ⟨S1x256x1x1, .f32⟩
  | 71 => ⟨S256x256x16x16, .f32⟩
  | 72 => ⟨S256x256x16x16, .f32⟩
  | 73 => ⟨S_, .f32⟩
  | 74 => ⟨S256x256x16x16, .f32⟩
  | 75 => ⟨S256x256x16x16, .f32⟩
  | 76 => ⟨S_, .f32⟩
  | 77 => ⟨S256x256x35x35, .f32⟩
  | 78 => ⟨S256x256x32x35, .f32⟩
  | 79 => ⟨S256x256x32x35, .f32⟩
  | 80 => ⟨S256x256x32x35, .f32⟩
  | 81 => ⟨S256x256x32x35, .f32⟩
  | 82 => ⟨S256x256x1x32x35, .f32⟩
  | 83 => ⟨S256x256x1x32x35, .f32⟩
  | 84 => ⟨S256x256x1x32x35, .f32⟩
  | 85 => ⟨S256x256x1x32x35, .f32⟩
  | 86 => ⟨S256x256x4x32x35, .f32⟩
  | 87 => ⟨S256x256x4x32x32, .f32⟩
  | 88 => ⟨S256x256x4x32x32, .f32⟩
  | 89 => ⟨S256x256x4x32x32, .f32⟩
  | 90 => ⟨S256x256x4x32x32, .f32⟩
  | 91 => ⟨S256x256x4x1x32x32, .f32⟩
  | 92 => ⟨S256x256x4x1x32x32, .f32⟩
  | 93 => ⟨S256x256x4x1x32x32, .f32⟩
  | 94 => ⟨S256x256x4x1x32x32, .f32⟩
  | 95 => ⟨S256x256x4x4x32x32, .f32⟩
  | 96 => ⟨S256x256x16x32x32, .f32⟩
  | 97 => ⟨S3x256x16, .f32⟩
  | 98 => ⟨S3x256x32x32, .f32⟩
  | 99 => ⟨S256x3x32x32, .f32⟩
  | 100 => ⟨S1x3x1x1, .f32⟩
  | 101 => ⟨S256x3x32x32, .f32⟩
  | 102 => ⟨S256x3x32x32, .f32⟩
  | _ => ⟨S256x3x32x32, .f32⟩

abbrev hbmTy (i : Nat) : BufTy := match i / 128 with
  | 0 => hbmTy0_0 i
  | 1 => hbmTy0_1 i
  | _ => ⟨S256x3x32x32, .f32⟩

abbrev bufTy : (tb : Table) → Fin (tcTables nBuf tb) → BufTy
  | .hbm, ⟨i, _⟩ => hbmTy i
  | _, _ => ⟨S256x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_cst : Ref sig .tc := ⟨.hbm, 71, rfl⟩
abbrev main_call1_v0 : Ref sig .tc := ⟨.hbm, 72, rfl⟩
abbrev main_v53 : Ref sig .tc := ⟨.hbm, 73, rfl⟩
abbrev main_cst_1 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_2 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_3 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_4 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_call2_v0 : Ref sig .tc := ⟨.hbm, 116, rfl⟩
abbrev main_call2_cst : Ref sig .tc := ⟨.hbm, 117, rfl⟩
abbrev main_call2_c : Ref sig .tc := ⟨.hbm, 118, rfl⟩
abbrev main_call2_v1_0 : Ref sig .tc := ⟨.hbm, 119, rfl⟩
abbrev main_v92 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_5 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_call4_cst : Ref sig .tc := ⟨.hbm, 171, rfl⟩
abbrev main_call4_v0 : Ref sig .tc := ⟨.hbm, 172, rfl⟩
abbrev main_v120 : Ref sig .tc := ⟨.hbm, 173, rfl⟩
abbrev main_cst_6 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_call5_cst : Ref sig .tc := ⟨.hbm, 201, rfl⟩
abbrev main_call5_v0 : Ref sig .tc := ⟨.hbm, 202, rfl⟩
abbrev main_v147 : Ref sig .tc := ⟨.hbm, 203, rfl⟩
abbrev main_cst_7 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩

abbrev nD : Nat := 1
abbrev τ : Topo := Topo.v7x

variable {F : FTy → Type} [FloatOps F]
-- ==== Proof.Spec.lean ====
/- The mathematics both programs are compared by: arrays read at natural-number coordinates (zero outside
   the array), the zero margins of a padded plane, and the correlation sum of a convolution. -/
module

public import Idealize.ShloMosaic.Lib.Pointwise

@[expose] public section

noncomputable section

namespace Cert.Conv

open Idealize.ShloMosaic

/-- A rank-1 array at a natural-number coordinate, zero outside. -/
def at1 {A : ℕ} (a : Shape.Idx ⟨1, ![A]⟩ → EReal) (i : ℕ) : EReal :=
  if h : i < A then a (ix1 ⟨i, h⟩) else 0

/-- A rank-2 array at natural-number coordinates, zero outside. -/
def at2 {A B : ℕ} (a : Shape.Idx ⟨2, ![A, B]⟩ → EReal) (i j : ℕ) : EReal :=
  if h : i < A ∧ j < B then a (ix2 ⟨i, h.1⟩ ⟨j, h.2⟩) else 0

/-- A rank-3 array at natural-number coordinates, zero outside. -/
def at3 {A B C : ℕ} (a : Shape.Idx ⟨3, ![A, B, C]⟩ → EReal) (i j k : ℕ) : EReal :=
  if h : i < A ∧ j < B ∧ k < C then a (ix3 ⟨i, h.1⟩ ⟨j, h.2.1⟩ ⟨k, h.2.2⟩) else 0

/-- A rank-4 array at natural-number coordinates, zero outside. -/
def at4 {A B C D : ℕ} (a : Shape.Idx ⟨4, ![A, B, C, D]⟩ → EReal) (i j k l : ℕ) : EReal :=
  if h : i < A ∧ j < B ∧ k < C ∧ l < D then a (ix4 ⟨i, h.1⟩ ⟨j, h.2.1⟩ ⟨k, h.2.2.1⟩ ⟨l, h.2.2.2⟩) else 0

/-- A rank-5 array at natural-number coordinates, zero outside. -/
def at5 {A B C D E : ℕ} (a : Shape.Idx ⟨5, ![A, B, C, D, E]⟩ → EReal) (i j k l n : ℕ) : EReal :=
  if h : i < A ∧ j < B ∧ k < C ∧ l < D ∧ n < E then
    a (ix5 ⟨i, h.1⟩ ⟨j, h.2.1⟩ ⟨k, h.2.2.1⟩ ⟨l, h.2.2.2.1⟩ ⟨n, h.2.2.2.2⟩) else 0

/-- The reading at the coordinates of an index is the array there. -/
theorem at1_ix {A : ℕ} (a : Shape.Idx ⟨1, ![A]⟩ → EReal) (i : Fin A) : a (ix1 i) = at1 a i := by
  rw [at1, dif_pos i.isLt]

/-- The reading at the coordinates of an index is the array there. -/
theorem at2_ix {A B : ℕ} (a : Shape.Idx ⟨2, ![A, B]⟩ → EReal) (i : Fin A) (j : Fin B) :
    a (ix2 i j) = at2 a i j := by
  rw [at2, dif_pos ⟨i.isLt, j.isLt⟩]

/-- The reading at the coordinates of an index is the array there. -/
theorem at3_ix {A B C : ℕ} (a : Shape.Idx ⟨3, ![A, B, C]⟩ → EReal) (i : Fin A) (j : Fin B) (k : Fin C) :
    a (ix3 i j k) = at3 a i j k := by
  rw [at3, dif_pos ⟨i.isLt, j.isLt, k.isLt⟩]

/-- The reading at the coordinates of an index is the array there. -/
theorem at4_ix {A B C D : ℕ} (a : Shape.Idx ⟨4, ![A, B, C, D]⟩ → EReal) (i : Fin A) (j : Fin B) (k : Fin C)
    (l : Fin D) : a (ix4 i j k l) = at4 a i j k l := by
  rw [at4, dif_pos ⟨i.isLt, j.isLt, k.isLt, l.isLt⟩]

/-- The reading at the coordinates of an index is the array there. -/
theorem at5_ix {A B C D E : ℕ} (a : Shape.Idx ⟨5, ![A, B, C, D, E]⟩ → EReal) (i : Fin A) (j : Fin B) (k : Fin C)
    (l : Fin D) (n : Fin E) : a (ix5 i j k l n) = at5 a i j k l n := by
  rw [at5, dif_pos ⟨i.isLt, j.isLt, k.isLt, l.isLt, n.isLt⟩]

/-- Readings at equal coordinates are equal. -/
theorem at4_congr {A B C D : ℕ} {a : Shape.Idx ⟨4, ![A, B, C, D]⟩ → EReal} {i j k l i' j' k' l' : ℕ}
    (hi : i = i') (hj : j = j') (hk : k = k') (hl : l = l') : at4 a i j k l = at4 a i' j' k' l' := by
  rw [hi, hj, hk, hl]

/-- Readings at equal coordinates are equal. -/
theorem at5_congr {A B C D E : ℕ} {a : Shape.Idx ⟨5, ![A, B, C, D, E]⟩ → EReal}
    {i j k l n i' j' k' l' n' : ℕ} (hi : i = i') (hj : j = j') (hk : k = k') (hl : l = l') (hn : n = n') :
    at5 a i j k l n = at5 a i' j' k' l' n' := by
  rw [hi, hj, hk, hl, hn]

/-- Two rectified contractions with equal left factors are equal. -/
theorem relu_sum_congr {n : ℕ} {f g h : Fin n → EReal} {b : EReal} (e : ∀ k, f k = g k) :
    max ((∑ k, f k * h k) + b) 0 = max ((∑ k, g k * h k) + b) 0 := by
  rw [funext e]

/-- Two contractions with equal left factors and offsets are equal. -/
theorem sum_mul_congr {n : ℕ} {f g h : Fin n → EReal} {b b' : EReal} (e : ∀ k, f k = g k) (eb : b = b') :
    (∑ k, f k * h k) + b = (∑ k, g k * h k) + b' := by
  rw [funext e, eb]

/-- A case distinction whose two cases have one value has that value. -/
theorem dite_eq_of {p : Prop} {_ : Decidable p} {a : p → EReal} {b : ¬p → EReal} {v : EReal} (ha : ∀ h, a h = v)
    (hb : ∀ h, b h = v) : dite p a b = v := by
  split
  · exact ha _
  · exact hb _

/-- A plane with a margin of one zero before the first row and column. -/
def padBy (f : ℕ → ℕ → EReal) (Y X : ℕ) : EReal :=
  if 1 ≤ Y ∧ 1 ≤ X then f (Y - 1) (X - 1) else 0

/-- A plane spread with a zero between neighbours, behind a margin of two zeros. -/
def dilBy (f : ℕ → ℕ → EReal) (Y X : ℕ) : EReal :=
  if (2 ≤ Y ∧ (Y - 2) % 2 = 0) ∧ 2 ≤ X ∧ (X - 2) % 2 = 0 then f ((Y - 2) / 2) ((X - 2) / 2) else 0

/-- The correlation of the planes `p` of `C` channels with square kernels `w` of side `K`, at stride `s`: the
    window positions run row by row. -/
def corr (C K s : ℕ) (p : ℕ → ℕ → ℕ → EReal) (w : ℕ → ℕ → ℕ → EReal) (y x : ℕ) : EReal :=
  ∑ c ∈ Finset.range C, ∑ t ∈ Finset.range (K * K), w c (t / K) (t % K) * p c (s * y + t / K) (s * x + t % K)

/-- The correlation with the window positions outermost. -/
theorem corr_comm (C K s : ℕ) (p : ℕ → ℕ → ℕ → EReal) (w : ℕ → ℕ → ℕ → EReal) (y x : ℕ) :
    corr C K s p w y x = ∑ t ∈ Finset.range (K * K), ∑ c ∈ Finset.range C,
      w c (t / K) (t % K) * p c (s * y + t / K) (s * x + t % K) :=
  Finset.sum_comm

/-- Correlations of planes and kernels that agree channel by channel are equal. -/
theorem corr_congr {C K s : ℕ} {p p' : ℕ → ℕ → ℕ → EReal} {w w' : ℕ → ℕ → ℕ → EReal} {y x : ℕ}
    (hp : ∀ c < C, ∀ Y X, p c Y X = p' c Y X) (hw : ∀ c < C, ∀ Y X, w c Y X = w' c Y X) :
    corr C K s p w y x = corr C K s p' w' y x := by
  refine Finset.sum_congr rfl fun c hc => Finset.sum_congr rfl fun t _ => ?_
  rw [hp c (Finset.mem_range.mp hc), hw c (Finset.mem_range.mp hc)]

/-- A sum over `m * n` numbers, in `m` runs of `n`. -/
theorem sum_runs (m n : ℕ) (f : ℕ → EReal) :
    ∑ k ∈ Finset.range (m * n), f k = ∑ i ∈ Finset.range m, ∑ j ∈ Finset.range n, f (i * n + j) := by
  induction m with
  | zero => simp
  | succ m ih => rw [Nat.succ_mul, Finset.sum_range_add, ih, Finset.sum_range_succ]

end Cert.Conv

end
-- ==== Proof.Val.Host.lean ====
/- The contents before each launch, and readings at equal coordinates. -/
module

public import proofs.«01_k».proof.Proof.Gen.KernelIdeal.Frame
public import proofs.«01_k».proof.Proof.Spec
public import Idealize.ShloMosaic.Lib.IdealHost

@[expose] public section

noncomputable section

namespace Cert.Conv

open Idealize.ShloMosaic

/-- Readings at equal coordinates are equal. -/
theorem at1_congr {A : ℕ} {a : Shape.Idx ⟨1, ![A]⟩ → EReal} {i i' : ℕ} (hi : i = i') : at1 a i = at1 a i' := by
  rw [hi]

/-- Readings at equal coordinates are equal. -/
theorem at2_congr {A B : ℕ} {a : Shape.Idx ⟨2, ![A, B]⟩ → EReal} {i j i' j' : ℕ} (hi : i = i') (hj : j = j') :
    at2 a i j = at2 a i' j' := by
  rw [hi, hj]

/-- Readings at equal coordinates are equal. -/
theorem at3_congr {A B C : ℕ} {a : Shape.Idx ⟨3, ![A, B, C]⟩ → EReal} {i j k i' j' k' : ℕ} (hi : i = i') (hj : j = j')
    (hk : k = k') : at3 a i j k = at3 a i' j' k' := by
  rw [hi, hj, hk]

/-- The margin's value, the integer zero turned into a number, is zero. -/
theorem margin_zero : (FloatOps.sitofp .f32 (0#32) : Ideal .f32) = (0 : EReal) := by
  show (((0#32 : BitVec 32).toInt : ℝ) : EReal) = 0
  simp

/-- A plane kept with its columns' channels side by side. -/
def wide (Z : Shape.Idx ⟨3, ![256, 16, 4096]⟩ → EReal) (b c Y X : ℕ) : EReal :=
  if X < 16 then at3 Z b Y (X * 256 + c) else 0

/-- A plane kept with its places as the rows of a matrix. -/
def tall (Z : Shape.Idx ⟨2, ![16384, 64]⟩ → EReal) (b c Y X : ℕ) : EReal :=
  if Y < 8 ∧ X < 8 then at2 Z (b * 64 + Y * 8 + X) c else 0

/-- A plane kept with the parities of its rows and columns apart. -/
def woven (Z : Shape.Idx ⟨4, ![256, 4, 64, 256]⟩ → EReal) (b c Y X : ℕ) : EReal :=
  if Y < 16 ∧ X < 16 then at4 Z b (Y % 2 * 2 + X % 2) (Y / 2 * 8 + X / 2) c else 0

/-- The padded plane inside the margin. -/
theorem padBy_wide {Z : Shape.Idx ⟨3, ![256, 16, 4096]⟩ → EReal} {b c Y X Y' X' : ℕ} (eY : Y' = Y) (eX : X' = X)
    (h : (1 ≤ Y' ∧ Y' - 1 < 16) ∧ 1 ≤ X' ∧ X' - 1 < 16) :
    at3 Z b (Y' - 1) ((X' - 1) * 256 + c) = padBy (wide Z b c) Y X := by
  subst eY eX
  rw [padBy, if_pos (by omega), wide, if_pos (by omega)]

/-- The padded plane in the margin. -/
theorem padBy_wide_out {Z : Shape.Idx ⟨3, ![256, 16, 4096]⟩ → EReal} {b c Y X Y' X' : ℕ} (eY : Y' = Y) (eX : X' = X)
    (h : ¬((1 ≤ Y' ∧ Y' - 1 < 16) ∧ 1 ≤ X' ∧ X' - 1 < 16)) : 0 = padBy (wide Z b c) Y X := by
  subst eY eX
  unfold padBy
  split_ifs
  · unfold wide
    split_ifs
    · rw [at3, dif_neg (by omega)]
    · rfl
  · rfl

/-- The padded plane inside the margin. -/
theorem padBy_tall {Z : Shape.Idx ⟨2, ![16384, 64]⟩ → EReal} {b c Y X : ℕ}
    (h : (1 ≤ Y ∧ Y - 1 < 8) ∧ 1 ≤ X ∧ X - 1 < 8) :
    at2 Z (b * 64 + (Y - 1) * 8 + (X - 1)) c = padBy (tall Z b c) Y X := by
  rw [padBy, if_pos (by omega), tall, if_pos (by omega)]

/-- The padded plane in the margin. -/
theorem padBy_tall_out {Z : Shape.Idx ⟨2, ![16384, 64]⟩ → EReal} {b c Y X : ℕ}
    (h : ¬((1 ≤ Y ∧ Y - 1 < 8) ∧ 1 ≤ X ∧ X - 1 < 8)) : 0 = padBy (tall Z b c) Y X := by
  unfold padBy
  split_ifs
  · rw [tall, if_neg (by omega)]
  · rfl

/-- The word of the number one. -/
theorem one_bits : (Ideal.ofBits .f32 1065353216#32 : EReal) = 1 := Ideal.ofBits_one_f32

/-- The word of the number zero. -/
theorem zero_bits : (Ideal.ofBits .f32 0#32 : EReal) = 0 := by
  norm_num [Ideal.ofBits, Ideal.ieee]

end Cert.Conv

namespace Cert.KernelIdeal.Val

open Cert.KernelIdeal Cert.KernelIdeal.Gen Idealize.ShloMosaic Idealize.ShloMosaic.TcCoe Idealize.SL.Sem Idealize.ShloMosaic.StableHlo

/-- The contents before the first launch. -/
abbrev pre0 (V : Valuation τ sig (Elt Ideal)) := after hostOps0_2 (after hostOps0_1 (after hostOps0 V))
/-- The contents before the second launch. -/
abbrev pre1 (V : Valuation τ sig (Elt Ideal)) := after hostOps1_2 (after hostOps1_1 (after hostOps1 V))
/-- The contents before the third launch. -/
abbrev pre2 (V : Valuation τ sig (Elt Ideal)) := after hostOps2_2 (after hostOps2_1 (after hostOps2 V))
/-- The contents before the fifth launch. -/
abbrev pre4 (V : Valuation τ sig (Elt Ideal)) := after hostOps4_2 (after hostOps4_1 (after hostOps4 V))
/-- The contents before the sixth launch. -/
abbrev pre5 (V : Valuation τ sig (Elt Ideal)) := after hostOps5_2 (after hostOps5_1 (after hostOps5 V))

end Cert.KernelIdeal.Val

end
-- ==== Proof.Val.Reg3.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk3_0 (t) (i : Fin 2048) (j : Fin 64) :
    iblk3 V c 0 t (ix2 i j) = at2 (A := 16384) (V c main_v28) (t * 2048 + i) j := by
  have idx : ∀ t, win3_0.index t = ![t.val, 0] := by decide +kernel
  have ht : t.val < 8 := t.isLt
  rw [at2, dif_pos (by omega)]
  blk_ext [iblk3, idx t]

/-- Operand 1's block at a grid point, read in the operand's array. -/
theorem iblk3_1 (t) (i : Fin 64) (j : Fin 512) :
    iblk3 V c 1 t (ix2 i j) = at2 (A := 64) (V c main_v29) i j := by
  have idx : ∀ t, win3_1.index t = ![0, 0] := by decide +kernel
  rw [at2, dif_pos (by omega)]
  blk_ext [iblk3, idx t]

/-- Operand 2's block at a grid point, read in the operand's array. -/
theorem iblk3_2 (t) (i : Fin 1) (j : Fin 512) :
    iblk3 V c 2 t (ix2 i j) = at2 (A := 1) (V c main_v32) i j := by
  have idx : ∀ t, win3_2.index t = ![0, 0] := by decide +kernel
  rw [at2, dif_pos (by omega)]
  blk_ext [iblk3, idx t]

/-- Operand 3's block at a grid point, read in the operand's array. -/
theorem iblk3_3 (t) (i : Fin 512) (j : Fin 64) :
    iblk3 V c 3 t (ix2 i j) = at2 (A := 512) (V c main_arg1) i j := by
  have idx : ∀ t, win3_3.index t = ![0, 0] := by decide +kernel
  rw [at2, dif_pos (by omega)]
  blk_ext [iblk3, idx t]

/-- The distance, less what is the same for all codes, of row `i` from code `x`, with the codes' squared lengths given. -/
def score {A : ℕ} (X : Shape.Idx ⟨2, ![A, 64]⟩ → EReal) (T : Shape.Idx ⟨2, ![64, 512]⟩ → EReal)
    (N : Shape.Idx ⟨2, ![1, 512]⟩ → EReal) (i : ℕ) (x : Fin 512) : EReal :=
  (∑ k : Fin 64, at2 X i k * at2 X i k) + at2 N 0 x -
    Ideal.ofBits .f32 1073741824#32 * ∑ k : Fin 64, at2 X i k * at2 T k x

/-- The word launch 3 picks from the scores: the least of the codes whose score is the least. -/
def pickWord (s : Fin 512 → EReal) : BitVec 32 :=
  Finset.fold IntOp.minsi 2147483647#32 (fun x : Fin 512 =>
    if s x ≤ Finset.fold min (Ideal.ofBits .f32 2139095040#32) s Finset.univ then BitVec.ofNat 32 x else 512#32)
    Finset.univ

/-- What launch 3 computes from its operands. The nearest code. -/
def G3 (X : Shape.Idx ⟨2, ![16384, 64]⟩ → EReal) (T : Shape.Idx ⟨2, ![64, 512]⟩ → EReal) (N : Shape.Idx ⟨2, ![1, 512]⟩ → EReal) (C : Shape.Idx ⟨2, ![512, 64]⟩ → EReal)
    (i : Shape.Idx ⟨2, ![16384, 64]⟩) : EReal :=
  ∑ x : Fin 512, FloatOps.sitofp (F := Ideal) FTy.f32 (BitVec.setWidth 32 (IntOp.cmpi CmpIPredicate.eq (BitVec.ofNat 32 x)
    (pickWord (score X T N (i 0))))) * at2 C x (i 1)

/-- The result array of launch 3, over every grid point. -/
theorem reg3 : (dat3 V c).arrAt 4 cfg3.N = G3 (V c main_v28) (V c main_v29) (V c main_v32) (V c main_arg1) := by
  have idx : ∀ t, win3_4.index t = ![t.val, 0] := by decide +kernel
  refine (dat3 V c).arrAt_eq_of_covers 4 _ (by decide +kernel) fun t hf y => ?_
  blk_simp
  rw [after3_4]
  unfold out3_4
  idx_vars y
  frame_out
  pointwise [k3_pay1]
  simp only [iblk3_0, iblk3_1, iblk3_2, iblk3_3, G3, pickWord, score]
  blk_simp [idx t]
  rfl

end Cert.KernelIdeal.Val

end
-- ==== Proof.Pick.lean ====
/- The nearest code: the first index at which a row of scores is least, as the kernel finds it (a minimum, then the
   least index attaining it, then a one-hot row) and as an arg-min does (a fold of pairs). -/
module

public import proofs.«01_k».proof.ReferenceIdeal
public import proofs.«01_k».proof.Proof.Val.Reg3
public import Idealize.ShloMosaic.PureOps.Ideal.Laws

@[expose] public section

set_option maxRecDepth 16384

noncomputable section

namespace Cert.Conv

open Idealize.ShloMosaic Cert.KernelIdeal.Val

/-- `k` is the first index at which `s` is least. -/
def IsFirst {n : ℕ} (s : Fin n → EReal) (k : Fin n) : Prop :=
  (∀ j, s k ≤ s j) ∧ ∀ j < k, s k < s j

/-- A row of scores has a first least index. -/
theorem exists_isFirst {n : ℕ} (s : Fin (n + 1) → EReal) : ∃ k, IsFirst s k := by
  classical
  obtain ⟨m, _, hm⟩ := Finset.exists_min_image Finset.univ s Finset.univ_nonempty
  obtain ⟨k, hk, hmin⟩ := Finset.exists_min_image (Finset.univ.filter fun k => ∀ j, s k ≤ s j) id
    ⟨m, by simpa using fun j => hm j (Finset.mem_univ j)⟩
  have hk' : ∀ j, s k ≤ s j := by simpa using hk
  refine ⟨k, hk', fun j hj => lt_of_not_ge fun h => ?_⟩
  have := hmin j (by simpa using fun i => h.trans (hk' i))
  exact absurd (lt_of_lt_of_le hj this) (lt_irrefl _)

/-- Scores that agree have the same first least index. -/
theorem IsFirst.congr {n : ℕ} {s s' : Fin n → EReal} {k : Fin n} (h : IsFirst s k) (e : ∀ j, s j = s' j) :
    IsFirst s' k := by
  obtain rfl : s = s' := funext e
  exact h

/-- A small word read as a signed number. -/
theorem toInt_small (x : ℕ) (h : x < 1024) : (BitVec.ofNat 32 x).toInt = x := by
  rw [BitVec.toInt_eq_toNat_of_lt, BitVec.toNat_ofNat, Nat.mod_eq_of_lt (by omega)]
  rw [BitVec.toNat_ofNat, Nat.mod_eq_of_lt (by omega)]
  omega

/-- The signed minimum of two words is the minimum of the numbers they stand for. -/
theorem toInt_minsi (a b : BitVec 32) : (IntOp.minsi a b).toInt = min a.toInt b.toInt := by
  unfold IntOp.minsi
  simp only [BitVec.slt, BitVec.sle, min_def]
  split_ifs <;> simp_all <;> omega

/-- The kernel's word is the first least index. -/
theorem pickWord_eq {s : Fin 512 → EReal} {k : Fin 512} (h : IsFirst s k) :
    pickWord s = BitVec.ofNat 32 k := by
  have htop : Ideal.ofBits .f32 2139095040#32 = ⊤ := by simp [Ideal.ofBits, Ideal.ieee]
  have hle : ∀ x : Fin 512, s x ≤ Finset.fold min (Ideal.ofBits .f32 2139095040#32) s Finset.univ ↔
      ∀ y, s x ≤ s y := fun x => by
    rw [Finset.le_fold_min, htop]
    simp
  apply BitVec.toInt_inj.mp
  unfold pickWord
  rw [← Finset.fold_hom (op' := min) (m := BitVec.toInt) toInt_minsi, toInt_small k (by omega)]
  apply le_antisymm
  · rw [Finset.fold_min_le]
    refine Or.inr ⟨k, Finset.mem_univ k, ?_⟩
    rw [if_pos ((hle k).mpr h.1), toInt_small k (by omega)]
  · rw [Finset.le_fold_min]
    refine ⟨?_, fun x _ => ?_⟩
    · have : (2147483647#32 : BitVec 32).toInt = 2147483647 := by decide
      rw [this]
      omega
    · split_ifs with hx
      · rw [toInt_small x (by omega)]
        have : ¬ x < k := fun hl => absurd ((hle x).mp hx k) (not_le.mpr (h.2 x hl))
        have := not_lt.mp this
        exact_mod_cast this
      · have : (512#32 : BitVec 32).toInt = 512 := by decide
        rw [this]
        omega

/-- The one-hot row of a small word, times a column, is the column at that index. -/
theorem onehot_sum (k : Fin 512) (f : Fin 512 → EReal) :
    ∑ x : Fin 512, FloatOps.sitofp (F := Ideal) FTy.f32
      (BitVec.setWidth 32 (IntOp.cmpi CmpIPredicate.eq (BitVec.ofNat 32 x) (BitVec.ofNat 32 k))) * f x = f k := by
  rw [Finset.sum_eq_single k]
  · have : FloatOps.sitofp (F := Ideal) FTy.f32
        (BitVec.setWidth 32 (IntOp.cmpi CmpIPredicate.eq (BitVec.ofNat 32 k) (BitVec.ofNat 32 k))) = (1 : EReal) := by
      simp [IntOp.cmpi, FloatOps.sitofp]
    rw [this, one_mul]
  · intro x _ hx
    have hne : BitVec.ofNat 32 x ≠ BitVec.ofNat 32 k := fun e => hx (by
      have := congrArg BitVec.toInt e
      rw [toInt_small _ (by omega), toInt_small _ (by omega)] at this
      exact Fin.ext (by exact_mod_cast this))
    have : FloatOps.sitofp (F := Ideal) FTy.f32
        (BitVec.setWidth 32 (IntOp.cmpi CmpIPredicate.eq (BitVec.ofNat 32 x) (BitVec.ofNat 32 k))) = (0 : EReal) := by
      rw [show IntOp.cmpi CmpIPredicate.eq (BitVec.ofNat 32 x) (BitVec.ofNat 32 k) = 0#1 by
        simp only [IntOp.cmpi, beq_eq_false_iff_ne.mpr hne, BitVec.ofBool_false]; rfl]
      simp [FloatOps.sitofp]
    rw [this, zero_mul]
  · exact fun h => absurd (Finset.mem_univ k) h

/-- One value-index pair comes before another: the smaller value, at equal values the smaller index. -/
def Before (a b : EReal × BitVec 32) : Prop :=
  a.1 < b.1 ∨ a.1 = b.1 ∧ a.2.toInt ≤ b.2.toInt

/-- A pair comes before itself. -/
theorem before_refl (a : EReal × BitVec 32) : Before a a := Or.inr ⟨rfl, le_refl _⟩

/-- The order of pairs is transitive. -/
theorem Before.trans {a b c : EReal × BitVec 32} (h : Before a b) (h' : Before b c) : Before a c := by
  rcases h with h | ⟨h, h1⟩ <;> rcases h' with h' | ⟨h', h1'⟩
  · exact Or.inl (h.trans h')
  · exact Or.inl (h' ▸ h)
  · exact Or.inl (h ▸ h')
  · exact Or.inr ⟨h.trans h', h1.trans h1'⟩

/-- The arg-min's step keeps the earlier of the two pairs. -/
theorem reducer_step (a b : EReal × BitVec 32) :
    (Cert.ReferenceIdeal.reducer_argmin_f32_i32 (F := Ideal) a b = a ∧ Before a b) ∨
    (Cert.ReferenceIdeal.reducer_argmin_f32_i32 (F := Ideal) a b = b ∧ Before b a) := by
  obtain ⟨a1, a2⟩ := a
  obtain ⟨b1, b2⟩ := b
  rcases lt_trichotomy a1 b1 with h | h | h
  · left
    constructor
    · simp [Cert.ReferenceIdeal.reducer_argmin_f32_i32, Ideal.cmpf_def, Ideal.cmp, h, h.ne, IntOp.ori, IntOp.andi,
        Scalar.select]
    · exact Or.inl h
  · subst h
    by_cases h2 : a2.toInt < b2.toInt
    · left
      constructor
      · simp [Cert.ReferenceIdeal.reducer_argmin_f32_i32, Ideal.cmpf_def, Ideal.cmp, IntOp.ori, IntOp.andi,
          Scalar.select, IntOp.cmpi, BitVec.slt, h2]
      · exact Or.inr ⟨rfl, h2.le⟩
    · right
      constructor
      · simp [Cert.ReferenceIdeal.reducer_argmin_f32_i32, Ideal.cmpf_def, Ideal.cmp, IntOp.ori, IntOp.andi,
          Scalar.select, IntOp.cmpi, BitVec.slt, h2]
      · exact Or.inr ⟨rfl, not_lt.mp h2⟩
  · right
    constructor
    · simp [Cert.ReferenceIdeal.reducer_argmin_f32_i32, Ideal.cmpf_def, Ideal.cmp, h.not_gt, h.ne', IntOp.ori,
        IntOp.andi, Scalar.select]
    · exact Or.inl h

/-- The arg-min's fold over a list ends at a pair of the list, or the first one, that comes before all. -/
theorem foldl_before (L : List (EReal × BitVec 32)) (p : EReal × BitVec 32) :
    (L.foldl (Cert.ReferenceIdeal.reducer_argmin_f32_i32 (F := Ideal)) p ∈ p :: L) ∧
      ∀ q ∈ p :: L, Before (L.foldl (Cert.ReferenceIdeal.reducer_argmin_f32_i32 (F := Ideal)) p) q := by
  induction L generalizing p with
  | nil => exact ⟨by simp, fun q hq => by simp at hq; subst hq; exact before_refl _⟩
  | cons r L ih =>
    rw [List.foldl_cons]
    rcases reducer_step p r with ⟨e, hb⟩ | ⟨e, hb⟩ <;> rw [e]
    · obtain ⟨hm, hall⟩ := ih p
      refine ⟨?_, fun q hq => ?_⟩
      · rcases List.mem_cons.mp hm with h | h
        · rw [h]; simp
        · exact List.mem_cons_of_mem _ (List.mem_cons_of_mem _ h)
      · rcases List.mem_cons.mp hq with rfl | hq
        · exact hall _ (by simp)
        · rcases List.mem_cons.mp hq with rfl | hq
          · exact (hall p (by simp)).trans hb
          · exact hall q (List.mem_cons_of_mem _ hq)
    · obtain ⟨hm, hall⟩ := ih r
      refine ⟨List.mem_cons_of_mem _ hm, fun q hq => ?_⟩
      rcases List.mem_cons.mp hq with rfl | hq
      · exact (hall r (by simp)).trans hb
      · exact hall q hq

/-- The index of the arg-min's fold, from infinity and index zero, over a list of the pairs of a score row, is the
    first least index. -/
theorem foldl_argmin {s : Fin 512 → EReal} {k : Fin 512} (h : IsFirst s k) (L : List (EReal × BitVec 32))
    (hL : ∀ p, p ∈ L ↔ ∃ x : Fin 512, p = (s x, BitVec.ofNat 32 x)) :
    (L.foldl (Cert.ReferenceIdeal.reducer_argmin_f32_i32 (F := Ideal)) (⊤, 0#32)).2 = BitVec.ofNat 32 k := by
  obtain ⟨hm, hall⟩ := foldl_before L (⊤, 0#32)
  have hk := hall _ (List.mem_cons_of_mem _ ((hL _).mpr ⟨k, rfl⟩))
  rcases List.mem_cons.mp hm with e | e
  · rw [e] at hk ⊢
    rcases hk with hk | ⟨hk, _⟩
    · exact absurd hk not_top_lt
    · have : k = 0 := by
        by_contra hne
        have h0 := h.2 0 (Fin.pos_iff_ne_zero.mpr hne)
        have hk : (⊤ : EReal) = s k := hk
        rw [← hk] at h0
        exact absurd h0 not_top_lt
      rw [this]
      rfl
  · obtain ⟨x, e⟩ := (hL _).mp e
    rw [e] at hk ⊢
    rcases hk with hk | ⟨hk, hk2⟩
    · exact absurd hk (not_lt.mpr (h.1 x))
    · simp only [toInt_small _ (show (x : ℕ) < 1024 by omega), toInt_small _ (show (k : ℕ) < 1024 by omega)] at hk2
      have : ¬ x < k := fun hl => absurd (h.2 x hl) (not_lt.mpr (le_of_eq hk))
      have e : x = k := le_antisymm (by exact_mod_cast hk2) (not_lt.mp this)
      rw [e]

/-- The host's arg-min along the second axis, at a row, is the row's first least index. -/
theorem argmin_row {n : ℕ} (x : FVec Ideal ⟨2, ![n, 512]⟩ .f32) (y : Shape.Idx ⟨2, ![n, 512]⟩ → BitVec 32)
    (ix : Shape.Idx ⟨0, ![]⟩ → EReal) (iy : Shape.Idx ⟨0, ![]⟩ → BitVec 32)
    (hy : ∀ (i : Fin n) (j : Fin 512), y (ix2 i j) = BitVec.ofNat 32 j) (hix : ∀ i, ix i = ⊤) (hiy : ∀ i, iy i = 0#32)
    (hr : (⟨2, ![n, 512]⟩ : Shape).ReducesTo [1] ⟨1, ![n]⟩) (hu : 0 < (⟨0, ![]⟩ : Shape).numel) (i : Fin n)
    {k : Fin 512} (h : IsFirst (fun j => x (ix2 i j)) k) :
    (Host.argReduce (Cert.ReferenceIdeal.reducer_argmin_f32_i32 (F := Ideal)) x y ix iy hr hu (ix1 i)).2 =
      BitVec.ofNat 32 k := by
  rw [Ideal.argReduce_eq_reduce2, Host.reduce2_eq_foldl_fiber, hix, hiy]
  refine foldl_argmin h _ fun p => ?_
  unfold Host.argReduceFiber
  rw [List.mem_map]
  constructor
  · rintro ⟨m, hm, rfl⟩
    have hd : hr.drop ((⟨2, ![n, 512]⟩ : Shape).rowMajor.symm m) = ix1 i := by simpa using (List.mem_filter.mp hm).2
    revert hd
    generalize (⟨2, ![n, 512]⟩ : Shape).rowMajor.symm m = q
    intro hd
    have e0 : q 0 = i := Fin.ext (by
      have := Shape.ReducesTo.drop_apply_val hr q 0
      rw [hd] at this
      exact this.symm)
    obtain ⟨j, hq⟩ : ∃ j : Fin 512, q = ix2 i j := ⟨q 1, by rw [← e0]; exact eq_ix2 q⟩
    exact ⟨j, by rw [hq, hy]⟩
  · rintro ⟨j, rfl⟩
    refine ⟨(⟨2, ![n, 512]⟩ : Shape).rowMajor (ix2 i j), ?_, ?_⟩
    · rw [List.mem_filter]
      refine ⟨List.mem_finRange _, ?_⟩
      rw [Equiv.symm_apply_apply]
      simp only [decide_eq_true_eq]
      funext a
      fin_cases a
      exact Fin.ext (Shape.ReducesTo.drop_apply_val hr (ix2 i j) 0)
    · rw [Equiv.symm_apply_apply, hy]

end Cert.Conv

end
-- ==== Proof.Ref.Ops.lean ====
/- The reference program's @main as lists of its host operations, one list for each step of each stage,
   and its run: every weakly fair execution ends with every buffer at the operations' composed contents. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The concatenation that writes `main_v9`, named, so that its operands are plain arguments. -/
def fn_main_v9 : (main_v5 : Ref sig .tc).ty.Contents (Elt F) → (main_v6 : Ref sig .tc).ty.Contents (Elt F) → (main_v7 : Ref sig .tc).ty.Contents (Elt F) → (main_v8 : Ref sig .tc).ty.Contents (Elt F) → (main_v9 : Ref sig .tc).ty.Contents (Elt F) :=
  (fun u0 u1 u2 u3 => (concatenate S256x3x4x16x34 2 [⟨S256x3x1x16x34, (u0 : (⟨S256x3x1x16x34, .f32⟩ : BufTy).Contents (Elt F))⟩, ⟨S256x3x1x16x34, (u1 : (⟨S256x3x1x16x34, .f32⟩ : BufTy).Contents (Elt F))⟩, ⟨S256x3x1x16x34, (u2 : (⟨S256x3x1x16x34, .f32⟩ : BufTy).Contents (Elt F))⟩, ⟨S256x3x1x16x34, (u3 : (⟨S256x3x1x16x34, .f32⟩ : BufTy).Contents (Elt F))⟩] concatenates_S256x3x1x16x34_S256x3x1x16x34_S256x3x1x16x34_S256x3x1x16x34_S256x3x4x16x34_d2 : (⟨S256x3x4x16x34, .f32⟩ : BufTy).Contents (Elt F)))

/-- The concatenation that writes `main_v18`, named, so that its operands are plain arguments. -/
def fn_main_v18 : (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) :=
  (fun u0 u1 u2 u3 => (concatenate S256x3x4x4x16x16 3 [⟨S256x3x4x1x16x16, (u0 : (⟨S256x3x4x1x16x16, .f32⟩ : BufTy).Contents (Elt F))⟩, ⟨S256x3x4x1x16x16, (u1 : (⟨S256x3x4x1x16x16, .f32⟩ : BufTy).Contents (Elt F))⟩, ⟨S256x3x4x1x16x16, (u2 : (⟨S256x3x4x1x16x16, .f32⟩ : BufTy).Contents (Elt F))⟩, ⟨S256x3x4x1x16x16, (u3 : (⟨S256x3x4x1x16x16, .f32⟩ : BufTy).Contents (Elt F))⟩] concatenates_S256x3x4x1x16x16_S256x3x4x1x16x16_S256x3x4x1x16x16_S256x3x4x1x16x16_S256x3x4x4x16x16_d3 : (⟨S256x3x4x4x16x16, .f32⟩ : BufTy).Contents (Elt F)))

/-- The concatenation that writes `main_v36`, named, so that its operands are plain arguments. -/
def fn_main_v36 : (main_v32 : Ref sig .tc).ty.Contents (Elt F) → (main_v33 : Ref sig .tc).ty.Contents (Elt F) → (main_v34 : Ref sig .tc).ty.Contents (Elt F) → (main_v35 : Ref sig .tc).ty.Contents (Elt F) → (main_v36 : Ref sig .tc).ty.Contents (Elt F) :=
  (fun u0 u1 u2 u3 => (concatenate S256x256x4x8x18 2 [⟨S256x256x1x8x18, (u0 : (⟨S256x256x1x8x18, .f32⟩ : BufTy).Contents (Elt F))⟩, ⟨S256x256x1x8x18, (u1 : (⟨S256x256x1x8x18, .f32⟩ : BufTy).Contents (Elt F))⟩, ⟨S256x256x1x8x18, (u2 : (⟨S256x256x1x8x18, .f32⟩ : BufTy).Contents (Elt F))⟩, ⟨S256x256x1x8x18, (u3 : (⟨S256x256x1x8x18, .f32⟩ : BufTy).Contents (Elt F))⟩] concatenates_S256x256x1x8x18_S256x256x1x8x18_S256x256x1x8x18_S256x256x1x8x18_S256x256x4x8x18_d2 : (⟨S256x256x4x8x18, .f32⟩ : BufTy).Contents (Elt F)))

/-- The concatenation that writes `main_v45`, named, so that its operands are plain arguments. -/
def fn_main_v45 : (main_v41 : Ref sig .tc).ty.Contents (Elt F) → (main_v42 : Ref sig .tc).ty.Contents (Elt F) → (main_v43 : Ref sig .tc).ty.Contents (Elt F) → (main_v44 : Ref sig .tc).ty.Contents (Elt F) → (main_v45 : Ref sig .tc).ty.Contents (Elt F) :=
  (fun u0 u1 u2 u3 => (concatenate S256x256x4x4x8x8 3 [⟨S256x256x4x1x8x8, (u0 : (⟨S256x256x4x1x8x8, .f32⟩ : BufTy).Contents (Elt F))⟩, ⟨S256x256x4x1x8x8, (u1 : (⟨S256x256x4x1x8x8, .f32⟩ : BufTy).Contents (Elt F))⟩, ⟨S256x256x4x1x8x8, (u2 : (⟨S256x256x4x1x8x8, .f32⟩ : BufTy).Contents (Elt F))⟩, ⟨S256x256x4x1x8x8, (u3 : (⟨S256x256x4x1x8x8, .f32⟩ : BufTy).Contents (Elt F))⟩] concatenates_S256x256x4x1x8x8_S256x256x4x1x8x8_S256x256x4x1x8x8_S256x256x4x1x8x8_S256x256x4x4x8x8_d3 : (⟨S256x256x4x4x8x8, .f32⟩ : BufTy).Contents (Elt F)))

/-- The concatenation that writes `main_v61`, named, so that its operands are plain arguments. -/
def fn_main_v61 : (main_v58 : Ref sig .tc).ty.Contents (Elt F) → (main_v59 : Ref sig .tc).ty.Contents (Elt F) → (main_v60 : Ref sig .tc).ty.Contents (Elt F) → (main_v61 : Ref sig .tc).ty.Contents (Elt F) :=
  (fun u0 u1 u2 => (concatenate S256x256x3x8x10 2 [⟨S256x256x1x8x10, (u0 : (⟨S256x256x1x8x10, .f32⟩ : BufTy).Contents (Elt F))⟩, ⟨S256x256x1x8x10, (u1 : (⟨S256x256x1x8x10, .f32⟩ : BufTy).Contents (Elt F))⟩, ⟨S256x256x1x8x10, (u2 : (⟨S256x256x1x8x10, .f32⟩ : BufTy).Contents (Elt F))⟩] concatenates_S256x256x1x8x10_S256x256x1x8x10_S256x256x1x8x10_S256x256x3x8x10_d2 : (⟨S256x256x3x8x10, .f32⟩ : BufTy).Contents (Elt F)))

/-- The concatenation that writes `main_v68`, named, so that its operands are plain arguments. -/
def fn_main_v68 : (main_v65 : Ref sig .tc).ty.Contents (Elt F) → (main_v66 : Ref sig .tc).ty.Contents (Elt F) → (main_v67 : Ref sig .tc).ty.Contents (Elt F) → (main_v68 : Ref sig .tc).ty.Contents (Elt F) :=
  (fun u0 u1 u2 => (concatenate S256x256x3x3x8x8 3 [⟨S256x256x3x1x8x8, (u0 : (⟨S256x256x3x1x8x8, .f32⟩ : BufTy).Contents (Elt F))⟩, ⟨S256x256x3x1x8x8, (u1 : (⟨S256x256x3x1x8x8, .f32⟩ : BufTy).Contents (Elt F))⟩, ⟨S256x256x3x1x8x8, (u2 : (⟨S256x256x3x1x8x8, .f32⟩ : BufTy).Contents (Elt F))⟩] concatenates_S256x256x3x1x8x8_S256x256x3x1x8x8_S256x256x3x1x8x8_S256x256x3x3x8x8_d3 : (⟨S256x256x3x3x8x8, .f32⟩ : BufTy).Contents (Elt F)))

/-- The concatenation that writes `main_v105`, named, so that its operands are plain arguments. -/
def fn_main_v105 : (main_v102 : Ref sig .tc).ty.Contents (Elt F) → (main_v103 : Ref sig .tc).ty.Contents (Elt F) → (main_v104 : Ref sig .tc).ty.Contents (Elt F) → (main_v105 : Ref sig .tc).ty.Contents (Elt F) :=
  (fun u0 u1 u2 => (concatenate S256x64x3x8x10 2 [⟨S256x64x1x8x10, (u0 : (⟨S256x64x1x8x10, .f32⟩ : BufTy).Contents (Elt F))⟩, ⟨S256x64x1x8x10, (u1 : (⟨S256x64x1x8x10, .f32⟩ : BufTy).Contents (Elt F))⟩, ⟨S256x64x1x8x10, (u2 : (⟨S256x64x1x8x10, .f32⟩ : BufTy).Contents (Elt F))⟩] concatenates_S256x64x1x8x10_S256x64x1x8x10_S256x64x1x8x10_S256x64x3x8x10_d2 : (⟨S256x64x3x8x10, .f32⟩ : BufTy).Contents (Elt F)))

/-- The concatenation that writes `main_v112`, named, so that its operands are plain arguments. -/
def fn_main_v112 : (main_v109 : Ref sig .tc).ty.Contents (Elt F) → (main_v110 : Ref sig .tc).ty.Contents (Elt F) → (main_v111 : Ref sig .tc).ty.Contents (Elt F) → (main_v112 : Ref sig .tc).ty.Contents (Elt F) :=
  (fun u0 u1 u2 => (concatenate S256x64x3x3x8x8 3 [⟨S256x64x3x1x8x8, (u0 : (⟨S256x64x3x1x8x8, .f32⟩ : BufTy).Contents (Elt F))⟩, ⟨S256x64x3x1x8x8, (u1 : (⟨S256x64x3x1x8x8, .f32⟩ : BufTy).Contents (Elt F))⟩, ⟨S256x64x3x1x8x8, (u2 : (⟨S256x64x3x1x8x8, .f32⟩ : BufTy).Contents (Elt F))⟩] concatenates_S256x64x3x1x8x8_S256x64x3x1x8x8_S256x64x3x1x8x8_S256x64x3x3x8x8_d3 : (⟨S256x64x3x3x8x8, .f32⟩ : BufTy).Contents (Elt F)))

/-- The concatenation that writes `main_v130`, named, so that its operands are plain arguments. -/
def fn_main_v130 : (main_v126 : Ref sig .tc).ty.Contents (Elt F) → (main_v127 : Ref sig .tc).ty.Contents (Elt F) → (main_v128 : Ref sig .tc).ty.Contents (Elt F) → (main_v129 : Ref sig .tc).ty.Contents (Elt F) → (main_v130 : Ref sig .tc).ty.Contents (Elt F) :=
  (fun u0 u1 u2 u3 => (concatenate S256x256x4x16x19 2 [⟨S256x256x1x16x19, (u0 : (⟨S256x256x1x16x19, .f32⟩ : BufTy).Contents (Elt F))⟩, ⟨S256x256x1x16x19, (u1 : (⟨S256x256x1x16x19, .f32⟩ : BufTy).Contents (Elt F))⟩, ⟨S256x256x1x16x19, (u2 : (⟨S256x256x1x16x19, .f32⟩ : BufTy).Contents (Elt F))⟩, ⟨S256x256x1x16x19, (u3 : (⟨S256x256x1x16x19, .f32⟩ : BufTy).Contents (Elt F))⟩] concatenates_S256x256x1x16x19_S256x256x1x16x19_S256x256x1x16x19_S256x256x1x16x19_S256x256x4x16x19_d2 : (⟨S256x256x4x16x19, .f32⟩ : BufTy).Contents (Elt F)))

/-- The concatenation that writes `main_v139`, named, so that its operands are plain arguments. -/
def fn_main_v139 : (main_v135 : Ref sig .tc).ty.Contents (Elt F) → (main_v136 : Ref sig .tc).ty.Contents (Elt F) → (main_v137 : Ref sig .tc).ty.Contents (Elt F) → (main_v138 : Ref sig .tc).ty.Contents (Elt F) → (main_v139 : Ref sig .tc).ty.Contents (Elt F) :=
  (fun u0 u1 u2 u3 => (concatenate S256x256x4x4x16x16 3 [⟨S256x256x4x1x16x16, (u0 : (⟨S256x256x4x1x16x16, .f32⟩ : BufTy).Contents (Elt F))⟩, ⟨S256x256x4x1x16x16, (u1 : (⟨S256x256x4x1x16x16, .f32⟩ : BufTy).Contents (Elt F))⟩, ⟨S256x256x4x1x16x16, (u2 : (⟨S256x256x4x1x16x16, .f32⟩ : BufTy).Contents (Elt F))⟩, ⟨S256x256x4x1x16x16, (u3 : (⟨S256x256x4x1x16x16, .f32⟩ : BufTy).Contents (Elt F))⟩] concatenates_S256x256x4x1x16x16_S256x256x4x1x16x16_S256x256x4x1x16x16_S256x256x4x1x16x16_S256x256x4x4x16x16_d3 : (⟨S256x256x4x4x16x16, .f32⟩ : BufTy).Contents (Elt F)))

/-- The concatenation that writes `main_v157`, named, so that its operands are plain arguments. -/
def fn_main_v157 : (main_v153 : Ref sig .tc).ty.Contents (Elt F) → (main_v154 : Ref sig .tc).ty.Contents (Elt F) → (main_v155 : Ref sig .tc).ty.Contents (Elt F) → (main_v156 : Ref sig .tc).ty.Contents (Elt F) → (main_v157 : Ref sig .tc).ty.Contents (Elt F) :=
  (fun u0 u1 u2 u3 => (concatenate S256x256x4x32x35 2 [⟨S256x256x1x32x35, (u0 : (⟨S256x256x1x32x35, .f32⟩ : BufTy).Contents (Elt F))⟩, ⟨S256x256x1x32x35, (u1 : (⟨S256x256x1x32x35, .f32⟩ : BufTy).Contents (Elt F))⟩, ⟨S256x256x1x32x35, (u2 : (⟨S256x256x1x32x35, .f32⟩ : BufTy).Contents (Elt F))⟩, ⟨S256x256x1x32x35, (u3 : (⟨S256x256x1x32x35, .f32⟩ : BufTy).Contents (Elt F))⟩] concatenates_S256x256x1x32x35_S256x256x1x32x35_S256x256x1x32x35_S256x256x1x32x35_S256x256x4x32x35_d2 : (⟨S256x256x4x32x35, .f32⟩ : BufTy).Contents (Elt F)))

/-- The concatenation that writes `main_v166`, named, so that its operands are plain arguments. -/
def fn_main_v166 : (main_v162 : Ref sig .tc).ty.Contents (Elt F) → (main_v163 : Ref sig .tc).ty.Contents (Elt F) → (main_v164 : Ref sig .tc).ty.Contents (Elt F) → (main_v165 : Ref sig .tc).ty.Contents (Elt F) → (main_v166 : Ref sig .tc).ty.Contents (Elt F) :=
  (fun u0 u1 u2 u3 => (concatenate S256x256x4x4x32x32 3 [⟨S256x256x4x1x32x32, (u0 : (⟨S256x256x4x1x32x32, .f32⟩ : BufTy).Contents (Elt F))⟩, ⟨S256x256x4x1x32x32, (u1 : (⟨S256x256x4x1x32x32, .f32⟩ : BufTy).Contents (Elt F))⟩, ⟨S256x256x4x1x32x32, (u2 : (⟨S256x256x4x1x32x32, .f32⟩ : BufTy).Contents (Elt F))⟩, ⟨S256x256x4x1x32x32, (u3 : (⟨S256x256x4x1x32x32, .f32⟩ : BufTy).Contents (Elt F))⟩] concatenates_S256x256x4x1x32x32_S256x256x4x1x32x32_S256x256x4x1x32x32_S256x256x4x1x32x32_S256x256x4x4x32x32_d3 : (⟨S256x256x4x4x32x32, .f32⟩ : BufTy).Contents (Elt F)))

/-- Operations 1 to 2: step `s1p`. -/
abbrev s1p : List (HloOp τ sig (Elt F)) :=
  [ nullary main_cst (constant S_ .f32 0x00000000#32),
    binary main_arg0 main_cst main_v0 ((fun x v => pad S256x3x34x34 ![0, 0, 1, 1] ![0, 0, 1, 1] ![0, 0, 0, 0] x v pads_S256x3x32x32_S256x3x34x34_000_000_110_110 h_S_) : (⟨S256x3x32x32, .f32⟩ : BufTy).Contents (Elt F) → (⟨S_, .f32⟩ : BufTy).Contents (Elt F) → (⟨S256x3x34x34, .f32⟩ : BufTy).Contents (Elt F)) ]

/-- The buffers step `s1p` writes. -/
abbrev s1p_W : List (Ref sig .tc) := [main_cst, main_v0]

set_option maxRecDepth 8192 in
/-- Step `s1p` writes only the buffers of its list. -/
theorem s1p_writes : (s1p : List (HloOp τ sig (Elt F))).Forall fun op => op.writes ⊆ (s1p_W.map (Proc.devRef (τ := τ) .tc)).toFinset :=
  forall_writes_sub_of_map rfl

/-- A buffer step `s1p` does not write keeps its contents. -/
theorem s1p_keep (V : Valuation τ sig (Elt F)) (r : Ref sig .tc) (h : r ∉ s1p_W) :
    after s1p V (Proc.devRef .tc r) = V (Proc.devRef .tc r) :=
  after_of_writes_sub s1p V s1p_writes h

set_option maxRecDepth 8192 in
/-- Step `s1p` touches only the program's buffers. -/
theorem s1p_sub : (s1p : List (HloOp τ sig (Elt F))).Forall fun op => op.bufs ⊆ tcRefs τ sig :=
  ⟨nullary_bufs_sub .., binary_bufs_sub ..⟩

set_option maxRecDepth 8192 in
/-- Step `s1p` allocates nothing. -/
theorem s1p_fresh : (s1p : List (HloOp τ sig (Elt F))).Forall fun op => op.fresh = ∅ :=
  ⟨rfl, rfl⟩

/-- Operations 3 to 11: step `s1r`. -/
abbrev s1r : List (HloOp τ sig (Elt F)) :=
  [ unary main_v0 main_v1 ((Host.slice S256x3x16x34 ![0, 0, 0, 0] ![1, 1, 2, 1] · slicesBy_S256x3x34x34_S256x3x16x34_0s1_0s1_0s2_0s1) : (⟨S256x3x34x34, .f32⟩ : BufTy).Contents (Elt F) → (⟨S256x3x16x34, .f32⟩ : BufTy).Contents (Elt F)),
    unary main_v0 main_v2 ((Host.slice S256x3x16x34 ![0, 0, 1, 0] ![1, 1, 2, 1] · slicesBy_S256x3x34x34_S256x3x16x34_0s1_0s1_1s2_0s1) : (⟨S256x3x34x34, .f32⟩ : BufTy).Contents (Elt F) → (⟨S256x3x16x34, .f32⟩ : BufTy).Contents (Elt F)),
    unary main_v0 main_v3 ((Host.slice S256x3x16x34 ![0, 0, 2, 0] ![1, 1, 2, 1] · slicesBy_S256x3x34x34_S256x3x16x34_0s1_0s1_2s2_0s1) : (⟨S256x3x34x34, .f32⟩ : BufTy).Contents (Elt F) → (⟨S256x3x16x34, .f32⟩ : BufTy).Contents (Elt F)),
    unary main_v0 main_v4 ((Host.slice S256x3x16x34 ![0, 0, 3, 0] ![1, 1, 2, 1] · slicesBy_S256x3x34x34_S256x3x16x34_0s1_0s1_3s2_0s1) : (⟨S256x3x34x34, .f32⟩ : BufTy).Contents (Elt F) → (⟨S256x3x16x34, .f32⟩ : BufTy).Contents (Elt F)),
    unary main_v1 main_v5 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    unary main_v2 main_v6 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    unary main_v3 main_v7 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    unary main_v4 main_v8 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    nary ![main_v5, main_v6, main_v7, main_v8] main_v9 (fun u => fn_main_v9 (F := F) (u 0) (u 1) (u 2) (u 3)) ]

/-- The buffers step `s1r` writes. -/
abbrev s1r_W : List (Ref sig .tc) := [main_v1, main_v2, main_v3, main_v4, main_v5, main_v6, main_v7, main_v8, main_v9]

set_option maxRecDepth 8192 in
/-- Step `s1r` writes only the buffers of its list. -/
theorem s1r_writes : (s1r : List (HloOp τ sig (Elt F))).Forall fun op => op.writes ⊆ (s1r_W.map (Proc.devRef (τ := τ) .tc)).toFinset :=
  forall_writes_sub_of_map rfl

/-- A buffer step `s1r` does not write keeps its contents. -/
theorem s1r_keep (V : Valuation τ sig (Elt F)) (r : Ref sig .tc) (h : r ∉ s1r_W) :
    after s1r V (Proc.devRef .tc r) = V (Proc.devRef .tc r) :=
  after_of_writes_sub s1r V s1r_writes h

set_option maxRecDepth 8192 in
/-- Step `s1r` touches only the program's buffers. -/
theorem s1r_sub : (s1r : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s1r` allocates nothing. -/
theorem s1r_fresh : (s1r : List (HloOp τ sig (Elt F))).Forall fun op => op.fresh = ∅ :=
  ⟨rfl, rfl, rfl, rfl, rfl, rfl, rfl, rfl, rfl⟩

/-- Operations 12 to 20: step `s1w`. -/
abbrev s1w : List (HloOp τ sig (Elt F)) :=
  [ unary main_v9 main_v10 ((Host.slice S256x3x4x16x16 ![0, 0, 0, 0, 0] ![1, 1, 1, 1, 2] · slicesBy_S256x3x4x16x34_S256x3x4x16x16_0s1_0s1_0s1_0s1_0s2) : (⟨S256x3x4x16x34, .f32⟩ : BufTy).Contents (Elt F) → (⟨S256x3x4x16x16, .f32⟩ : BufTy).Contents (Elt F)),
    unary main_v9 main_v11 ((Host.slice S256x3x4x16x16 ![0, 0, 0, 0, 1] ![1, 1, 1, 1, 2] · slicesBy_S256x3x4x16x34_S256x3x4x16x16_0s1_0s1_0s1_0s1_1s2) : (⟨S256x3x4x16x34, .f32⟩ : BufTy).Contents (Elt F) → (⟨S256x3x4x16x16, .f32⟩ : BufTy).Contents (Elt F)),
    unary main_v9 main_v12 ((Host.slice S256x3x4x16x16 ![0, 0, 0, 0, 2] ![1, 1, 1, 1, 2] · slicesBy_S256x3x4x16x34_S256x3x4x16x16_0s1_0s1_0s1_0s1_2s2) : (⟨S256x3x4x16x34, .f32⟩ : BufTy).Contents (Elt F) → (⟨S256x3x4x16x16, .f32⟩ : BufTy).Contents (Elt F)),
    unary main_v9 main_v13 ((Host.slice S256x3x4x16x16 ![0, 0, 0, 0, 3] ![1, 1, 1, 1, 2] · slicesBy_S256x3x4x16x34_S256x3x4x16x16_0s1_0s1_0s1_0s1_3s2) : (⟨S256x3x4x16x34, .f32⟩ : BufTy).Contents (Elt F) → (⟨S256x3x4x16x16, .f32⟩ : BufTy).Contents (Elt F)),
    unary main_v10 main_v14 (broadcastInDim S256x3x4x1x16x16 ![0, 1, 2, 4, 5] bcast_S256x3x4x16x16_S256x3x4x1x16x16_0_1_2_4_5 : (⟨S256x3x4x16x16, .f32⟩ : BufTy).Contents (Elt F) → (⟨S256x3x4x1x16x16, .f32⟩ : BufTy).Contents (Elt F)),
    unary main_v11 main_v15 (broadcastInDim S256x3x4x1x16x16 ![0, 1, 2, 4, 5] bcast_S256x3x4x16x16_S256x3x4x1x16x16_0_1_2_4_5 : (⟨S256x3x4x16x16, .f32⟩ : BufTy).Contents (Elt F) → (⟨S256x3x4x1x16x16, .f32⟩ : BufTy).Contents (Elt F)),
    unary main_v12 main_v16 (broadcastInDim S256x3x4x1x16x16 ![0, 1, 2, 4, 5] bcast_S256x3x4x16x16_S256x3x4x1x16x16_0_1_2_4_5 : (⟨S256x3x4x16x16, .f32⟩ : BufTy).Contents (Elt F) → (⟨S256x3x4x1x16x16, .f32⟩ : BufTy).Contents (Elt F)),
    unary main_v13 main_v17 (broadcastInDim S256x3x4x1x16x16 ![0, 1, 2, 4, 5] bcast_S256x3x4x16x16_S256x3x4x1x16x16_0_1_2_4_5 : (⟨S256x3x4x16x16, .f32⟩ : BufTy).Contents (Elt F) → (⟨S256x3x4x1x16x16, .f32⟩ : BufTy).Contents (Elt F)),
    nary ![main_v14, main_v15, main_v16, main_v17] main_v18 (fun u => fn_main_v18 (F := F) (u 0) (u 1) (u 2) (u 3)) ]

/-- The buffers step `s1w` writes. -/
abbrev s1w_W : List (Ref sig .tc) := [main_v10, main_v11, main_v12, main_v13, main_v14, main_v15, main_v16, main_v17, main_v18]

set_option maxRecDepth 8192 in
/-- Step `s1w` writes only the buffers of its list. -/
theorem s1w_writes : (s1w : List (HloOp τ sig (Elt F))).Forall fun op => op.writes ⊆ (s1w_W.map (Proc.devRef (τ := τ) .tc)).toFinset :=
  forall_writes_sub_of_map rfl

/-- A buffer step `s1w` does not write keeps its contents. -/
theorem s1w_keep (V : Valuation τ sig (Elt F)) (r : Ref sig .tc) (h : r ∉ s1w_W) :
    after s1w V (Proc.devRef .tc r) = V (Proc.devRef .tc r) :=
  after_of_writes_sub s1w V s1w_writes h

set_option maxRecDepth 8192 in
/-- Step `s1w` touches only the program's buffers. -/
theorem s1w_sub : (s1w : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s1w` allocates nothing. -/
theorem s1w_fresh : (s1w : List (HloOp τ sig (Elt F))).Forall fun op => op.fresh = ∅ :=
  ⟨rfl, rfl, rfl, rfl, rfl, rfl, rfl, rfl, rfl⟩

/-- Operations 21 to 30: step `s1d`. -/
abbrev s1d : List (HloOp τ sig (Elt F)) :=
  [ reshape main_v18 main_v19 (rfl : (.f32 : EltTy) = .f32) shapeCasts_S256x3x4x4x16x16_S256x3x16x16x16,
    reshape main_arg2 main_v20 (rfl : (.f32 : EltTy) = .f32) shapeCasts_S256x3x4x4_S256x3x16,
    binary main_v20 main_v19 main_v21 ((fun l r => Host.dotGeneral dot_S256x3x16_S256x3x16x16x16_S256x256x16x16_12_12_0_034_n_n none l r) : (⟨S256x3x16, .f32⟩ : BufTy).Contents (Elt F) → (⟨S256x3x16x16x16, .f32⟩ : BufTy).Contents (Elt F) → (⟨S256x256x16x16, .f32⟩ : BufTy).Contents (Elt F)),
    unary main_v21 main_v22 ((transpose S256x256x16x16 [1, 0, 2, 3] · transposes_S256x256x16x16_S256x256x16x16_1_0_2_3) : (⟨S256x256x16x16, .f32⟩ : BufTy).Contents (Elt F) → (⟨S256x256x16x16, .f32⟩ : BufTy).Contents (Elt F)),
    unary main_arg3 main_v23 (broadcastInDim S1x256x1x1 ![1] bcast_S256_S1x256x1x1_1 : (⟨S256, .f32⟩ : BufTy).Contents (Elt F) → (⟨S1x256x1x1, .f32⟩ : BufTy).Contents (Elt F)),
    unary main_v23 main_v24 (broadcastInDim S256x256x16x16 ![0, 1, 2, 3] bcast_S1x256x1x1_S256x256x16x16_0_1_2_3 : (⟨S1x256x1x1, .f32⟩ : BufTy).Contents (Elt F) → (⟨S256x256x16x16, .f32⟩ : BufTy).Contents (Elt F)),
    binary main_v22 main_v24 main_v25 (addf : (⟨S256x256x16x16, .f32⟩ : BufTy).Contents (Elt F) → (⟨S256x256x16x16, .f32⟩ : BufTy).Contents (Elt F) → (⟨S256x256x16x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S256x256x16x16, .f32⟩) main_call0_v0) (broadcastInDim S256x256x16x16 ![] bcast_S_S256x256x16x16),
    TRef.binary (TRef.of (T := ⟨S256x256x16x16, .f32⟩) main_v25) (TRef.of (T := ⟨S256x256x16x16, .f32⟩) main_call0_v0) (TRef.of (T := ⟨S256x256x16x16, .f32⟩) main_v26) maximumf ]

/-- The buffers step `s1d` writes. -/
abbrev s1d_W : List (Ref sig .tc) := [main_v19, main_v20, main_v21, main_v22, main_v23, main_v24, main_v25, main_call0_cst, main_call0_v0, main_v26]

set_option maxRecDepth 8192 in
/-- Step `s1d` writes only the buffers of its list. -/
theorem s1d_writes : (s1d : List (HloOp τ sig (Elt F))).Forall fun op => op.writes ⊆ (s1d_W.map (Proc.devRef (τ := τ) .tc)).toFinset :=
  forall_writes_sub_of_map rfl

/-- A buffer step `s1d` does not write keeps its contents. -/
theorem s1d_keep (V : Valuation τ sig (Elt F)) (r : Ref sig .tc) (h : r ∉ s1d_W) :
    after s1d V (Proc.devRef .tc r) = V (Proc.devRef .tc r) :=
  after_of_writes_sub s1d V s1d_writes h

set_option maxRecDepth 8192 in
/-- Step `s1d` touches only the program's buffers. -/
theorem s1d_sub : (s1d : List (HloOp τ sig (Elt F))).Forall fun op => op.bufs ⊆ tcRefs τ sig :=
  ⟨reshape_bufs_sub .., reshape_bufs_sub .., binary_bufs_sub .., unary_bufs_sub .., unary_bufs_sub .., unary_bufs_sub .., binary_bufs_sub .., nullary_bufs_sub .., unary_bufs_sub .., binary_bufs_sub ..⟩

set_option maxRecDepth 8192 in
/-- Step `s1d` allocates nothing. -/
theorem s1d_fresh : (s1d : List (HloOp τ sig (Elt F))).Forall fun op => op.fresh = ∅ :=
  ⟨rfl, rfl, rfl, rfl, rfl, rfl, rfl, rfl, rfl, rfl⟩

/-- Operations 31 to 32: step `s2p`. -/
abbrev s2p : List (HloOp τ sig (Elt F)) :=
  [ nullary main_cst_0 (constant S_ .f32 0x00000000#32),
    binary main_v26 main_cst_0 main_v27 ((fun x v => pad S256x256x18x18 ![0, 0, 1, 1] ![0, 0, 1, 1] ![0, 0, 0, 0] x v pads_S256x256x16x16_S256x256x18x18_000_000_110_110 h_S_) : (⟨S256x256x16x16, .f32⟩ : BufTy).Contents (Elt F) → (⟨S_, .f32⟩ : BufTy).Contents (Elt F) → (⟨S256x256x18x18, .f32⟩ : BufTy).Contents (Elt F)) ]

/-- The buffers step `s2p` writes. -/
abbrev s2p_W : List (Ref sig .tc) := [main_cst_0, main_v27]

set_option maxRecDepth 8192 in
/-- Step `s2p` writes only the buffers of its list. -/
theorem s2p_writes : (s2p : List (HloOp τ sig (Elt F))).Forall fun op => op.writes ⊆ (s2p_W.map (Proc.devRef (τ := τ) .tc)).toFinset :=
  forall_writes_sub_of_map rfl

/-- A buffer step `s2p` does not write keeps its contents. -/
theorem s2p_keep (V : Valuation τ sig (Elt F)) (r : Ref sig .tc) (h : r ∉ s2p_W) :
    after s2p V (Proc.devRef .tc r) = V (Proc.devRef .tc r) :=
  after_of_writes_sub s2p V s2p_writes h

set_option maxRecDepth 8192 in
/-- Step `s2p` touches only the program's buffers. -/
theorem s2p_sub : (s2p : List (HloOp τ sig (Elt F))).Forall fun op => op.bufs ⊆ tcRefs τ sig :=
  ⟨nullary_bufs_sub .., binary_bufs_sub ..⟩

set_option maxRecDepth 8192 in
/-- Step `s2p` allocates nothing. -/
theorem s2p_fresh : (s2p : List (HloOp τ sig (Elt F))).Forall fun op => op.fresh = ∅ :=
  ⟨rfl, rfl⟩

/-- Operations 33 to 41: step `s2r`. -/
abbrev s2r : List (HloOp τ sig (Elt F)) :=
  [ unary main_v27 main_v28 ((Host.slice S256x256x8x18 ![0, 0, 0, 0] ![1, 1, 2, 1] · slicesBy_S256x256x18x18_S256x256x8x18_0s1_0s1_0s2_0s1) : (⟨S256x256x18x18, .f32⟩ : BufTy).Contents (Elt F) → (⟨S256x256x8x18, .f32⟩ : BufTy).Contents (Elt F)),
    unary main_v27 main_v29 ((Host.slice S256x256x8x18 ![0, 0, 1, 0] ![1, 1, 2, 1] · slicesBy_S256x256x18x18_S256x256x8x18_0s1_0s1_1s2_0s1) : (⟨S256x256x18x18, .f32⟩ : BufTy).Contents (Elt F) → (⟨S256x256x8x18, .f32⟩ : BufTy).Contents (Elt F)),
    unary main_v27 main_v30 ((Host.slice S256x256x8x18 ![0, 0, 2, 0] ![1, 1, 2, 1] · slicesBy_S256x256x18x18_S256x256x8x18_0s1_0s1_2s2_0s1) : (⟨S256x256x18x18, .f32⟩ : BufTy).Contents (Elt F) → (⟨S256x256x8x18, .f32⟩ : BufTy).Contents (Elt F)),
    unary main_v27 main_v31 ((Host.slice S256x256x8x18 ![0, 0, 3, 0] ![1, 1, 2, 1] · slicesBy_S256x256x18x18_S256x256x8x18_0s1_0s1_3s2_0s1) : (⟨S256x256x18x18, .f32⟩ : BufTy).Contents (Elt F) → (⟨S256x256x8x18, .f32⟩ : BufTy).Contents (Elt F)),
    unary main_v28 main_v32 (broadcastInDim S256x256x1x8x18 ![0, 1, 3, 4] bcast_S256x256x8x18_S256x256x1x8x18_0_1_3_4 : (⟨S256x256x8x18, .f32⟩ : BufTy).Contents (Elt F) → (⟨S256x256x1x8x18, .f32⟩ : BufTy).Contents (Elt F)),
    unary main_v29 main_v33 (broadcastInDim S256x256x1x8x18 ![0, 1, 3, 4] bcast_S256x256x8x18_S256x256x1x8x18_0_1_3_4 : (⟨S256x256x8x18, .f32⟩ : BufTy).Contents (Elt F) → (⟨S256x256x1x8x18, .f32⟩ : BufTy).Contents (Elt F)),
    unary main_v30 main_v34 (broadcastInDim S256x256x1x8x18 ![0, 1, 3, 4] bcast_S256x256x8x18_S256x256x1x8x18_0_1_3_4 : (⟨S256x256x8x18, .f32⟩ : BufTy).Contents (Elt F) → (⟨S256x256x1x8x18, .f32⟩ : BufTy).Contents (Elt F)),
    unary main_v31 main_v35 (broadcastInDim S256x256x1x8x18 ![0, 1, 3, 4] bcast_S256x256x8x18_S256x256x1x8x18_0_1_3_4 : (⟨S256x256x8x18, .f32⟩ : BufTy).Contents (Elt F) → (⟨S256x256x1x8x18, .f32⟩ : BufTy).Contents (Elt F)),
    nary ![main_v32, main_v33, main_v34, main_v35] main_v36 (fun u => fn_main_v36 (F := F) (u 0) (u 1) (u 2) (u 3)) ]

/-- The buffers step `s2r` writes. -/
abbrev s2r_W : List (Ref sig .tc) := [main_v28, main_v29, main_v30, main_v31, main_v32, main_v33, main_v34, main_v35, main_v36]

set_option maxRecDepth 8192 in
/-- Step `s2r` writes only the buffers of its list. -/
theorem s2r_writes : (s2r : List (HloOp τ sig (Elt F))).Forall fun op => op.writes ⊆ (s2r_W.map (Proc.devRef (τ := τ) .tc)).toFinset :=
  forall_writes_sub_of_map rfl

/-- A buffer step `s2r` does not write keeps its contents. -/
theorem s2r_keep (V : Valuation τ sig (Elt F)) (r : Ref sig .tc) (h : r ∉ s2r_W) :
    after s2r V (Proc.devRef .tc r) = V (Proc.devRef .tc r) :=
  after_of_writes_sub s2r V s2r_writes h

set_option maxRecDepth 8192 in
/-- Step `s2r` touches only the program's buffers. -/
theorem s2r_sub : (s2r : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s2r` allocates nothing. -/
theorem s2r_fresh : (s2r : List (HloOp τ sig (Elt F))).Forall fun op => op.fresh = ∅ :=
  ⟨rfl, rfl, rfl, rfl, rfl, rfl, rfl, rfl, rfl⟩

/-- Operations 42 to 50: step `s2w`. -/
abbrev s2w : List (HloOp τ sig (Elt F)) :=
  [ unary main_v36 main_v37 ((Host.slice S256x256x4x8x8 ![0, 0, 0, 0, 0] ![1, 1, 1, 1, 2] · slicesBy_S256x256x4x8x18_S256x256x4x8x8_0s1_0s1_0s1_0s1_0s2) : (⟨S256x256x4x8x18, .f32⟩ : BufTy).Contents (Elt F) → (⟨S256x256x4x8x8, .f32⟩ : BufTy).Contents (Elt F)),
    unary main_v36 main_v38 ((Host.slice S256x256x4x8x8 ![0, 0, 0, 0, 1] ![1, 1, 1, 1, 2] · slicesBy_S256x256x4x8x18_S256x256x4x8x8_0s1_0s1_0s1_0s1_1s2) : (⟨S256x256x4x8x18, .f32⟩ : BufTy).Contents (Elt F) → (⟨S256x256x4x8x8, .f32⟩ : BufTy).Contents (Elt F)),
    unary main_v36 main_v39 ((Host.slice S256x256x4x8x8 ![0, 0, 0, 0, 2] ![1, 1, 1, 1, 2] · slicesBy_S256x256x4x8x18_S256x256x4x8x8_0s1_0s1_0s1_0s1_2s2) : (⟨S256x256x4x8x18, .f32⟩ : BufTy).Contents (Elt F) → (⟨S256x256x4x8x8, .f32⟩ : BufTy).Contents (Elt F)),
    unary main_v36 main_v40 ((Host.slice S256x256x4x8x8 ![0, 0, 0, 0, 3] ![1, 1, 1, 1, 2] · slicesBy_S256x256x4x8x18_S256x256x4x8x8_0s1_0s1_0s1_0s1_3s2) : (⟨S256x256x4x8x18, .f32⟩ : BufTy).Contents (Elt F) → (⟨S256x256x4x8x8, .f32⟩ : BufTy).Contents (Elt F)),
    unary main_v37 main_v41 (broadcastInDim S256x256x4x1x8x8 ![0, 1, 2, 4, 5] bcast_S256x256x4x8x8_S256x256x4x1x8x8_0_1_2_4_5 : (⟨S256x256x4x8x8, .f32⟩ : BufTy).Contents (Elt F) → (⟨S256x256x4x1x8x8, .f32⟩ : BufTy).Contents (Elt F)),
    unary main_v38 main_v42 (broadcastInDim S256x256x4x1x8x8 ![0, 1, 2, 4, 5] bcast_S256x256x4x8x8_S256x256x4x1x8x8_0_1_2_4_5 : (⟨S256x256x4x8x8, .f32⟩ : BufTy).Contents (Elt F) → (⟨S256x256x4x1x8x8, .f32⟩ : BufTy).Contents (Elt F)),
    unary main_v39 main_v43 (broadcastInDim S256x256x4x1x8x8 ![0, 1, 2, 4, 5] bcast_S256x256x4x8x8_S256x256x4x1x8x8_0_1_2_4_5 : (⟨S256x256x4x8x8, .f32⟩ : BufTy).Contents (Elt F) → (⟨S256x256x4x1x8x8, .f32⟩ : BufTy).Contents (Elt F)),
    unary main_v40 main_v44 (broadcastInDim S256x256x4x1x8x8 ![0, 1, 2, 4, 5] bcast_S256x256x4x8x8_S256x256x4x1x8x8_0_1_2_4_5 : (⟨S256x256x4x8x8, .f32⟩ : BufTy).Contents (Elt F) → (⟨S256x256x4x1x8x8, .f32⟩ : BufTy).Contents (Elt F)),
    nary ![main_v41, main_v42, main_v43, main_v44] main_v45 (fun u => fn_main_v45 (F := F) (u 0) (u 1) (u 2) (u 3)) ]

/-- The buffers step `s2w` writes. -/
abbrev s2w_W : List (Ref sig .tc) := [main_v37, main_v38, main_v39, main_v40, main_v41, main_v42, main_v43, main_v44, main_v45]

set_option maxRecDepth 8192 in
/-- Step `s2w` writes only the buffers of its list. -/
theorem s2w_writes : (s2w : List (HloOp τ sig (Elt F))).Forall fun op => op.writes ⊆ (s2w_W.map (Proc.devRef (τ := τ) .tc)).toFinset :=
  forall_writes_sub_of_map rfl

/-- A buffer step `s2w` does not write keeps its contents. -/
theorem s2w_keep (V : Valuation τ sig (Elt F)) (r : Ref sig .tc) (h : r ∉ s2w_W) :
    after s2w V (Proc.devRef .tc r) = V (Proc.devRef .tc r) :=
  after_of_writes_sub s2w V s2w_writes h

set_option maxRecDepth 8192 in
/-- Step `s2w` touches only the program's buffers. -/
theorem s2w_sub : (s2w : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s2w` allocates nothing. -/
theorem s2w_fresh : (s2w : List (HloOp τ sig (Elt F))).Forall fun op => op.fresh = ∅ :=
  ⟨rfl, rfl, rfl, rfl, rfl, rfl, rfl, rfl, rfl⟩

/-- Operations 51 to 60: step `s2d`. -/
abbrev s2d : List (HloOp τ sig (Elt F)) :=
  [ reshape main_v45 main_v46 (rfl : (.f32 : EltTy) = .f32) shapeCasts_S256x256x4x4x8x8_S256x256x16x8x8,
    reshape main_arg4 main_v47 (rfl : (.f32 : EltTy) = .f32) shapeCasts_S256x256x4x4_S256x256x16,
    binary main_v47 main_v46 main_v48 ((fun l r => Host.dotGeneral dot_S256x256x16_S256x256x16x8x8_S256x256x8x8_12_12_0_034_n_n none l r) : (⟨S256x256x16, .f32⟩ : BufTy).Contents (Elt F) → (⟨S256x256x16x8x8, .f32⟩ : BufTy).Contents (Elt F) → (⟨S256x256x8x8, .f32⟩ : BufTy).Contents (Elt F)),
    unary main_v48 main_v49 ((transpose S256x256x8x8 [1, 0, 2, 3] · transposes_S256x256x8x8_S256x256x8x8_1_0_2_3) : (⟨S256x256x8x8, .f32⟩ : BufTy).Contents (Elt F) → (⟨S256x256x8x8, .f32⟩ : BufTy).Contents (Elt F)),
    unary main_arg5 main_v50 (broadcastInDim S1x256x1x1 ![1] bcast_S256_S1x256x1x1_1 : (⟨S256, .f32⟩ : BufTy).Contents (Elt F) → (⟨S1x256x1x1, .f32⟩ : BufTy).Contents (Elt F)),
    unary main_v50 main_v51 (broadcastInDim S256x256x8x8 ![0, 1, 2, 3] bcast_S1x256x1x1_S256x256x8x8_0_1_2_3 : (⟨S1x256x1x1, .f32⟩ : BufTy).Contents (Elt F) → (⟨S256x256x8x8, .f32⟩ : BufTy).Contents (Elt F)),
    binary main_v49 main_v51 main_v52 (addf : (⟨S256x256x8x8, .f32⟩ : BufTy).Contents (Elt F) → (⟨S256x256x8x8, .f32⟩ : BufTy).Contents (Elt F) → (⟨S256x256x8x8, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S256x256x8x8, .f32⟩) main_call1_v0) (broadcastInDim S256x256x8x8 ![] bcast_S_S256x256x8x8),
    TRef.binary (TRef.of (T := ⟨S256x256x8x8, .f32⟩) main_v52) (TRef.of (T := ⟨S256x256x8x8, .f32⟩) main_call1_v0) (TRef.of (T := ⟨S256x256x8x8, .f32⟩) main_v53) maximumf ]

/-- The buffers step `s2d` writes. -/
abbrev s2d_W : List (Ref sig .tc) := [main_v46, main_v47, main_v48, main_v49, main_v50, main_v51, main_v52, main_call1_cst, main_call1_v0, main_v53]

set_option maxRecDepth 8192 in
/-- Step `s2d` writes only the buffers of its list. -/
theorem s2d_writes : (s2d : List (HloOp τ sig (Elt F))).Forall fun op => op.writes ⊆ (s2d_W.map (Proc.devRef (τ := τ) .tc)).toFinset :=
  forall_writes_sub_of_map rfl

/-- A buffer step `s2d` does not write keeps its contents. -/
theorem s2d_keep (V : Valuation τ sig (Elt F)) (r : Ref sig .tc) (h : r ∉ s2d_W) :
    after s2d V (Proc.devRef .tc r) = V (Proc.devRef .tc r) :=
  after_of_writes_sub s2d V s2d_writes h

set_option maxRecDepth 8192 in
/-- Step `s2d` touches only the program's buffers. -/
theorem s2d_sub : (s2d : List (HloOp τ sig (Elt F))).Forall fun op => op.bufs ⊆ tcRefs τ sig :=
  ⟨reshape_bufs_sub .., reshape_bufs_sub .., binary_bufs_sub .., unary_bufs_sub .., unary_bufs_sub .., unary_bufs_sub .., binary_bufs_sub .., nullary_bufs_sub .., unary_bufs_sub .., binary_bufs_sub ..⟩

set_option maxRecDepth 8192 in
/-- Step `s2d` allocates nothing. -/
theorem s2d_fresh : (s2d : List (HloOp τ sig (Elt F))).Forall fun op => op.fresh = ∅ :=
  ⟨rfl, rfl, rfl, rfl, rfl, rfl, rfl, rfl, rfl, rfl⟩

/-- Operations 61 to 62: step `s3p`. -/
abbrev s3p : List (HloOp τ sig (Elt F)) :=
  [ nullary main_cst_1 (constant S_ .f32 0x00000000#32),
    binary main_v53 main_cst_1 main_v54 ((fun x v => pad S256x256x10x10 ![0, 0, 1, 1] ![0, 0, 1, 1] ![0, 0, 0, 0] x v pads_S256x256x8x8_S256x256x10x10_000_000_110_110 h_S_) : (⟨S256x256x8x8, .f32⟩ : BufTy).Contents (Elt F) → (⟨S_, .f32⟩ : BufTy).Contents (Elt F) → (⟨S256x256x10x10, .f32⟩ : BufTy).Contents (Elt F)) ]

/-- The buffers step `s3p` writes. -/
abbrev s3p_W : List (Ref sig .tc) := [main_cst_1, main_v54]

set_option maxRecDepth 8192 in
/-- Step `s3p` writes only the buffers of its list. -/
theorem s3p_writes : (s3p : List (HloOp τ sig (Elt F))).Forall fun op => op.writes ⊆ (s3p_W.map (Proc.devRef (τ := τ) .tc)).toFinset :=
  forall_writes_sub_of_map rfl

/-- A buffer step `s3p` does not write keeps its contents. -/
theorem s3p_keep (V : Valuation τ sig (Elt F)) (r : Ref sig .tc) (h : r ∉ s3p_W) :
    after s3p V (Proc.devRef .tc r) = V (Proc.devRef .tc r) :=
  after_of_writes_sub s3p V s3p_writes h

set_option maxRecDepth 8192 in
/-- Step `s3p` touches only the program's buffers. -/
theorem s3p_sub : (s3p : List (HloOp τ sig (Elt F))).Forall fun op => op.bufs ⊆ tcRefs τ sig :=
  ⟨nullary_bufs_sub .., binary_bufs_sub ..⟩

set_option maxRecDepth 8192 in
/-- Step `s3p` allocates nothing. -/
theorem s3p_fresh : (s3p : List (HloOp τ sig (Elt F))).Forall fun op => op.fresh = ∅ :=
  ⟨rfl, rfl⟩

/-- Operations 63 to 64: step `s3ra`. -/
abbrev s3ra : List (HloOp τ sig (Elt F)) :=
  [ unary main_v54 main_v55 ((extractStridedSlice S256x256x8x10 ![0, 0, 0, 0] · slices_S256x256x10x10_S256x256x8x10_0_0_0_0) : (⟨S256x256x10x10, .f32⟩ : BufTy).Contents (Elt F) → (⟨S256x256x8x10, .f32⟩ : BufTy).Contents (Elt F)),
    unary main_v54 main_v56 ((extractStridedSlice S256x256x8x10 ![0, 0, 1, 0] · slices_S256x256x10x10_S256x256x8x10_0_0_1_0) : (⟨S256x256x10x10, .f32⟩ : BufTy).Contents (Elt F) → (⟨S256x256x8x10, .f32⟩ : BufTy).Contents (Elt F)) ]

/-- The buffers step `s3ra` writes. -/
abbrev s3ra_W : List (Ref sig .tc) := [main_v55, main_v56]

set_option maxRecDepth 8192 in
/-- Step `s3ra` writes only the buffers of its list. -/
theorem s3ra_writes : (s3ra : List (HloOp τ sig (Elt F))).Forall fun op => op.writes ⊆ (s3ra_W.map (Proc.devRef (τ := τ) .tc)).toFinset :=
  forall_writes_sub_of_map rfl

/-- A buffer step `s3ra` does not write keeps its contents. -/
theorem s3ra_keep (V : Valuation τ sig (Elt F)) (r : Ref sig .tc) (h : r ∉ s3ra_W) :
    after s3ra V (Proc.devRef .tc r) = V (Proc.devRef .tc r) :=
  after_of_writes_sub s3ra V s3ra_writes h

set_option maxRecDepth 8192 in
/-- Step `s3ra` touches only the program's buffers. -/
theorem s3ra_sub : (s3ra : List (HloOp τ sig (Elt F))).Forall fun op => op.bufs ⊆ tcRefs τ sig :=
  ⟨unary_bufs_sub .., unary_bufs_sub ..⟩

set_option maxRecDepth 8192 in
/-- Step `s3ra` allocates nothing. -/
theorem s3ra_fresh : (s3ra : List (HloOp τ sig (Elt F))).Forall fun op => op.fresh = ∅ :=
  ⟨rfl, rfl⟩

/-- Operations 65 to 69: step `s3rb`. -/
abbrev s3rb : List (HloOp τ sig (Elt F)) :=
  [ unary main_v54 main_v57 ((extractStridedSlice S256x256x8x10 ![0, 0, 2, 0] · slices_S256x256x10x10_S256x256x8x10_0_0_2_0) : (⟨S256x256x10x10, .f32⟩ : BufTy).Contents (Elt F) → (⟨S256x256x8x10, .f32⟩ : BufTy).Contents (Elt F)),
    unary main_v55 main_v58 (broadcastInDim S256x256x1x8x10 ![0, 1, 3, 4] bcast_S256x256x8x10_S256x256x1x8x10_0_1_3_4 : (⟨S256x256x8x10, .f32⟩ : BufTy).Contents (Elt F) → (⟨S256x256x1x8x10, .f32⟩ : BufTy).Contents (Elt F)),
    unary main_v56 main_v59 (broadcastInDim S256x256x1x8x10 ![0, 1, 3, 4] bcast_S256x256x8x10_S256x256x1x8x10_0_1_3_4 : (⟨S256x256x8x10, .f32⟩ : BufTy).Contents (Elt F) → (⟨S256x256x1x8x10, .f32⟩ : BufTy).Contents (Elt F)),
    unary main_v57 main_v60 (broadcastInDim S256x256x1x8x10 ![0, 1, 3, 4] bcast_S256x256x8x10_S256x256x1x8x10_0_1_3_4 : (⟨S256x256x8x10, .f32⟩ : BufTy).Contents (Elt F) → (⟨S256x256x1x8x10, .f32⟩ : BufTy).Contents (Elt F)),
    nary ![main_v58, main_v59, main_v60] main_v61 (fun u => fn_main_v61 (F := F) (u 0) (u 1) (u 2)) ]

/-- The buffers step `s3rb` writes. -/
abbrev s3rb_W : List (Ref sig .tc) := [main_v57, main_v58, main_v59, main_v60, main_v61]

set_option maxRecDepth 8192 in
/-- Step `s3rb` writes only the buffers of its list. -/
theorem s3rb_writes : (s3rb : List (HloOp τ sig (Elt F))).Forall fun op => op.writes ⊆ (s3rb_W.map (Proc.devRef (τ := τ) .tc)).toFinset :=
  forall_writes_sub_of_map rfl

/-- A buffer step `s3rb` does not write keeps its contents. -/
theorem s3rb_keep (V : Valuation τ sig (Elt F)) (r : Ref sig .tc) (h : r ∉ s3rb_W) :
    after s3rb V (Proc.devRef .tc r) = V (Proc.devRef .tc r) :=
  after_of_writes_sub s3rb V s3rb_writes h

set_option maxRecDepth 8192 in
/-- Step `s3rb` touches only the program's buffers. -/
theorem s3rb_sub : (s3rb : List (HloOp τ sig (Elt F))).Forall fun op => op.bufs ⊆ tcRefs τ sig :=
  ⟨unary_bufs_sub .., unary_bufs_sub .., unary_bufs_sub .., unary_bufs_sub .., nary_bufs_sub ..⟩

set_option maxRecDepth 8192 in
/-- Step `s3rb` allocates nothing. -/
theorem s3rb_fresh : (s3rb : List (HloOp τ sig (Elt F))).Forall fun op => op.fresh = ∅ :=
  ⟨rfl, rfl, rfl, rfl, rfl⟩

/-- Operations 70 to 76: step `s3w`. -/
abbrev s3w : List (HloOp τ sig (Elt F)) :=
  [ unary main_v61 main_v62 ((extractStridedSlice S256x256x3x8x8 ![0, 0, 0, 0, 0] · slices_S256x256x3x8x10_S256x256x3x8x8_0_0_0_0_0) : (⟨S256x256x3x8x10, .f32⟩ : BufTy).Contents (Elt F) → (⟨S256x256x3x8x8, .f32⟩ : BufTy).Contents (Elt F)),
    unary main_v61 main_v63 ((extractStridedSlice S256x256x3x8x8 ![0, 0, 0, 0, 1] · slices_S256x256x3x8x10_S256x256x3x8x8_0_0_0_0_1) : (⟨S256x256x3x8x10, .f32⟩ : BufTy).Contents (Elt F) → (⟨S256x256x3x8x8, .f32⟩ : BufTy).Contents (Elt F)),
    unary main_v61 main_v64 ((extractStridedSlice S256x256x3x8x8 ![0, 0, 0, 0, 2] · slices_S256x256x3x8x10_S256x256x3x8x8_0_0_0_0_2) : (⟨S256x256x3x8x10, .f32⟩ : BufTy).Contents (Elt F) → (⟨S256x256x3x8x8, .f32⟩ : BufTy).Contents (Elt F)),
    unary main_v62 main_v65 (broadcastInDim S256x256x3x1x8x8 ![0, 1, 2, 4, 5] bcast_S256x256x3x8x8_S256x256x3x1x8x8_0_1_2_4_5 : (⟨S256x256x3x8x8, .f32⟩ : BufTy).Contents (Elt F) → (⟨S256x256x3x1x8x8, .f32⟩ : BufTy).Contents (Elt F)),
    unary main_v63 main_v66 (broadcastInDim S256x256x3x1x8x8 ![0, 1, 2, 4, 5] bcast_S256x256x3x8x8_S256x256x3x1x8x8_0_1_2_4_5 : (⟨S256x256x3x8x8, .f32⟩ : BufTy).Contents (Elt F) → (⟨S256x256x3x1x8x8, .f32⟩ : BufTy).Contents (Elt F)),
    unary main_v64 main_v67 (broadcastInDim S256x256x3x1x8x8 ![0, 1, 2, 4, 5] bcast_S256x256x3x8x8_S256x256x3x1x8x8_0_1_2_4_5 : (⟨S256x256x3x8x8, .f32⟩ : BufTy).Contents (Elt F) → (⟨S256x256x3x1x8x8, .f32⟩ : BufTy).Contents (Elt F)),
    nary ![main_v65, main_v66, main_v67] main_v68 (fun u => fn_main_v68 (F := F) (u 0) (u 1) (u 2)) ]

/-- The buffers step `s3w` writes. -/
abbrev s3w_W : List (Ref sig .tc) := [main_v62, main_v63, main_v64, main_v65, main_v66, main_v67, main_v68]

set_option maxRecDepth 8192 in
/-- Step `s3w` writes only the buffers of its list. -/
theorem s3w_writes : (s3w : List (HloOp τ sig (Elt F))).Forall fun op => op.writes ⊆ (s3w_W.map (Proc.devRef (τ := τ) .tc)).toFinset :=
  forall_writes_sub_of_map rfl

/-- A buffer step `s3w` does not write keeps its contents. -/
theorem s3w_keep (V : Valuation τ sig (Elt F)) (r : Ref sig .tc) (h : r ∉ s3w_W) :
    after s3w V (Proc.devRef .tc r) = V (Proc.devRef .tc r) :=
  after_of_writes_sub s3w V s3w_writes h

set_option maxRecDepth 8192 in
/-- Step `s3w` touches only the program's buffers. -/
theorem s3w_sub : (s3w : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩

set_option maxRecDepth 8192 in
/-- Step `s3w` allocates nothing. -/
theorem s3w_fresh : (s3w : List (HloOp τ sig (Elt F))).Forall fun op => op.fresh = ∅ :=
  ⟨rfl, rfl, rfl, rfl, rfl, rfl, rfl⟩

/-- Operations 77 to 84: step `s3d`. -/
abbrev s3d : List (HloOp τ sig (Elt F)) :=
  [ reshape main_v68 main_v69 (rfl : (.f32 : EltTy) = .f32) shapeCasts_S256x256x3x3x8x8_S256x256x9x8x8,
    reshape main_arg6 main_v70 (rfl : (.f32 : EltTy) = .f32) shapeCasts_S64x256x3x3_S64x256x9,
    binary main_v70 main_v69 main_v71 ((fun l r => Host.dotGeneral dot_S64x256x9_S256x256x9x8x8_S64x256x8x8_12_12_0_034_n_n none l r) : (⟨S64x256x9, .f32⟩ : BufTy).Contents (Elt F) → (⟨S256x256x9x8x8, .f32⟩ : BufTy).Contents (Elt F) → (⟨S64x256x8x8, .f32⟩ : BufTy).Contents (Elt F)),
    unary main_v71 main_v72 ((transpose S256x64x8x8 [1, 0, 2, 3] · transposes_S64x256x8x8_S256x64x8x8_1_0_2_3) : (⟨S64x256x8x8, .f32⟩ : BufTy).Contents (Elt F) → (⟨S256x64x8x8, .f32⟩ : BufTy).Contents (Elt F)),
    unary main_arg7 main_v73 (broadcastInDim S1x64x1x1 ![1] bcast_S64_S1x64x1x1_1 : (⟨S64, .f32⟩ : BufTy).Contents (Elt F) → (⟨S1x64x1x1, .f32⟩ : BufTy).Contents (Elt F)),
    unary main_v73 main_v74 (broadcastInDim S256x64x8x8 ![0, 1, 2, 3] bcast_S1x64x1x1_S256x64x8x8_0_1_2_3 : (⟨S1x64x1x1, .f32⟩ : BufTy).Contents (Elt F) → (⟨S256x64x8x8, .f32⟩ : BufTy).Contents (Elt F)),
    binary main_v72 main_v74 main_v75 (addf : (⟨S256x64x8x8, .f32⟩ : BufTy).Contents (Elt F) → (⟨S256x64x8x8, .f32⟩ : BufTy).Contents (Elt F) → (⟨S256x64x8x8, .f32⟩ : BufTy).Contents (Elt F)),
    unary main_v75 main_v76 ((transpose S256x8x8x64 [0, 2, 3, 1] · transposes_S256x64x8x8_S256x8x8x64_0_2_3_1) : (⟨S256x64x8x8, .f32⟩ : BufTy).Contents (Elt F) → (⟨S256x8x8x64, .f32⟩ : BufTy).Contents (Elt F)) ]

/-- The buffers step `s3d` writes. -/
abbrev s3d_W : List (Ref sig .tc) := [main_v69, main_v70, main_v71, main_v72, main_v73, main_v74, main_v75, main_v76]

set_option maxRecDepth 8192 in
/-- Step `s3d` writes only the buffers of its list. -/
theorem s3d_writes : (s3d : List (HloOp τ sig (Elt F))).Forall fun op => op.writes ⊆ (s3d_W.map (Proc.devRef (τ := τ) .tc)).toFinset :=
  forall_writes_sub_of_map rfl

/-- A buffer step `s3d` does not write keeps its contents. -/
theorem s3d_keep (V : Valuation τ sig (Elt F)) (r : Ref sig .tc) (h : r ∉ s3d_W) :
    after s3d V (Proc.devRef .tc r) = V (Proc.devRef .tc r) :=
  after_of_writes_sub s3d V s3d_writes h

set_option maxRecDepth 8192 in
/-- Step `s3d` touches only the program's buffers. -/
theorem s3d_sub : (s3d : List (HloOp τ sig (Elt F))).Forall fun op => op.bufs ⊆ tcRefs τ sig :=
  ⟨reshape_bufs_sub .., reshape_bufs_sub .., binary_bufs_sub .., unary_bufs_sub .., unary_bufs_sub .., unary_bufs_sub .., binary_bufs_sub .., unary_bufs_sub ..⟩

set_option maxRecDepth 8192 in
/-- Step `s3d` allocates nothing. -/
theorem s3d_fresh : (s3d : List (HloOp τ sig (Elt F))).Forall fun op => op.fresh = ∅ :=
  ⟨rfl, rfl, rfl, rfl, rfl, rfl, rfl, rfl⟩

/-- Operations 85 to 102: step `s4d`. -/
abbrev s4d : List (HloOp τ sig (Elt F)) :=
  [ reshape main_v76 main_v77 (rfl : (.f32 : EltTy) = .f32) shapeCasts_S256x8x8x64_S16384x64,
    binary main_v77 main_v77 main_v78 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v78 main_cst_2 main_v79 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v79 main_v80 (broadcastInDim S16384x1 ![0] bcast_S16384_S16384x1_0 : (⟨S16384, .f32⟩ : BufTy).Contents (Elt F) → (⟨S16384x1, .f32⟩ : BufTy).Contents (Elt F)),
    unary main_arg1 main_v81 ((transpose S64x512 [1, 0] · transposes_S512x64_S64x512_1_0) : (⟨S512x64, .f32⟩ : BufTy).Contents (Elt F) → (⟨S64x512, .f32⟩ : BufTy).Contents (Elt F)),
    binary main_v77 main_v81 main_v82 ((fun l r => Host.dotGeneral dot_S16384x64_S64x512_S16384x512_1_0_0_1_n_n none l r) : (⟨S16384x64, .f32⟩ : BufTy).Contents (Elt F) → (⟨S64x512, .f32⟩ : BufTy).Contents (Elt F) → (⟨S16384x512, .f32⟩ : BufTy).Contents (Elt F)),
    nullary main_cst_3 (constant S_ .f32 0x40000000#32),
    unary main_cst_3 main_v83 (broadcastInDim S16384x512 ![] bcast_S_S16384x512 : (⟨S_, .f32⟩ : BufTy).Contents (Elt F) → (⟨S16384x512, .f32⟩ : BufTy).Contents (Elt F)),
    binary main_v83 main_v82 main_v84 (mulf : (⟨S16384x512, .f32⟩ : BufTy).Contents (Elt F) → (⟨S16384x512, .f32⟩ : BufTy).Contents (Elt F) → (⟨S16384x512, .f32⟩ : BufTy).Contents (Elt F)),
    unary main_v80 main_v85 (broadcastInDim S16384x512 ![0, 1] bcast_S16384x1_S16384x512_0_1 : (⟨S16384x1, .f32⟩ : BufTy).Contents (Elt F) → (⟨S16384x512, .f32⟩ : BufTy).Contents (Elt F)),
    binary main_v85 main_v84 main_v86 (subf : (⟨S16384x512, .f32⟩ : BufTy).Contents (Elt F) → (⟨S16384x512, .f32⟩ : BufTy).Contents (Elt F) → (⟨S16384x512, .f32⟩ : BufTy).Contents (Elt F)),
    binary main_arg1 main_arg1 main_v87 (mulf : (⟨S512x64, .f32⟩ : BufTy).Contents (Elt F) → (⟨S512x64, .f32⟩ : BufTy).Contents (Elt F) → (⟨S512x64, .f32⟩ : BufTy).Contents (Elt F)),
    nullary main_cst_4 (constant S_ .f32 0x00000000#32),
    binary main_v87 main_cst_4 main_v88 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v88 main_v89 (broadcastInDim S1x512 ![1] bcast_S512_S1x512_1 : (⟨S512, .f32⟩ : BufTy).Contents (Elt F) → (⟨S1x512, .f32⟩ : BufTy).Contents (Elt F)),
    unary main_v89 main_v90 (broadcastInDim S16384x512 ![0, 1] bcast_S1x512_S16384x512_0_1 : (⟨S1x512, .f32⟩ : BufTy).Contents (Elt F) → (⟨S16384x512, .f32⟩ : BufTy).Contents (Elt F)),
    binary main_v86 main_v90 main_v91 (addf : (⟨S16384x512, .f32⟩ : BufTy).Contents (Elt F) → (⟨S16384x512, .f32⟩ : BufTy).Contents (Elt F) → (⟨S16384x512, .f32⟩ : BufTy).Contents (Elt F)) ]

/-- The buffers step `s4d` writes. -/
abbrev s4d_W : List (Ref sig .tc) := [main_v77, main_v78, main_cst_2, main_v79, main_v80, main_v81, main_v82, main_cst_3, main_v83, main_v84, main_v85, main_v86, main_v87, main_cst_4, main_v88, main_v89, main_v90, main_v91]

set_option maxRecDepth 8192 in
/-- Step `s4d` writes only the buffers of its list. -/
theorem s4d_writes : (s4d : List (HloOp τ sig (Elt F))).Forall fun op => op.writes ⊆ (s4d_W.map (Proc.devRef (τ := τ) .tc)).toFinset :=
  forall_writes_sub_of_map rfl

/-- A buffer step `s4d` does not write keeps its contents. -/
theorem s4d_keep (V : Valuation τ sig (Elt F)) (r : Ref sig .tc) (h : r ∉ s4d_W) :
    after s4d V (Proc.devRef .tc r) = V (Proc.devRef .tc r) :=
  after_of_writes_sub s4d V s4d_writes h

set_option maxRecDepth 8192 in
/-- Step `s4d` touches only the program's buffers. -/
theorem s4d_sub : (s4d : List (HloOp τ sig (Elt F))).Forall fun op => op.bufs ⊆ tcRefs τ sig :=
  ⟨reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

set_option maxRecDepth 8192 in
/-- Step `s4d` allocates nothing. -/
theorem s4d_fresh : (s4d : List (HloOp τ sig (Elt F))).Forall fun op => op.fresh = ∅ :=
  ⟨rfl, rfl, rfl, rfl, rfl, rfl, rfl, rfl, rfl, rfl, rfl, rfl, rfl, rfl, rfl, rfl, rfl, rfl⟩

/-- Operations 103 to 107: step `s4a`. -/
abbrev s4a : List (HloOp τ sig (Elt F)) :=
  [ TRef.nullary (TRef.of (T := ⟨S16384x512, .i32⟩) main_call2_v0) (iotaInDim S16384x512 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x512, .f32⟩) main_v91) (TRef.of (T := ⟨S16384x512, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x512_S16384_d1 h_S_ j).1),
    TRef.quaternary (TRef.of (T := ⟨S16384x512, .f32⟩) main_v91) (TRef.of (T := ⟨S16384x512, .i32⟩) main_call2_v0) (TRef.of (T := ⟨S_, .f32⟩) main_call2_cst) (TRef.of (T := ⟨S_, .i32⟩) main_call2_c) (TRef.of (T := ⟨S16384, .i32⟩) main_v92) (fun x y u v j => (Host.argReduce reducer_argmin_f32_i32 x y u v reducesTo_S16384x512_S16384_d1 h_S_ j).2) ]

/-- The buffers step `s4a` writes. -/
abbrev s4a_W : List (Ref sig .tc) := [main_call2_v0, main_call2_cst, main_call2_c, main_call2_v1_0, main_v92]

set_option maxRecDepth 8192 in
/-- Step `s4a` writes only the buffers of its list. -/
theorem s4a_writes : (s4a : List (HloOp τ sig (Elt F))).Forall fun op => op.writes ⊆ (s4a_W.map (Proc.devRef (τ := τ) .tc)).toFinset :=
  forall_writes_sub_of_map rfl

/-- A buffer step `s4a` does not write keeps its contents. -/
theorem s4a_keep (V : Valuation τ sig (Elt F)) (r : Ref sig .tc) (h : r ∉ s4a_W) :
    after s4a V (Proc.devRef .tc r) = V (Proc.devRef .tc r) :=
  after_of_writes_sub s4a V s4a_writes h

set_option maxRecDepth 8192 in
/-- Step `s4a` touches only the program's buffers. -/
theorem s4a_sub : (s4a : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- Step `s4a` allocates nothing. -/
theorem s4a_fresh : (s4a : List (HloOp τ sig (Elt F))).Forall fun op => op.fresh = ∅ :=
  ⟨rfl, rfl, rfl, rfl, rfl⟩

/-- Operations 108 to 124: step `s4ta`. -/
abbrev s4ta : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v92) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v92) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v92) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1) ]

/-- The buffers step `s4ta` writes. -/
abbrev s4ta_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3]

set_option maxRecDepth 8192 in
/-- Step `s4ta` writes only the buffers of its list. -/
theorem s4ta_writes : (s4ta : List (HloOp τ sig (Elt F))).Forall fun op => op.writes ⊆ (s4ta_W.map (Proc.devRef (τ := τ) .tc)).toFinset :=
  forall_writes_sub_of_map rfl

/-- A buffer step `s4ta` does not write keeps its contents. -/
theorem s4ta_keep (V : Valuation τ sig (Elt F)) (r : Ref sig .tc) (h : r ∉ s4ta_W) :
    after s4ta V (Proc.devRef .tc r) = V (Proc.devRef .tc r) :=
  after_of_writes_sub s4ta V s4ta_writes h

set_option maxRecDepth 8192 in
/-- Step `s4ta` touches only the program's buffers. -/
theorem s4ta_sub : (s4ta : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub ..⟩

set_option maxRecDepth 8192 in
/-- Step `s4ta` allocates nothing. -/
theorem s4ta_fresh : (s4ta : List (HloOp τ sig (Elt F))).Forall fun op => op.fresh = ∅ :=
  ⟨rfl, rfl, rfl, rfl, rfl, rfl, rfl, rfl, rfl, rfl, rfl, rfl, rfl, rfl, rfl, rfl, rfl⟩

/-- Operations 125 to 131: step `s4tb`. -/
abbrev s4tb : List (HloOp τ sig (Elt F)) :=
  [ TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S512x64, .f32⟩) main_arg1) (TRef.of (T := ⟨S16384x1, .i32⟩) main_call3_v5) (TRef.of (T := ⟨S16384x64, .f32⟩) main_call3_v13) (fun x i => Host.gather gather_S512x64_S16384x1_S16384x64_1_0_n_n_0_1_164 x i),
    TRef.unary (TRef.of (T := ⟨S16384, .i1⟩) main_call3_v12) (TRef.of (T := ⟨S16384x64, .i1⟩) main_call3_v14) (broadcastInDim S16384x64 ![0] bcast_S16384_S16384x64_0),
    TRef.nullary (TRef.of (T := ⟨S_, .f32⟩) main_call3_cst) (constant S_ .f32 0x7FC00000#32),
    TRef.unary (TRef.of (T := ⟨S_, .f32⟩) main_call3_cst) (TRef.of (T := ⟨S16384x64, .f32⟩) main_call3_v15) (broadcastInDim S16384x64 ![] bcast_S_S16384x64),
    TRef.ternary (TRef.of (T := ⟨S16384x64, .i1⟩) main_call3_v14) (TRef.of (T := ⟨S16384x64, .f32⟩) main_call3_v13) (TRef.of (T := ⟨S16384x64, .f32⟩) main_call3_v15) (TRef.of (T := ⟨S16384x64, .f32⟩) main_v93) select,
    reshape main_v93 main_v94 (rfl : (.f32 : EltTy) = .f32) shapeCasts_S16384x64_S256x8x8x64 ]

/-- The buffers step `s4tb` writes. -/
abbrev s4tb_W : List (Ref sig .tc) := [main_call3_v12, main_call3_v13, main_call3_v14, main_call3_cst, main_call3_v15, main_v93, main_v94]

set_option maxRecDepth 8192 in
/-- Step `s4tb` writes only the buffers of its list. -/
theorem s4tb_writes : (s4tb : List (HloOp τ sig (Elt F))).Forall fun op => op.writes ⊆ (s4tb_W.map (Proc.devRef (τ := τ) .tc)).toFinset :=
  forall_writes_sub_of_map rfl

/-- A buffer step `s4tb` does not write keeps its contents. -/
theorem s4tb_keep (V : Valuation τ sig (Elt F)) (r : Ref sig .tc) (h : r ∉ s4tb_W) :
    after s4tb V (Proc.devRef .tc r) = V (Proc.devRef .tc r) :=
  after_of_writes_sub s4tb V s4tb_writes h

set_option maxRecDepth 8192 in
/-- Step `s4tb` touches only the program's buffers. -/
theorem s4tb_sub : (s4tb : List (HloOp τ sig (Elt F))).Forall fun op => op.bufs ⊆ tcRefs τ sig :=
  ⟨binary_bufs_sub .., binary_bufs_sub .., unary_bufs_sub .., nullary_bufs_sub .., unary_bufs_sub .., ternary_bufs_sub .., reshape_bufs_sub ..⟩

set_option maxRecDepth 8192 in
/-- Step `s4tb` allocates nothing. -/
theorem s4tb_fresh : (s4tb : List (HloOp τ sig (Elt F))).Forall fun op => op.fresh = ∅ :=
  ⟨rfl, rfl, rfl, rfl, rfl, rfl, rfl⟩

/-- Operations 132 to 133: step `s4e`. -/
abbrev s4e : List (HloOp τ sig (Elt F)) :=
  [ binary main_v94 main_v76 main_v95 (subf : (⟨S256x8x8x64, .f32⟩ : BufTy).Contents (Elt F) → (⟨S256x8x8x64, .f32⟩ : BufTy).Contents (Elt F) → (⟨S256x8x8x64, .f32⟩ : BufTy).Contents (Elt F)),
    binary main_v76 main_v95 main_v96 (addf : (⟨S256x8x8x64, .f32⟩ : BufTy).Contents (Elt F) → (⟨S256x8x8x64, .f32⟩ : BufTy).Contents (Elt F) → (⟨S256x8x8x64, .f32⟩ : BufTy).Contents (Elt F)) ]

/-- The buffers step `s4e` writes. -/
abbrev s4e_W : List (Ref sig .tc) := [main_v95, main_v96]

set_option maxRecDepth 8192 in
/-- Step `s4e` writes only the buffers of its list. -/
theorem s4e_writes : (s4e : List (HloOp τ sig (Elt F))).Forall fun op => op.writes ⊆ (s4e_W.map (Proc.devRef (τ := τ) .tc)).toFinset :=
  forall_writes_sub_of_map rfl

/-- A buffer step `s4e` does not write keeps its contents. -/
theorem s4e_keep (V : Valuation τ sig (Elt F)) (r : Ref sig .tc) (h : r ∉ s4e_W) :
    after s4e V (Proc.devRef .tc r) = V (Proc.devRef .tc r) :=
  after_of_writes_sub s4e V s4e_writes h

set_option maxRecDepth 8192 in
/-- Step `s4e` touches only the program's buffers. -/
theorem s4e_sub : (s4e : List (HloOp τ sig (Elt F))).Forall fun op => op.bufs ⊆ tcRefs τ sig :=
  ⟨binary_bufs_sub .., binary_bufs_sub ..⟩

set_option maxRecDepth 8192 in
/-- Step `s4e` allocates nothing. -/
theorem s4e_fresh : (s4e : List (HloOp τ sig (Elt F))).Forall fun op => op.fresh = ∅ :=
  ⟨rfl, rfl⟩

/-- Operations 134 to 136: step `s5p`. -/
abbrev s5p : List (HloOp τ sig (Elt F)) :=
  [ unary main_v96 main_v97 ((transpose S256x64x8x8 [0, 3, 1, 2] · transposes_S256x8x8x64_S256x64x8x8_0_3_1_2) : (⟨S256x8x8x64, .f32⟩ : BufTy).Contents (Elt F) → (⟨S256x64x8x8, .f32⟩ : BufTy).Contents (Elt F)),
    nullary main_cst_5 (constant S_ .f32 0x00000000#32),
    binary main_v97 main_cst_5 main_v98 ((fun x v => pad S256x64x10x10 ![0, 0, 1, 1] ![0, 0, 1, 1] ![0, 0, 0, 0] x v pads_S256x64x8x8_S256x64x10x10_000_000_110_110 h_S_) : (⟨S256x64x8x8, .f32⟩ : BufTy).Contents (Elt F) → (⟨S_, .f32⟩ : BufTy).Contents (Elt F) → (⟨S256x64x10x10, .f32⟩ : BufTy).Contents (Elt F)) ]

/-- The buffers step `s5p` writes. -/
abbrev s5p_W : List (Ref sig .tc) := [main_v97, main_cst_5, main_v98]

set_option maxRecDepth 8192 in
/-- Step `s5p` writes only the buffers of its list. -/
theorem s5p_writes : (s5p : List (HloOp τ sig (Elt F))).Forall fun op => op.writes ⊆ (s5p_W.map (Proc.devRef (τ := τ) .tc)).toFinset :=
  forall_writes_sub_of_map rfl

/-- A buffer step `s5p` does not write keeps its contents. -/
theorem s5p_keep (V : Valuation τ sig (Elt F)) (r : Ref sig .tc) (h : r ∉ s5p_W) :
    after s5p V (Proc.devRef .tc r) = V (Proc.devRef .tc r) :=
  after_of_writes_sub s5p V s5p_writes h

set_option maxRecDepth 8192 in
/-- Step `s5p` touches only the program's buffers. -/
theorem s5p_sub : (s5p : List (HloOp τ sig (Elt F))).Forall fun op => op.bufs ⊆ tcRefs τ sig :=
  ⟨unary_bufs_sub .., nullary_bufs_sub .., binary_bufs_sub ..⟩

set_option maxRecDepth 8192 in
/-- Step `s5p` allocates nothing. -/
theorem s5p_fresh : (s5p : List (HloOp τ sig (Elt F))).Forall fun op => op.fresh = ∅ :=
  ⟨rfl, rfl, rfl⟩

/-- Operations 137 to 143: step `s5r`. -/
abbrev s5r : List (HloOp τ sig (Elt F)) :=
  [ unary main_v98 main_v99 ((extractStridedSlice S256x64x8x10 ![0, 0, 0, 0] · slices_S256x64x10x10_S256x64x8x10_0_0_0_0) : (⟨S256x64x10x10, .f32⟩ : BufTy).Contents (Elt F) → (⟨S256x64x8x10, .f32⟩ : BufTy).Contents (Elt F)),
    unary main_v98 main_v100 ((extractStridedSlice S256x64x8x10 ![0, 0, 1, 0] · slices_S256x64x10x10_S256x64x8x10_0_0_1_0) : (⟨S256x64x10x10, .f32⟩ : BufTy).Contents (Elt F) → (⟨S256x64x8x10, .f32⟩ : BufTy).Contents (Elt F)),
    unary main_v98 main_v101 ((extractStridedSlice S256x64x8x10 ![0, 0, 2, 0] · slices_S256x64x10x10_S256x64x8x10_0_0_2_0) : (⟨S256x64x10x10, .f32⟩ : BufTy).Contents (Elt F) → (⟨S256x64x8x10, .f32⟩ : BufTy).Contents (Elt F)),
    unary main_v99 main_v102 (broadcastInDim S256x64x1x8x10 ![0, 1, 3, 4] bcast_S256x64x8x10_S256x64x1x8x10_0_1_3_4 : (⟨S256x64x8x10, .f32⟩ : BufTy).Contents (Elt F) → (⟨S256x64x1x8x10, .f32⟩ : BufTy).Contents (Elt F)),
    unary main_v100 main_v103 (broadcastInDim S256x64x1x8x10 ![0, 1, 3, 4] bcast_S256x64x8x10_S256x64x1x8x10_0_1_3_4 : (⟨S256x64x8x10, .f32⟩ : BufTy).Contents (Elt F) → (⟨S256x64x1x8x10, .f32⟩ : BufTy).Contents (Elt F)),
    unary main_v101 main_v104 (broadcastInDim S256x64x1x8x10 ![0, 1, 3, 4] bcast_S256x64x8x10_S256x64x1x8x10_0_1_3_4 : (⟨S256x64x8x10, .f32⟩ : BufTy).Contents (Elt F) → (⟨S256x64x1x8x10, .f32⟩ : BufTy).Contents (Elt F)),
    nary ![main_v102, main_v103, main_v104] main_v105 (fun u => fn_main_v105 (F := F) (u 0) (u 1) (u 2)) ]

/-- The buffers step `s5r` writes. -/
abbrev s5r_W : List (Ref sig .tc) := [main_v99, main_v100, main_v101, main_v102, main_v103, main_v104, main_v105]

set_option maxRecDepth 8192 in
/-- Step `s5r` writes only the buffers of its list. -/
theorem s5r_writes : (s5r : List (HloOp τ sig (Elt F))).Forall fun op => op.writes ⊆ (s5r_W.map (Proc.devRef (τ := τ) .tc)).toFinset :=
  forall_writes_sub_of_map rfl

/-- A buffer step `s5r` does not write keeps its contents. -/
theorem s5r_keep (V : Valuation τ sig (Elt F)) (r : Ref sig .tc) (h : r ∉ s5r_W) :
    after s5r V (Proc.devRef .tc r) = V (Proc.devRef .tc r) :=
  after_of_writes_sub s5r V s5r_writes h

set_option maxRecDepth 8192 in
/-- Step `s5r` touches only the program's buffers. -/
theorem s5r_sub : (s5r : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩

set_option maxRecDepth 8192 in
/-- Step `s5r` allocates nothing. -/
theorem s5r_fresh : (s5r : List (HloOp τ sig (Elt F))).Forall fun op => op.fresh = ∅ :=
  ⟨rfl, rfl, rfl, rfl, rfl, rfl, rfl⟩

/-- Operations 144 to 150: step `s5w`. -/
abbrev s5w : List (HloOp τ sig (Elt F)) :=
  [ unary main_v105 main_v106 ((extractStridedSlice S256x64x3x8x8 ![0, 0, 0, 0, 0] · slices_S256x64x3x8x10_S256x64x3x8x8_0_0_0_0_0) : (⟨S256x64x3x8x10, .f32⟩ : BufTy).Contents (Elt F) → (⟨S256x64x3x8x8, .f32⟩ : BufTy).Contents (Elt F)),
    unary main_v105 main_v107 ((extractStridedSlice S256x64x3x8x8 ![0, 0, 0, 0, 1] · slices_S256x64x3x8x10_S256x64x3x8x8_0_0_0_0_1) : (⟨S256x64x3x8x10, .f32⟩ : BufTy).Contents (Elt F) → (⟨S256x64x3x8x8, .f32⟩ : BufTy).Contents (Elt F)),
    unary main_v105 main_v108 ((extractStridedSlice S256x64x3x8x8 ![0, 0, 0, 0, 2] · slices_S256x64x3x8x10_S256x64x3x8x8_0_0_0_0_2) : (⟨S256x64x3x8x10, .f32⟩ : BufTy).Contents (Elt F) → (⟨S256x64x3x8x8, .f32⟩ : BufTy).Contents (Elt F)),
    unary main_v106 main_v109 (broadcastInDim S256x64x3x1x8x8 ![0, 1, 2, 4, 5] bcast_S256x64x3x8x8_S256x64x3x1x8x8_0_1_2_4_5 : (⟨S256x64x3x8x8, .f32⟩ : BufTy).Contents (Elt F) → (⟨S256x64x3x1x8x8, .f32⟩ : BufTy).Contents (Elt F)),
    unary main_v107 main_v110 (broadcastInDim S256x64x3x1x8x8 ![0, 1, 2, 4, 5] bcast_S256x64x3x8x8_S256x64x3x1x8x8_0_1_2_4_5 : (⟨S256x64x3x8x8, .f32⟩ : BufTy).Contents (Elt F) → (⟨S256x64x3x1x8x8, .f32⟩ : BufTy).Contents (Elt F)),
    unary main_v108 main_v111 (broadcastInDim S256x64x3x1x8x8 ![0, 1, 2, 4, 5] bcast_S256x64x3x8x8_S256x64x3x1x8x8_0_1_2_4_5 : (⟨S256x64x3x8x8, .f32⟩ : BufTy).Contents (Elt F) → (⟨S256x64x3x1x8x8, .f32⟩ : BufTy).Contents (Elt F)),
    nary ![main_v109, main_v110, main_v111] main_v112 (fun u => fn_main_v112 (F := F) (u 0) (u 1) (u 2)) ]

/-- The buffers step `s5w` writes. -/
abbrev s5w_W : List (Ref sig .tc) := [main_v106, main_v107, main_v108, main_v109, main_v110, main_v111, main_v112]

set_option maxRecDepth 8192 in
/-- Step `s5w` writes only the buffers of its list. -/
theorem s5w_writes : (s5w : List (HloOp τ sig (Elt F))).Forall fun op => op.writes ⊆ (s5w_W.map (Proc.devRef (τ := τ) .tc)).toFinset :=
  forall_writes_sub_of_map rfl

/-- A buffer step `s5w` does not write keeps its contents. -/
theorem s5w_keep (V : Valuation τ sig (Elt F)) (r : Ref sig .tc) (h : r ∉ s5w_W) :
    after s5w V (Proc.devRef .tc r) = V (Proc.devRef .tc r) :=
  after_of_writes_sub s5w V s5w_writes h

set_option maxRecDepth 8192 in
/-- Step `s5w` touches only the program's buffers. -/
theorem s5w_sub : (s5w : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩

set_option maxRecDepth 8192 in
/-- Step `s5w` allocates nothing. -/
theorem s5w_fresh : (s5w : List (HloOp τ sig (Elt F))).Forall fun op => op.fresh = ∅ :=
  ⟨rfl, rfl, rfl, rfl, rfl, rfl, rfl⟩

/-- Operations 151 to 160: step `s5d`. -/
abbrev s5d : List (HloOp τ sig (Elt F)) :=
  [ reshape main_v112 main_v113 (rfl : (.f32 : EltTy) = .f32) shapeCasts_S256x64x3x3x8x8_S256x64x9x8x8,
    reshape main_arg8 main_v114 (rfl : (.f32 : EltTy) = .f32) shapeCasts_S256x64x3x3_S256x64x9,
    binary main_v114 main_v113 main_v115 ((fun l r => Host.dotGeneral dot_S256x64x9_S256x64x9x8x8_S256x256x8x8_12_12_0_034_n_n none l r) : (⟨S256x64x9, .f32⟩ : BufTy).Contents (Elt F) → (⟨S256x64x9x8x8, .f32⟩ : BufTy).Contents (Elt F) → (⟨S256x256x8x8, .f32⟩ : BufTy).Contents (Elt F)),
    unary main_v115 main_v116 ((transpose S256x256x8x8 [1, 0, 2, 3] · transposes_S256x256x8x8_S256x256x8x8_1_0_2_3) : (⟨S256x256x8x8, .f32⟩ : BufTy).Contents (Elt F) → (⟨S256x256x8x8, .f32⟩ : BufTy).Contents (Elt F)),
    unary main_arg9 main_v117 (broadcastInDim S1x256x1x1 ![1] bcast_S256_S1x256x1x1_1 : (⟨S256, .f32⟩ : BufTy).Contents (Elt F) → (⟨S1x256x1x1, .f32⟩ : BufTy).Contents (Elt F)),
    unary main_v117 main_v118 (broadcastInDim S256x256x8x8 ![0, 1, 2, 3] bcast_S1x256x1x1_S256x256x8x8_0_1_2_3 : (⟨S1x256x1x1, .f32⟩ : BufTy).Contents (Elt F) → (⟨S256x256x8x8, .f32⟩ : BufTy).Contents (Elt F)),
    binary main_v116 main_v118 main_v119 (addf : (⟨S256x256x8x8, .f32⟩ : BufTy).Contents (Elt F) → (⟨S256x256x8x8, .f32⟩ : BufTy).Contents (Elt F) → (⟨S256x256x8x8, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S256x256x8x8, .f32⟩) main_call4_v0) (broadcastInDim S256x256x8x8 ![] bcast_S_S256x256x8x8),
    TRef.binary (TRef.of (T := ⟨S256x256x8x8, .f32⟩) main_v119) (TRef.of (T := ⟨S256x256x8x8, .f32⟩) main_call4_v0) (TRef.of (T := ⟨S256x256x8x8, .f32⟩) main_v120) maximumf ]

/-- The buffers step `s5d` writes. -/
abbrev s5d_W : List (Ref sig .tc) := [main_v113, main_v114, main_v115, main_v116, main_v117, main_v118, main_v119, main_call4_cst, main_call4_v0, main_v120]

set_option maxRecDepth 8192 in
/-- Step `s5d` writes only the buffers of its list. -/
theorem s5d_writes : (s5d : List (HloOp τ sig (Elt F))).Forall fun op => op.writes ⊆ (s5d_W.map (Proc.devRef (τ := τ) .tc)).toFinset :=
  forall_writes_sub_of_map rfl

/-- A buffer step `s5d` does not write keeps its contents. -/
theorem s5d_keep (V : Valuation τ sig (Elt F)) (r : Ref sig .tc) (h : r ∉ s5d_W) :
    after s5d V (Proc.devRef .tc r) = V (Proc.devRef .tc r) :=
  after_of_writes_sub s5d V s5d_writes h

set_option maxRecDepth 8192 in
/-- Step `s5d` touches only the program's buffers. -/
theorem s5d_sub : (s5d : List (HloOp τ sig (Elt F))).Forall fun op => op.bufs ⊆ tcRefs τ sig :=
  ⟨reshape_bufs_sub .., reshape_bufs_sub .., binary_bufs_sub .., unary_bufs_sub .., unary_bufs_sub .., unary_bufs_sub .., binary_bufs_sub .., nullary_bufs_sub .., unary_bufs_sub .., binary_bufs_sub ..⟩

set_option maxRecDepth 8192 in
/-- Step `s5d` allocates nothing. -/
theorem s5d_fresh : (s5d : List (HloOp τ sig (Elt F))).Forall fun op => op.fresh = ∅ :=
  ⟨rfl, rfl, rfl, rfl, rfl, rfl, rfl, rfl, rfl, rfl⟩

/-- Operations 161 to 162: step `s6p`. -/
abbrev s6p : List (HloOp τ sig (Elt F)) :=
  [ nullary main_cst_6 (constant S_ .f32 0x00000000#32),
    binary main_v120 main_cst_6 main_v121 ((fun x v => pad S256x256x19x19 ![0, 0, 2, 2] ![0, 0, 2, 2] ![0, 0, 1, 1] x v pads_S256x256x8x8_S256x256x19x19_000_000_221_221 h_S_) : (⟨S256x256x8x8, .f32⟩ : BufTy).Contents (Elt F) → (⟨S_, .f32⟩ : BufTy).Contents (Elt F) → (⟨S256x256x19x19, .f32⟩ : BufTy).Contents (Elt F)) ]

/-- The buffers step `s6p` writes. -/
abbrev s6p_W : List (Ref sig .tc) := [main_cst_6, main_v121]

set_option maxRecDepth 8192 in
/-- Step `s6p` writes only the buffers of its list. -/
theorem s6p_writes : (s6p : List (HloOp τ sig (Elt F))).Forall fun op => op.writes ⊆ (s6p_W.map (Proc.devRef (τ := τ) .tc)).toFinset :=
  forall_writes_sub_of_map rfl

/-- A buffer step `s6p` does not write keeps its contents. -/
theorem s6p_keep (V : Valuation τ sig (Elt F)) (r : Ref sig .tc) (h : r ∉ s6p_W) :
    after s6p V (Proc.devRef .tc r) = V (Proc.devRef .tc r) :=
  after_of_writes_sub s6p V s6p_writes h

set_option maxRecDepth 8192 in
/-- Step `s6p` touches only the program's buffers. -/
theorem s6p_sub : (s6p : List (HloOp τ sig (Elt F))).Forall fun op => op.bufs ⊆ tcRefs τ sig :=
  ⟨nullary_bufs_sub .., binary_bufs_sub ..⟩

set_option maxRecDepth 8192 in
/-- Step `s6p` allocates nothing. -/
theorem s6p_fresh : (s6p : List (HloOp τ sig (Elt F))).Forall fun op => op.fresh = ∅ :=
  ⟨rfl, rfl⟩

/-- Operations 163 to 171: step `s6r`. -/
abbrev s6r : List (HloOp τ sig (Elt F)) :=
  [ unary main_v121 main_v122 ((extractStridedSlice S256x256x16x19 ![0, 0, 0, 0] · slices_S256x256x19x19_S256x256x16x19_0_0_0_0) : (⟨S256x256x19x19, .f32⟩ : BufTy).Contents (Elt F) → (⟨S256x256x16x19, .f32⟩ : BufTy).Contents (Elt F)),
    unary main_v121 main_v123 ((extractStridedSlice S256x256x16x19 ![0, 0, 1, 0] · slices_S256x256x19x19_S256x256x16x19_0_0_1_0) : (⟨S256x256x19x19, .f32⟩ : BufTy).Contents (Elt F) → (⟨S256x256x16x19, .f32⟩ : BufTy).Contents (Elt F)),
    unary main_v121 main_v124 ((extractStridedSlice S256x256x16x19 ![0, 0, 2, 0] · slices_S256x256x19x19_S256x256x16x19_0_0_2_0) : (⟨S256x256x19x19, .f32⟩ : BufTy).Contents (Elt F) → (⟨S256x256x16x19, .f32⟩ : BufTy).Contents (Elt F)),
    unary main_v121 main_v125 ((extractStridedSlice S256x256x16x19 ![0, 0, 3, 0] · slices_S256x256x19x19_S256x256x16x19_0_0_3_0) : (⟨S256x256x19x19, .f32⟩ : BufTy).Contents (Elt F) → (⟨S256x256x16x19, .f32⟩ : BufTy).Contents (Elt F)),
    unary main_v122 main_v126 (broadcastInDim S256x256x1x16x19 ![0, 1, 3, 4] bcast_S256x256x16x19_S256x256x1x16x19_0_1_3_4 : (⟨S256x256x16x19, .f32⟩ : BufTy).Contents (Elt F) → (⟨S256x256x1x16x19, .f32⟩ : BufTy).Contents (Elt F)),
    unary main_v123 main_v127 (broadcastInDim S256x256x1x16x19 ![0, 1, 3, 4] bcast_S256x256x16x19_S256x256x1x16x19_0_1_3_4 : (⟨S256x256x16x19, .f32⟩ : BufTy).Contents (Elt F) → (⟨S256x256x1x16x19, .f32⟩ : BufTy).Contents (Elt F)),
    unary main_v124 main_v128 (broadcastInDim S256x256x1x16x19 ![0, 1, 3, 4] bcast_S256x256x16x19_S256x256x1x16x19_0_1_3_4 : (⟨S256x256x16x19, .f32⟩ : BufTy).Contents (Elt F) → (⟨S256x256x1x16x19, .f32⟩ : BufTy).Contents (Elt F)),
    unary main_v125 main_v129 (broadcastInDim S256x256x1x16x19 ![0, 1, 3, 4] bcast_S256x256x16x19_S256x256x1x16x19_0_1_3_4 : (⟨S256x256x16x19, .f32⟩ : BufTy).Contents (Elt F) → (⟨S256x256x1x16x19, .f32⟩ : BufTy).Contents (Elt F)),
    nary ![main_v126, main_v127, main_v128, main_v129] main_v130 (fun u => fn_main_v130 (F := F) (u 0) (u 1) (u 2) (u 3)) ]

/-- The buffers step `s6r` writes. -/
abbrev s6r_W : List (Ref sig .tc) := [main_v122, main_v123, main_v124, main_v125, main_v126, main_v127, main_v128, main_v129, main_v130]

set_option maxRecDepth 8192 in
/-- Step `s6r` writes only the buffers of its list. -/
theorem s6r_writes : (s6r : List (HloOp τ sig (Elt F))).Forall fun op => op.writes ⊆ (s6r_W.map (Proc.devRef (τ := τ) .tc)).toFinset :=
  forall_writes_sub_of_map rfl

/-- A buffer step `s6r` does not write keeps its contents. -/
theorem s6r_keep (V : Valuation τ sig (Elt F)) (r : Ref sig .tc) (h : r ∉ s6r_W) :
    after s6r V (Proc.devRef .tc r) = V (Proc.devRef .tc r) :=
  after_of_writes_sub s6r V s6r_writes h

set_option maxRecDepth 8192 in
/-- Step `s6r` touches only the program's buffers. -/
theorem s6r_sub : (s6r : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s6r` allocates nothing. -/
theorem s6r_fresh : (s6r : List (HloOp τ sig (Elt F))).Forall fun op => op.fresh = ∅ :=
  ⟨rfl, rfl, rfl, rfl, rfl, rfl, rfl, rfl, rfl⟩

/-- Operations 172 to 180: step `s6w`. -/
abbrev s6w : List (HloOp τ sig (Elt F)) :=
  [ unary main_v130 main_v131 ((extractStridedSlice S256x256x4x16x16 ![0, 0, 0, 0, 0] · slices_S256x256x4x16x19_S256x256x4x16x16_0_0_0_0_0) : (⟨S256x256x4x16x19, .f32⟩ : BufTy).Contents (Elt F) → (⟨S256x256x4x16x16, .f32⟩ : BufTy).Contents (Elt F)),
    unary main_v130 main_v132 ((extractStridedSlice S256x256x4x16x16 ![0, 0, 0, 0, 1] · slices_S256x256x4x16x19_S256x256x4x16x16_0_0_0_0_1) : (⟨S256x256x4x16x19, .f32⟩ : BufTy).Contents (Elt F) → (⟨S256x256x4x16x16, .f32⟩ : BufTy).Contents (Elt F)),
    unary main_v130 main_v133 ((extractStridedSlice S256x256x4x16x16 ![0, 0, 0, 0, 2] · slices_S256x256x4x16x19_S256x256x4x16x16_0_0_0_0_2) : (⟨S256x256x4x16x19, .f32⟩ : BufTy).Contents (Elt F) → (⟨S256x256x4x16x16, .f32⟩ : BufTy).Contents (Elt F)),
    unary main_v130 main_v134 ((extractStridedSlice S256x256x4x16x16 ![0, 0, 0, 0, 3] · slices_S256x256x4x16x19_S256x256x4x16x16_0_0_0_0_3) : (⟨S256x256x4x16x19, .f32⟩ : BufTy).Contents (Elt F) → (⟨S256x256x4x16x16, .f32⟩ : BufTy).Contents (Elt F)),
    unary main_v131 main_v135 (broadcastInDim S256x256x4x1x16x16 ![0, 1, 2, 4, 5] bcast_S256x256x4x16x16_S256x256x4x1x16x16_0_1_2_4_5 : (⟨S256x256x4x16x16, .f32⟩ : BufTy).Contents (Elt F) → (⟨S256x256x4x1x16x16, .f32⟩ : BufTy).Contents (Elt F)),
    unary main_v132 main_v136 (broadcastInDim S256x256x4x1x16x16 ![0, 1, 2, 4, 5] bcast_S256x256x4x16x16_S256x256x4x1x16x16_0_1_2_4_5 : (⟨S256x256x4x16x16, .f32⟩ : BufTy).Contents (Elt F) → (⟨S256x256x4x1x16x16, .f32⟩ : BufTy).Contents (Elt F)),
    unary main_v133 main_v137 (broadcastInDim S256x256x4x1x16x16 ![0, 1, 2, 4, 5] bcast_S256x256x4x16x16_S256x256x4x1x16x16_0_1_2_4_5 : (⟨S256x256x4x16x16, .f32⟩ : BufTy).Contents (Elt F) → (⟨S256x256x4x1x16x16, .f32⟩ : BufTy).Contents (Elt F)),
    unary main_v134 main_v138 (broadcastInDim S256x256x4x1x16x16 ![0, 1, 2, 4, 5] bcast_S256x256x4x16x16_S256x256x4x1x16x16_0_1_2_4_5 : (⟨S256x256x4x16x16, .f32⟩ : BufTy).Contents (Elt F) → (⟨S256x256x4x1x16x16, .f32⟩ : BufTy).Contents (Elt F)),
    nary ![main_v135, main_v136, main_v137, main_v138] main_v139 (fun u => fn_main_v139 (F := F) (u 0) (u 1) (u 2) (u 3)) ]

/-- The buffers step `s6w` writes. -/
abbrev s6w_W : List (Ref sig .tc) := [main_v131, main_v132, main_v133, main_v134, main_v135, main_v136, main_v137, main_v138, main_v139]

set_option maxRecDepth 8192 in
/-- Step `s6w` writes only the buffers of its list. -/
theorem s6w_writes : (s6w : List (HloOp τ sig (Elt F))).Forall fun op => op.writes ⊆ (s6w_W.map (Proc.devRef (τ := τ) .tc)).toFinset :=
  forall_writes_sub_of_map rfl

/-- A buffer step `s6w` does not write keeps its contents. -/
theorem s6w_keep (V : Valuation τ sig (Elt F)) (r : Ref sig .tc) (h : r ∉ s6w_W) :
    after s6w V (Proc.devRef .tc r) = V (Proc.devRef .tc r) :=
  after_of_writes_sub s6w V s6w_writes h

set_option maxRecDepth 8192 in
/-- Step `s6w` touches only the program's buffers. -/
theorem s6w_sub : (s6w : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s6w` allocates nothing. -/
theorem s6w_fresh : (s6w : List (HloOp τ sig (Elt F))).Forall fun op => op.fresh = ∅ :=
  ⟨rfl, rfl, rfl, rfl, rfl, rfl, rfl, rfl, rfl⟩

/-- Operations 181 to 190: step `s6d`. -/
abbrev s6d : List (HloOp τ sig (Elt F)) :=
  [ reshape main_v139 main_v140 (rfl : (.f32 : EltTy) = .f32) shapeCasts_S256x256x4x4x16x16_S256x256x16x16x16,
    reshape main_arg10 main_v141 (rfl : (.f32 : EltTy) = .f32) shapeCasts_S256x256x4x4_S256x256x16,
    binary main_v141 main_v140 main_v142 ((fun l r => Host.dotGeneral dot_S256x256x16_S256x256x16x16x16_S256x256x16x16_12_12_0_034_n_n none l r) : (⟨S256x256x16, .f32⟩ : BufTy).Contents (Elt F) → (⟨S256x256x16x16x16, .f32⟩ : BufTy).Contents (Elt F) → (⟨S256x256x16x16, .f32⟩ : BufTy).Contents (Elt F)),
    unary main_v142 main_v143 ((transpose S256x256x16x16 [1, 0, 2, 3] · transposes_S256x256x16x16_S256x256x16x16_1_0_2_3) : (⟨S256x256x16x16, .f32⟩ : BufTy).Contents (Elt F) → (⟨S256x256x16x16, .f32⟩ : BufTy).Contents (Elt F)),
    unary main_arg11 main_v144 (broadcastInDim S1x256x1x1 ![1] bcast_S256_S1x256x1x1_1 : (⟨S256, .f32⟩ : BufTy).Contents (Elt F) → (⟨S1x256x1x1, .f32⟩ : BufTy).Contents (Elt F)),
    unary main_v144 main_v145 (broadcastInDim S256x256x16x16 ![0, 1, 2, 3] bcast_S1x256x1x1_S256x256x16x16_0_1_2_3 : (⟨S1x256x1x1, .f32⟩ : BufTy).Contents (Elt F) → (⟨S256x256x16x16, .f32⟩ : BufTy).Contents (Elt F)),
    binary main_v143 main_v145 main_v146 (addf : (⟨S256x256x16x16, .f32⟩ : BufTy).Contents (Elt F) → (⟨S256x256x16x16, .f32⟩ : BufTy).Contents (Elt F) → (⟨S256x256x16x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S256x256x16x16, .f32⟩) main_call5_v0) (broadcastInDim S256x256x16x16 ![] bcast_S_S256x256x16x16),
    TRef.binary (TRef.of (T := ⟨S256x256x16x16, .f32⟩) main_v146) (TRef.of (T := ⟨S256x256x16x16, .f32⟩) main_call5_v0) (TRef.of (T := ⟨S256x256x16x16, .f32⟩) main_v147) maximumf ]

/-- The buffers step `s6d` writes. -/
abbrev s6d_W : List (Ref sig .tc) := [main_v140, main_v141, main_v142, main_v143, main_v144, main_v145, main_v146, main_call5_cst, main_call5_v0, main_v147]

set_option maxRecDepth 8192 in
/-- Step `s6d` writes only the buffers of its list. -/
theorem s6d_writes : (s6d : List (HloOp τ sig (Elt F))).Forall fun op => op.writes ⊆ (s6d_W.map (Proc.devRef (τ := τ) .tc)).toFinset :=
  forall_writes_sub_of_map rfl

/-- A buffer step `s6d` does not write keeps its contents. -/
theorem s6d_keep (V : Valuation τ sig (Elt F)) (r : Ref sig .tc) (h : r ∉ s6d_W) :
    after s6d V (Proc.devRef .tc r) = V (Proc.devRef .tc r) :=
  after_of_writes_sub s6d V s6d_writes h

set_option maxRecDepth 8192 in
/-- Step `s6d` touches only the program's buffers. -/
theorem s6d_sub : (s6d : List (HloOp τ sig (Elt F))).Forall fun op => op.bufs ⊆ tcRefs τ sig :=
  ⟨reshape_bufs_sub .., reshape_bufs_sub .., binary_bufs_sub .., unary_bufs_sub .., unary_bufs_sub .., unary_bufs_sub .., binary_bufs_sub .., nullary_bufs_sub .., unary_bufs_sub .., binary_bufs_sub ..⟩

set_option maxRecDepth 8192 in
/-- Step `s6d` allocates nothing. -/
theorem s6d_fresh : (s6d : List (HloOp τ sig (Elt F))).Forall fun op => op.fresh = ∅ :=
  ⟨rfl, rfl, rfl, rfl, rfl, rfl, rfl, rfl, rfl, rfl⟩

/-- Operations 191 to 192: step `s7p`. -/
abbrev s7p : List (HloOp τ sig (Elt F)) :=
  [ nullary main_cst_7 (constant S_ .f32 0x00000000#32),
    binary main_v147 main_cst_7 main_v148 ((fun x v => pad S256x256x35x35 ![0, 0, 2, 2] ![0, 0, 2, 2] ![0, 0, 1, 1] x v pads_S256x256x16x16_S256x256x35x35_000_000_221_221 h_S_) : (⟨S256x256x16x16, .f32⟩ : BufTy).Contents (Elt F) → (⟨S_, .f32⟩ : BufTy).Contents (Elt F) → (⟨S256x256x35x35, .f32⟩ : BufTy).Contents (Elt F)) ]

/-- The buffers step `s7p` writes. -/
abbrev s7p_W : List (Ref sig .tc) := [main_cst_7, main_v148]

set_option maxRecDepth 8192 in
/-- Step `s7p` writes only the buffers of its list. -/
theorem s7p_writes : (s7p : List (HloOp τ sig (Elt F))).Forall fun op => op.writes ⊆ (s7p_W.map (Proc.devRef (τ := τ) .tc)).toFinset :=
  forall_writes_sub_of_map rfl

/-- A buffer step `s7p` does not write keeps its contents. -/
theorem s7p_keep (V : Valuation τ sig (Elt F)) (r : Ref sig .tc) (h : r ∉ s7p_W) :
    after s7p V (Proc.devRef .tc r) = V (Proc.devRef .tc r) :=
  after_of_writes_sub s7p V s7p_writes h

set_option maxRecDepth 8192 in
/-- Step `s7p` touches only the program's buffers. -/
theorem s7p_sub : (s7p : List (HloOp τ sig (Elt F))).Forall fun op => op.bufs ⊆ tcRefs τ sig :=
  ⟨nullary_bufs_sub .., binary_bufs_sub ..⟩

set_option maxRecDepth 8192 in
/-- Step `s7p` allocates nothing. -/
theorem s7p_fresh : (s7p : List (HloOp τ sig (Elt F))).Forall fun op => op.fresh = ∅ :=
  ⟨rfl, rfl⟩

/-- Operations 193 to 201: step `s7r`. -/
abbrev s7r : List (HloOp τ sig (Elt F)) :=
  [ unary main_v148 main_v149 ((extractStridedSlice S256x256x32x35 ![0, 0, 0, 0] · slices_S256x256x35x35_S256x256x32x35_0_0_0_0) : (⟨S256x256x35x35, .f32⟩ : BufTy).Contents (Elt F) → (⟨S256x256x32x35, .f32⟩ : BufTy).Contents (Elt F)),
    unary main_v148 main_v150 ((extractStridedSlice S256x256x32x35 ![0, 0, 1, 0] · slices_S256x256x35x35_S256x256x32x35_0_0_1_0) : (⟨S256x256x35x35, .f32⟩ : BufTy).Contents (Elt F) → (⟨S256x256x32x35, .f32⟩ : BufTy).Contents (Elt F)),
    unary main_v148 main_v151 ((extractStridedSlice S256x256x32x35 ![0, 0, 2, 0] · slices_S256x256x35x35_S256x256x32x35_0_0_2_0) : (⟨S256x256x35x35, .f32⟩ : BufTy).Contents (Elt F) → (⟨S256x256x32x35, .f32⟩ : BufTy).Contents (Elt F)),
    unary main_v148 main_v152 ((extractStridedSlice S256x256x32x35 ![0, 0, 3, 0] · slices_S256x256x35x35_S256x256x32x35_0_0_3_0) : (⟨S256x256x35x35, .f32⟩ : BufTy).Contents (Elt F) → (⟨S256x256x32x35, .f32⟩ : BufTy).Contents (Elt F)),
    unary main_v149 main_v153 (broadcastInDim S256x256x1x32x35 ![0, 1, 3, 4] bcast_S256x256x32x35_S256x256x1x32x35_0_1_3_4 : (⟨S256x256x32x35, .f32⟩ : BufTy).Contents (Elt F) → (⟨S256x256x1x32x35, .f32⟩ : BufTy).Contents (Elt F)),
    unary main_v150 main_v154 (broadcastInDim S256x256x1x32x35 ![0, 1, 3, 4] bcast_S256x256x32x35_S256x256x1x32x35_0_1_3_4 : (⟨S256x256x32x35, .f32⟩ : BufTy).Contents (Elt F) → (⟨S256x256x1x32x35, .f32⟩ : BufTy).Contents (Elt F)),
    unary main_v151 main_v155 (broadcastInDim S256x256x1x32x35 ![0, 1, 3, 4] bcast_S256x256x32x35_S256x256x1x32x35_0_1_3_4 : (⟨S256x256x32x35, .f32⟩ : BufTy).Contents (Elt F) → (⟨S256x256x1x32x35, .f32⟩ : BufTy).Contents (Elt F)),
    unary main_v152 main_v156 (broadcastInDim S256x256x1x32x35 ![0, 1, 3, 4] bcast_S256x256x32x35_S256x256x1x32x35_0_1_3_4 : (⟨S256x256x32x35, .f32⟩ : BufTy).Contents (Elt F) → (⟨S256x256x1x32x35, .f32⟩ : BufTy).Contents (Elt F)),
    nary ![main_v153, main_v154, main_v155, main_v156] main_v157 (fun u => fn_main_v157 (F := F) (u 0) (u 1) (u 2) (u 3)) ]

/-- The buffers step `s7r` writes. -/
abbrev s7r_W : List (Ref sig .tc) := [main_v149, main_v150, main_v151, main_v152, main_v153, main_v154, main_v155, main_v156, main_v157]

set_option maxRecDepth 8192 in
/-- Step `s7r` writes only the buffers of its list. -/
theorem s7r_writes : (s7r : List (HloOp τ sig (Elt F))).Forall fun op => op.writes ⊆ (s7r_W.map (Proc.devRef (τ := τ) .tc)).toFinset :=
  forall_writes_sub_of_map rfl

/-- A buffer step `s7r` does not write keeps its contents. -/
theorem s7r_keep (V : Valuation τ sig (Elt F)) (r : Ref sig .tc) (h : r ∉ s7r_W) :
    after s7r V (Proc.devRef .tc r) = V (Proc.devRef .tc r) :=
  after_of_writes_sub s7r V s7r_writes h

set_option maxRecDepth 8192 in
/-- Step `s7r` touches only the program's buffers. -/
theorem s7r_sub : (s7r : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s7r` allocates nothing. -/
theorem s7r_fresh : (s7r : List (HloOp τ sig (Elt F))).Forall fun op => op.fresh = ∅ :=
  ⟨rfl, rfl, rfl, rfl, rfl, rfl, rfl, rfl, rfl⟩

/-- Operations 202 to 210: step `s7w`. -/
abbrev s7w : List (HloOp τ sig (Elt F)) :=
  [ unary main_v157 main_v158 ((extractStridedSlice S256x256x4x32x32 ![0, 0, 0, 0, 0] · slices_S256x256x4x32x35_S256x256x4x32x32_0_0_0_0_0) : (⟨S256x256x4x32x35, .f32⟩ : BufTy).Contents (Elt F) → (⟨S256x256x4x32x32, .f32⟩ : BufTy).Contents (Elt F)),
    unary main_v157 main_v159 ((extractStridedSlice S256x256x4x32x32 ![0, 0, 0, 0, 1] · slices_S256x256x4x32x35_S256x256x4x32x32_0_0_0_0_1) : (⟨S256x256x4x32x35, .f32⟩ : BufTy).Contents (Elt F) → (⟨S256x256x4x32x32, .f32⟩ : BufTy).Contents (Elt F)),
    unary main_v157 main_v160 ((extractStridedSlice S256x256x4x32x32 ![0, 0, 0, 0, 2] · slices_S256x256x4x32x35_S256x256x4x32x32_0_0_0_0_2) : (⟨S256x256x4x32x35, .f32⟩ : BufTy).Contents (Elt F) → (⟨S256x256x4x32x32, .f32⟩ : BufTy).Contents (Elt F)),
    unary main_v157 main_v161 ((extractStridedSlice S256x256x4x32x32 ![0, 0, 0, 0, 3] · slices_S256x256x4x32x35_S256x256x4x32x32_0_0_0_0_3) : (⟨S256x256x4x32x35, .f32⟩ : BufTy).Contents (Elt F) → (⟨S256x256x4x32x32, .f32⟩ : BufTy).Contents (Elt F)),
    unary main_v158 main_v162 (broadcastInDim S256x256x4x1x32x32 ![0, 1, 2, 4, 5] bcast_S256x256x4x32x32_S256x256x4x1x32x32_0_1_2_4_5 : (⟨S256x256x4x32x32, .f32⟩ : BufTy).Contents (Elt F) → (⟨S256x256x4x1x32x32, .f32⟩ : BufTy).Contents (Elt F)),
    unary main_v159 main_v163 (broadcastInDim S256x256x4x1x32x32 ![0, 1, 2, 4, 5] bcast_S256x256x4x32x32_S256x256x4x1x32x32_0_1_2_4_5 : (⟨S256x256x4x32x32, .f32⟩ : BufTy).Contents (Elt F) → (⟨S256x256x4x1x32x32, .f32⟩ : BufTy).Contents (Elt F)),
    unary main_v160 main_v164 (broadcastInDim S256x256x4x1x32x32 ![0, 1, 2, 4, 5] bcast_S256x256x4x32x32_S256x256x4x1x32x32_0_1_2_4_5 : (⟨S256x256x4x32x32, .f32⟩ : BufTy).Contents (Elt F) → (⟨S256x256x4x1x32x32, .f32⟩ : BufTy).Contents (Elt F)),
    unary main_v161 main_v165 (broadcastInDim S256x256x4x1x32x32 ![0, 1, 2, 4, 5] bcast_S256x256x4x32x32_S256x256x4x1x32x32_0_1_2_4_5 : (⟨S256x256x4x32x32, .f32⟩ : BufTy).Contents (Elt F) → (⟨S256x256x4x1x32x32, .f32⟩ : BufTy).Contents (Elt F)),
    nary ![main_v162, main_v163, main_v164, main_v165] main_v166 (fun u => fn_main_v166 (F := F) (u 0) (u 1) (u 2) (u 3)) ]

/-- The buffers step `s7w` writes. -/
abbrev s7w_W : List (Ref sig .tc) := [main_v158, main_v159, main_v160, main_v161, main_v162, main_v163, main_v164, main_v165, main_v166]

set_option maxRecDepth 8192 in
/-- Step `s7w` writes only the buffers of its list. -/
theorem s7w_writes : (s7w : List (HloOp τ sig (Elt F))).Forall fun op => op.writes ⊆ (s7w_W.map (Proc.devRef (τ := τ) .tc)).toFinset :=
  forall_writes_sub_of_map rfl

/-- A buffer step `s7w` does not write keeps its contents. -/
theorem s7w_keep (V : Valuation τ sig (Elt F)) (r : Ref sig .tc) (h : r ∉ s7w_W) :
    after s7w V (Proc.devRef .tc r) = V (Proc.devRef .tc r) :=
  after_of_writes_sub s7w V s7w_writes h

set_option maxRecDepth 8192 in
/-- Step `s7w` touches only the program's buffers. -/
theorem s7w_sub : (s7w : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

set_option maxRecDepth 8192 in
/-- Step `s7w` allocates nothing. -/
theorem s7w_fresh : (s7w : List (HloOp τ sig (Elt F))).Forall fun op => op.fresh = ∅ :=
  ⟨rfl, rfl, rfl, rfl, rfl, rfl, rfl, rfl, rfl⟩

/-- Operations 211 to 214: step `s7da`. -/
abbrev s7da : List (HloOp τ sig (Elt F)) :=
  [ reshape main_v166 main_v167 (rfl : (.f32 : EltTy) = .f32) shapeCasts_S256x256x4x4x32x32_S256x256x16x32x32,
    reshape main_arg12 main_v168 (rfl : (.f32 : EltTy) = .f32) shapeCasts_S3x256x4x4_S3x256x16,
    binary main_v168 main_v167 main_v169 ((fun l r => Host.dotGeneral dot_S3x256x16_S256x256x16x32x32_S3x256x32x32_12_12_0_034_n_n none l r) : (⟨S3x256x16, .f32⟩ : BufTy).Contents (Elt F) → (⟨S256x256x16x32x32, .f32⟩ : BufTy).Contents (Elt F) → (⟨S3x256x32x32, .f32⟩ : BufTy).Contents (Elt F)),
    unary main_v169 main_v170 ((transpose S256x3x32x32 [1, 0, 2, 3] · transposes_S3x256x32x32_S256x3x32x32_1_0_2_3) : (⟨S3x256x32x32, .f32⟩ : BufTy).Contents (Elt F) → (⟨S256x3x32x32, .f32⟩ : BufTy).Contents (Elt F)) ]

/-- The buffers step `s7da` writes. -/
abbrev s7da_W : List (Ref sig .tc) := [main_v167, main_v168, main_v169, main_v170]

set_option maxRecDepth 8192 in
/-- Step `s7da` writes only the buffers of its list. -/
theorem s7da_writes : (s7da : List (HloOp τ sig (Elt F))).Forall fun op => op.writes ⊆ (s7da_W.map (Proc.devRef (τ := τ) .tc)).toFinset :=
  forall_writes_sub_of_map rfl

/-- A buffer step `s7da` does not write keeps its contents. -/
theorem s7da_keep (V : Valuation τ sig (Elt F)) (r : Ref sig .tc) (h : r ∉ s7da_W) :
    after s7da V (Proc.devRef .tc r) = V (Proc.devRef .tc r) :=
  after_of_writes_sub s7da V s7da_writes h

set_option maxRecDepth 8192 in
/-- Step `s7da` touches only the program's buffers. -/
theorem s7da_sub : (s7da : List (HloOp τ sig (Elt F))).Forall fun op => op.bufs ⊆ tcRefs τ sig :=
  ⟨reshape_bufs_sub .., reshape_bufs_sub .., binary_bufs_sub .., unary_bufs_sub ..⟩

set_option maxRecDepth 8192 in
/-- Step `s7da` allocates nothing. -/
theorem s7da_fresh : (s7da : List (HloOp τ sig (Elt F))).Forall fun op => op.fresh = ∅ :=
  ⟨rfl, rfl, rfl, rfl⟩

/-- Operations 215 to 217: step `s7db`. -/
abbrev s7db : List (HloOp τ sig (Elt F)) :=
  [ unary main_arg13 main_v171 (broadcastInDim S1x3x1x1 ![1] bcast_S3_S1x3x1x1_1 : (⟨S3, .f32⟩ : BufTy).Contents (Elt F) → (⟨S1x3x1x1, .f32⟩ : BufTy).Contents (Elt F)),
    unary main_v171 main_v172 (broadcastInDim S256x3x32x32 ![0, 1, 2, 3] bcast_S1x3x1x1_S256x3x32x32_0_1_2_3 : (⟨S1x3x1x1, .f32⟩ : BufTy).Contents (Elt F) → (⟨S256x3x32x32, .f32⟩ : BufTy).Contents (Elt F)),
    binary main_v170 main_v172 main_v173 (addf : (⟨S256x3x32x32, .f32⟩ : BufTy).Contents (Elt F) → (⟨S256x3x32x32, .f32⟩ : BufTy).Contents (Elt F) → (⟨S256x3x32x32, .f32⟩ : BufTy).Contents (Elt F)) ]

/-- The buffers step `s7db` writes. -/
abbrev s7db_W : List (Ref sig .tc) := [main_v171, main_v172, main_v173]

set_option maxRecDepth 8192 in
/-- Step `s7db` writes only the buffers of its list. -/
theorem s7db_writes : (s7db : List (HloOp τ sig (Elt F))).Forall fun op => op.writes ⊆ (s7db_W.map (Proc.devRef (τ := τ) .tc)).toFinset :=
  forall_writes_sub_of_map rfl

/-- A buffer step `s7db` does not write keeps its contents. -/
theorem s7db_keep (V : Valuation τ sig (Elt F)) (r : Ref sig .tc) (h : r ∉ s7db_W) :
    after s7db V (Proc.devRef .tc r) = V (Proc.devRef .tc r) :=
  after_of_writes_sub s7db V s7db_writes h

set_option maxRecDepth 8192 in
/-- Step `s7db` touches only the program's buffers. -/
theorem s7db_sub : (s7db : List (HloOp τ sig (Elt F))).Forall fun op => op.bufs ⊆ tcRefs τ sig :=
  ⟨unary_bufs_sub .., unary_bufs_sub .., binary_bufs_sub ..⟩

set_option maxRecDepth 8192 in
/-- Step `s7db` allocates nothing. -/
theorem s7db_fresh : (s7db : List (HloOp τ sig (Elt F))).Forall fun op => op.fresh = ∅ :=
  ⟨rfl, rfl, rfl⟩

/-- The operations of @main's part 0. -/
abbrev ops_part0 : List (HloOp τ sig (Elt F)) :=
  s1p ++ (s1r ++ (s1w ++ (s1d ++ (s2p ++ (s2r ++ (s2w ++ (s2d ++ (s3p ++ (s3ra)))))))))

/-- The operations of @main's part 1. -/
abbrev ops_part1 : List (HloOp τ sig (Elt F)) :=
  s3rb ++ (s3w ++ (s3d ++ (s4d ++ (s4a ++ (s4ta ++ (s4tb ++ (s4e ++ (s5p ++ (s5r ++ (s5w))))))))))

/-- The operations of @main's part 2. -/
abbrev ops_part2 : List (HloOp τ sig (Elt F)) :=
  s5d ++ (s6p ++ (s6r ++ (s6w ++ (s6d ++ (s7p ++ (s7r ++ (s7w ++ (s7da))))))))

/-- The operations of @main's part 3. -/
abbrev ops_part3 : List (HloOp τ sig (Elt F)) :=
  s7db

/-- @main's operations, in order. -/
abbrev ops : List (HloOp τ sig (Elt F)) :=
  ops_part0 ++ (ops_part1 ++ (ops_part2 ++ (ops_part3)))

set_option maxRecDepth 8192 in
set_option maxHeartbeats 4000000 in
/-- Part 0 of @main runs its list. -/
theorem main_part0_eq (c : Dev nD) : main_part0 (F := F) c = seq ops_part0 := rfl

set_option maxRecDepth 8192 in
set_option maxHeartbeats 4000000 in
/-- Part 1 of @main runs its list. -/
theorem main_part1_eq (c : Dev nD) : main_part1 (F := F) c = seq ops_part1 := rfl

set_option maxRecDepth 8192 in
set_option maxHeartbeats 4000000 in
/-- Part 2 of @main runs its list. -/
theorem main_part2_eq (c : Dev nD) : main_part2 (F := F) c = seq ops_part2 := rfl

set_option maxRecDepth 8192 in
set_option maxHeartbeats 4000000 in
/-- Part 3 of @main runs its list. -/
theorem main_part3_eq (c : Dev nD) : main_part3 (F := F) c = seq ops_part3 := rfl

set_option maxRecDepth 8192 in
/-- @main runs its list. -/
theorem main_eq (c : Dev nD) : main (F := F) c = seq ops := by
  rw [ops, seq_append ops_part0, seq_append ops_part1, seq_append ops_part2, ← main_part0_eq c, ← main_part1_eq c, ← main_part2_eq c, ← main_part3_eq c]
  rfl

/-- The program scopes no buffer. -/
theorem scopedRefs_eq : (Finset.univ.filter fun b : Ref sig .tc => b.isScoped) = ∅ := by decide

/-- The program scopes no semaphore. -/
theorem scopedSems_eq : (Finset.univ.filter fun sm : SemLoc sig => sm.isScoped .tc) = ∅ := by decide

/-- @main touches only its buffers. -/
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h | h | h | h | h | h | h | h | h | h | h | h | h | h | h | h | h | h | h
    exacts [List.forall_iff_forall_mem.mp s1p_sub op h, List.forall_iff_forall_mem.mp s1r_sub op h, List.forall_iff_forall_mem.mp s1w_sub op h, List.forall_iff_forall_mem.mp s1d_sub op h, List.forall_iff_forall_mem.mp s2p_sub op h, List.forall_iff_forall_mem.mp s2r_sub op h, List.forall_iff_forall_mem.mp s2w_sub op h, List.forall_iff_forall_mem.mp s2d_sub op h, List.forall_iff_forall_mem.mp s3p_sub op h, List.forall_iff_forall_mem.mp s3ra_sub op h, List.forall_iff_forall_mem.mp s3rb_sub op h, List.forall_iff_forall_mem.mp s3w_sub op h, List.forall_iff_forall_mem.mp s3d_sub op h, List.forall_iff_forall_mem.mp s4d_sub op h, List.forall_iff_forall_mem.mp s4a_sub op h, List.forall_iff_forall_mem.mp s4ta_sub op h, List.forall_iff_forall_mem.mp s4tb_sub op h, List.forall_iff_forall_mem.mp s4e_sub op h, List.forall_iff_forall_mem.mp s5p_sub op h, List.forall_iff_forall_mem.mp s5r_sub op h, List.forall_iff_forall_mem.mp s5w_sub op h, List.forall_iff_forall_mem.mp s5d_sub op h, List.forall_iff_forall_mem.mp s6p_sub op h, List.forall_iff_forall_mem.mp s6r_sub op h, List.forall_iff_forall_mem.mp s6w_sub op h, List.forall_iff_forall_mem.mp s6d_sub op h, List.forall_iff_forall_mem.mp s7p_sub op h, List.forall_iff_forall_mem.mp s7r_sub op h, List.forall_iff_forall_mem.mp s7w_sub op h, List.forall_iff_forall_mem.mp s7da_sub op h, List.forall_iff_forall_mem.mp s7db_sub op h]

/-- @main allocates nothing. -/
theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h | h | h | h | h | h | h | h | h | h | h | h | h | h | h | h | h | h | h
    exacts [List.forall_iff_forall_mem.mp s1p_fresh op h, List.forall_iff_forall_mem.mp s1r_fresh op h, List.forall_iff_forall_mem.mp s1w_fresh op h, List.forall_iff_forall_mem.mp s1d_fresh op h, List.forall_iff_forall_mem.mp s2p_fresh op h, List.forall_iff_forall_mem.mp s2r_fresh op h, List.forall_iff_forall_mem.mp s2w_fresh op h, List.forall_iff_forall_mem.mp s2d_fresh op h, List.forall_iff_forall_mem.mp s3p_fresh op h, List.forall_iff_forall_mem.mp s3ra_fresh op h, List.forall_iff_forall_mem.mp s3rb_fresh op h, List.forall_iff_forall_mem.mp s3w_fresh op h, List.forall_iff_forall_mem.mp s3d_fresh op h, List.forall_iff_forall_mem.mp s4d_fresh op h, List.forall_iff_forall_mem.mp s4a_fresh op h, List.forall_iff_forall_mem.mp s4ta_fresh op h, List.forall_iff_forall_mem.mp s4tb_fresh op h, List.forall_iff_forall_mem.mp s4e_fresh op h, List.forall_iff_forall_mem.mp s5p_fresh op h, List.forall_iff_forall_mem.mp s5r_fresh op h, List.forall_iff_forall_mem.mp s5w_fresh op h, List.forall_iff_forall_mem.mp s5d_fresh op h, List.forall_iff_forall_mem.mp s6p_fresh op h, List.forall_iff_forall_mem.mp s6r_fresh op h, List.forall_iff_forall_mem.mp s6w_fresh op h, List.forall_iff_forall_mem.mp s6d_fresh op h, List.forall_iff_forall_mem.mp s7p_fresh op h, List.forall_iff_forall_mem.mp s7r_fresh op h, List.forall_iff_forall_mem.mp s7w_fresh op h, List.forall_iff_forall_mem.mp s7da_fresh op h, List.forall_iff_forall_mem.mp s7db_fresh op h]

/-- The contents after @main, step by step. -/
theorem after_ops (V : Valuation τ sig (Elt F)) :
    after ops V = after s7db (after s7da (after s7w (after s7r (after s7p (after s6d (after s6w (after s6r (after s6p (after s5d (after s5w (after s5r (after s5p (after s4e (after s4tb (after s4ta (after s4a (after s4d (after s3d (after s3w (after s3rb (after s3ra (after s3p (after s2d (after s2w (after s2r (after s2p (after s1d (after s1w (after s1r (after s1p (V))))))))))))))))))))))))))))))) := by
  simp only [ops, ops_part0, ops_part1, ops_part2, ops_part3, after_append]

/-- A buffer no step writes keeps its contents through @main. -/
theorem keep (V : Valuation τ sig (Elt F)) (r : Ref sig .tc) (h : r ∉ s1p_W ++ s1r_W ++ s1w_W ++ s1d_W ++ s2p_W ++ s2r_W ++ s2w_W ++ s2d_W ++ s3p_W ++ s3ra_W ++ s3rb_W ++ s3w_W ++ s3d_W ++ s4d_W ++ s4a_W ++ s4ta_W ++ s4tb_W ++ s4e_W ++ s5p_W ++ s5r_W ++ s5w_W ++ s5d_W ++ s6p_W ++ s6r_W ++ s6w_W ++ s6d_W ++ s7p_W ++ s7r_W ++ s7w_W ++ s7da_W ++ s7db_W) :
    after ops V (Proc.devRef .tc r) = V (Proc.devRef .tc r) := by
  simp only [List.mem_append, not_or, and_assoc] at h
  obtain ⟨hs1p, hs1r, hs1w, hs1d, hs2p, hs2r, hs2w, hs2d, hs3p, hs3ra, hs3rb, hs3w, hs3d, hs4d, hs4a, hs4ta, hs4tb, hs4e, hs5p, hs5r, hs5w, hs5d, hs6p, hs6r, hs6w, hs6d, hs7p, hs7r, hs7w, hs7da, hs7db⟩ := h
  rw [after_ops, s7db_keep _ r hs7db, s7da_keep _ r hs7da, s7w_keep _ r hs7w, s7r_keep _ r hs7r, s7p_keep _ r hs7p, s6d_keep _ r hs6d, s6w_keep _ r hs6w, s6r_keep _ r hs6r, s6p_keep _ r hs6p, s5d_keep _ r hs5d, s5w_keep _ r hs5w, s5r_keep _ r hs5r, s5p_keep _ r hs5p, s4e_keep _ r hs4e, s4tb_keep _ r hs4tb, s4ta_keep _ r hs4ta, s4a_keep _ r hs4a, s4d_keep _ r hs4d, s3d_keep _ r hs3d, s3w_keep _ r hs3w, s3rb_keep _ r hs3rb, s3ra_keep _ r hs3ra, s3p_keep _ r hs3p, s2d_keep _ r hs2d, s2w_keep _ r hs2w, s2r_keep _ r hs2r, s2p_keep _ r hs2p, s1d_keep _ r hs1d, s1w_keep _ r hs1w, s1r_keep _ r hs1r, s1p_keep _ r hs1p]

/-- Every execution ends, with every buffer at @main's composed contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = after ops (launchContents m c) (Proc.devRef .tc main_v173)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v173,
      (h c main_arg0).trans (keep (launchContents m c) main_arg0 (by decide)),
      (h c main_arg1).trans (keep (launchContents m c) main_arg1 (by decide)),
      (h c main_arg2).trans (keep (launchContents m c) main_arg2 (by decide)),
      (h c main_arg3).trans (keep (launchContents m c) main_arg3 (by decide)),
      (h c main_arg4).trans (keep (launchContents m c) main_arg4 (by decide)),
      (h c main_arg5).trans (keep (launchContents m c) main_arg5 (by decide)),
      (h c main_arg6).trans (keep (launchContents m c) main_arg6 (by decide)),
      (h c main_arg7).trans (keep (launchContents m c) main_arg7 (by decide)),
      (h c main_arg8).trans (keep (launchContents m c) main_arg8 (by decide)),
      (h c main_arg9).trans (keep (launchContents m c) main_arg9 (by decide)),
      (h c main_arg10).trans (keep (launchContents m c) main_arg10 (by decide)),
      (h c main_arg11).trans (keep (launchContents m c) main_arg11 (by decide)),
      (h c main_arg12).trans (keep (launchContents m c) main_arg12 (by decide)),
      (h c main_arg13).trans (keep (launchContents m c) main_arg13 (by decide))⟩)
    (run_seq scopedRefs_eq scopedSems_eq defs main (fun _ => ops) main_eq (fun _ => ops_sub) m ρ fun _ => ops_fresh)

end Cert.ReferenceIdeal.Line

end
-- ==== Proof.Ref.Stage4.lean ====
module

public import proofs.«01_k».proof.Proof.Ref.Ops
public import proofs.«01_k».proof.Proof.Pick
public import Idealize.ShloMosaic.Lib.Routing.Ops
public import Idealize.ShloMosaic.Lib.Routing.OpsPair
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- The reference's score of code `x` at position `i` of the planes `Z`. -/
def dist (Z : Shape.Idx ⟨4, ![256, 8, 8, 64]⟩ → EReal) (C : Shape.Idx ⟨2, ![512, 64]⟩ → EReal) (i : ℕ) (x : Fin 512) : EReal :=
  (∑ k : Fin 64, at4 Z (i / 64) (i / 8 % 8) (i % 8) k * at4 Z (i / 64) (i / 8 % 8) (i % 8) k) -
    Ideal.ofBits .f32 1073741824#32 * (∑ k : Fin 64, at4 Z (i / 64) (i / 8 % 8) (i % 8) k * at2 C x k) +
    ∑ k : Fin 64, at2 C x k * at2 C x k

/-- The reference's scores. -/
theorem dists (V : Valuation τ sig (Elt Ideal)) (i : Fin 16384) (x : Fin 512) :
    after s4d V (Proc.devRef .tc main_v91) (ix2 i x) =
      dist (V (Proc.devRef .tc main_v76)) (V (Proc.devRef .tc main_arg1)) i x := by
  after_reads_at
  unfold dist
  have hi := i.isLt
  have e : ∀ k : Fin 64, V (Proc.devRef .tc main_v76) (ix4 (⟨i / 64, by omega⟩ : Fin 256) (⟨i / 8 % 8, by omega⟩ : Fin 8) (⟨i % 8, by omega⟩ : Fin 8) k) =
      at4 (A := 256) (V (Proc.devRef .tc main_v76)) (i / 64) (i / 8 % 8) (i % 8) k := fun k => at4_ix (A := 256) (V (Proc.devRef .tc main_v76)) _ _ _ _
  have e' : ∀ k : Fin 64, V (Proc.devRef .tc main_arg1) (ix2 x k) = at2 (A := 512) (V (Proc.devRef .tc main_arg1)) x k :=
    fun k => at2_ix (A := 512) (V (Proc.devRef .tc main_arg1)) x k
  simp only [← e, ← e']

/-- The reference's code at a position: the first least score. -/
theorem codes (V : Valuation τ sig (Elt Ideal)) (i : Fin 16384) {k : Fin 512}
    (h : IsFirst (fun x => dist (V (Proc.devRef .tc main_v76)) (V (Proc.devRef .tc main_arg1)) i x) k) :
    after s4a (after s4d V) (Proc.devRef .tc main_v92) (ix1 i) = BitVec.ofNat 32 k := by
  have h' : IsFirst (fun x => after s4d V (Proc.devRef .tc main_v91) (ix2 i x)) k := h.congr fun x => (dists V i x).symm
  generalize after s4d V = U at h' ⊢
  after_reads_at
  exact argmin_row (n := 16384) (U (Proc.devRef .tc main_v91)) _ _ _ (fun i j => by pointwise) (fun i => by simp [constant, Ideal.ofBits, Ideal.ieee]) (fun i => rfl) _ _ i h'

/-- The words of the small codes survive the wrap of negative indices. -/
theorem wrap_small : ∀ k : Fin 512, Scalar.select (IntOp.cmpi CmpIPredicate.slt (BitVec.ofNat 32 k) 0#32)
    (IntOp.addi (BitVec.ofNat 32 k) 512#32) (BitVec.ofNat 32 k) = BitVec.ofNat 32 k := by
  decide +kernel

/-- The words of the small codes are within the table. -/
theorem within_small : ∀ k : Fin 512, IntOp.andi (IntOp.cmpi CmpIPredicate.sge (BitVec.ofNat 32 k) 0#32)
    (IntOp.cmpi CmpIPredicate.sle (BitVec.ofNat 32 k) 511#32) = 1#1 := by
  decide +kernel

/-- The take of a table row by a small code is the row. -/
theorem takes (V : Valuation τ sig (Elt Ideal)) (b : Fin 256) (y x : Fin 8) (c : Fin 64) {k : Fin 512}
    (h : V (Proc.devRef .tc main_v92) (ix1 (⟨b * 64 + y * 8 + x, by omega⟩ : Fin 16384)) = BitVec.ofNat 32 k) :
    after s4tb (after s4ta V) (Proc.devRef .tc main_v94) (ix4 b y x c) = V (Proc.devRef .tc main_arg1) (ix2 k c) := by
  generalize hi : (⟨b * 64 + y * 8 + x, by omega⟩ : Fin 16384) = i at h
  have h5 : after s4ta V (Proc.devRef .tc main_call3_v5) (ix2 i (0 : Fin 1)) = BitVec.ofNat 32 k := by
    after_reads_at
    rw [h]
    exact wrap_small k
  have h11 : after s4ta V (Proc.devRef .tc main_call3_v11) (ix2 i (0 : Fin 1)) = 1#1 := by
    after_reads_at
    rw [h, wrap_small k]
    exact within_small k
  have hc : after s4ta V (Proc.devRef .tc main_call3_c_3) = constantI S_ 1 1#1 := by
    after_reads_simp
    rfl
  have ha : after s4ta V (Proc.devRef .tc main_arg1) = V (Proc.devRef .tc main_arg1) := s4ta_keep V _ (by decide)
  rw [← ha]
  generalize after s4ta V = U at h5 h11 hc ⊢
  after_reads_at
  have hg : Host.gather gather_S512x64_S16384x1_S16384x64_1_0_n_n_0_1_164 (U (Proc.devRef .tc main_arg1))
      (U (Proc.devRef .tc main_call3_v5)) (ix2 i c) = U (Proc.devRef .tc main_arg1) (ix2 k c) :=
    Routing.gather_row (nb := 512) (B := 64) (n := 16384) _ rfl rfl rfl rfl rfl (U (Proc.devRef .tc main_arg1))
      (U (Proc.devRef .tc main_call3_v5)) i c k h5 (by norm_num)
  rw [hi, hg, hc]
  have hm : Finset.fold IntOp.andi (constantI S_ 1 1#1 (Shape.Idx.first Gen.h_S_))
      (fun x : Fin 1 => U (Proc.devRef .tc main_call3_v11) (ix2 i x)) Finset.univ = 1#1 := by
    rw [show (Finset.univ : Finset (Fin 1)) = {0} from rfl, Finset.fold_singleton, h11]
    rfl
  rw [hm]
  rfl

/-- The straight-through value: the planes plus the difference of the taken rows and the planes. -/
theorem through (V : Valuation τ sig (Elt Ideal)) (b : Fin 256) (y x : Fin 8) (c : Fin 64) :
    after s4e V (Proc.devRef .tc main_v96) (ix4 b y x c) =
      at4 (A := 256) (B := 8) (C := 8) (D := 64) (V (Proc.devRef .tc main_v76)) b y x c +
        (at4 (A := 256) (B := 8) (C := 8) (D := 64) (V (Proc.devRef .tc main_v94)) b y x c -
          at4 (A := 256) (B := 8) (C := 8) (D := 64) (V (Proc.devRef .tc main_v76)) b y x c) := by
  rw [← at4_ix, ← at4_ix]
  after_reads_at

end Cert.ReferenceIdeal.Val

end
-- ==== Proof.Link.lean ====
/- The two programs' stages compared, on arrays alone: if each of the kernel's arrays and each of the reference's
   arrays is what its stage computes, the results are equal. The only step that needs a condition is the
   straight-through sum `e + (q - e)`, which is `q` when `e` is a real number. -/
module

public import proofs.«01_k».proof.Proof.Val.Host
public import proofs.«01_k».proof.Proof.Pick
public import proofs.«01_k».proof.Proof.Ref.Stage4

@[expose] public section

set_option maxRecDepth 16384

noncomputable section

namespace Cert.Conv

open Idealize.ShloMosaic

/-! ## Real numbers among the extended reals -/

/-- An extended real that is a real number. -/
def IsReal (x : EReal) : Prop := ∃ r : ℝ, x = r

/-- Zero is real. -/
theorem IsReal.zero : IsReal 0 := ⟨0, rfl⟩

/-- A sum of two reals is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A product of two reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The larger of two reals is real. -/
theorem IsReal.max {x y : EReal} (hx : IsReal x) (hy : IsReal y) : IsReal (max x y) := by
  rcases max_choice x y with h | h <;> rw [h] <;> assumption

/-- A finite sum of reals is real. -/
theorem IsReal.sum {ι : Type} (s : Finset ι) (f : ι → EReal) (h : ∀ i, IsReal (f i)) : IsReal (∑ i ∈ s, f i) := by
  classical
  induction s using Finset.induction_on with
  | empty => exact IsReal.zero
  | insert a s ha ih =>
    rw [Finset.sum_insert ha]
    exact (h a).add ih

/-- An extended real whose magnitude is below infinity is real. -/
theorem IsReal.of_ne {x : EReal} (ht : x ≠ ⊤) (hb : x ≠ ⊥) : IsReal x := ⟨x.toReal, (EReal.coe_toReal ht hb).symm⟩

/-- A reading of an array of reals is real. -/
theorem IsReal.at1 {A : ℕ} {a : Shape.Idx ⟨1, ![A]⟩ → EReal} (h : ∀ i, IsReal (a i)) (i : ℕ) : IsReal (at1 a i) := by
  unfold Conv.at1
  split_ifs
  · exact h _
  · exact IsReal.zero

/-- A reading of an array of reals is real. -/
theorem IsReal.at4 {A B C D : ℕ} {a : Shape.Idx ⟨4, ![A, B, C, D]⟩ → EReal} (h : ∀ i, IsReal (a i)) (i j k l : ℕ) :
    IsReal (at4 a i j k l) := by
  unfold Conv.at4
  split_ifs
  · exact h _
  · exact IsReal.zero

/-- A padded plane of reals is real. -/
theorem IsReal.padBy {f : ℕ → ℕ → EReal} (h : ∀ Y X, IsReal (f Y X)) (Y X : ℕ) : IsReal (padBy f Y X) := by
  unfold Conv.padBy
  split_ifs
  · exact h _ _
  · exact IsReal.zero

/-- A correlation of reals is real. -/
theorem IsReal.corr {C K s : ℕ} {p w : ℕ → ℕ → ℕ → EReal} (hp : ∀ c Y X, IsReal (p c Y X)) (hw : ∀ c Y X, IsReal (w c Y X))
    (y x : ℕ) : IsReal (corr C K s p w y x) :=
  IsReal.sum _ _ fun c => IsReal.sum _ _ fun t => (hw _ _ _).mul (hp _ _ _)

/-- The straight-through sum of a real `e`. -/
theorem add_sub_self_real {e : EReal} (he : IsReal e) (q : EReal) : e + (q - e) = q := by
  obtain ⟨r, rfl⟩ := he
  induction q with
  | bot => simp
  | top => simp
  | coe q => rw [← EReal.coe_sub, ← EReal.coe_add, add_sub_cancel]

/-! ## Arrays that agree coordinate by coordinate -/

/-- Padded planes that agree before padding. -/
theorem padBy_congr {f g : ℕ → ℕ → EReal} (h : ∀ Y X, f Y X = g Y X) (Y X : ℕ) : padBy f Y X = padBy g Y X := by
  rw [show f = g from funext fun Y => funext fun X => h Y X]

/-- Spread planes that agree before spreading. -/
theorem dilBy_congr {f g : ℕ → ℕ → EReal} (h : ∀ Y X, f Y X = g Y X) (Y X : ℕ) : dilBy f Y X = dilBy g Y X := by
  rw [show f = g from funext fun Y => funext fun X => h Y X]

/-- A rank-4 index is the index of its coordinates. -/
theorem ix4_self {A B C D : ℕ} (i : Shape.Idx ⟨4, ![A, B, C, D]⟩) : i = ix4 (i 0) (i 1) (i 2) (i 3) := by
  funext k
  match k with
  | ⟨0, _⟩ => rfl
  | ⟨1, _⟩ => rfl
  | ⟨2, _⟩ => rfl
  | ⟨3, _⟩ => rfl

/-- Rank-4 arrays that agree at all coordinates are equal. -/
theorem ext4 {A B C D : ℕ} {R K : Shape.Idx ⟨4, ![A, B, C, D]⟩ → EReal}
    (h : ∀ b y x o, R (ix4 b y x o) = K (ix4 b y x o)) : R = K := by
  funext i
  rw [ix4_self i]
  exact h _ _ _ _

/-- Every entry of a rank-4 array is one at coordinates. -/
theorem all4 {A B C D : ℕ} {R : Shape.Idx ⟨4, ![A, B, C, D]⟩ → EReal} {p : EReal → Prop}
    (h : ∀ b y x o, p (R (ix4 b y x o))) (i : Shape.Idx ⟨4, ![A, B, C, D]⟩) : p (R i) := by
  rw [ix4_self i]
  exact h _ _ _ _

/-- Two arrays that differ in where the channel coordinate stands. -/
theorem swap_of {A B C D : ℕ} {R : Shape.Idx ⟨4, ![A, B, C, D]⟩ → EReal} {K : Shape.Idx ⟨4, ![A, C, D, B]⟩ → EReal}
    (h : ∀ b o y x, R (ix4 b o y x) = K (ix4 b y x o)) (b o y x : ℕ) : at4 R b o y x = at4 K b y x o := by
  unfold at4
  by_cases e : b < A ∧ o < B ∧ y < C ∧ x < D
  · rw [dif_pos e, dif_pos ⟨e.1, e.2.2.1, e.2.2.2, e.2.1⟩]
    exact h _ _ _ _
  · rw [dif_neg e, dif_neg fun e' => e ⟨e'.1, e'.2.2.2, e'.2.1, e'.2.2.1⟩]

/-- The first stage's array against the kernel's, whose rows hold the columns one after another. -/
theorem wide_of {R : Shape.Idx ⟨4, ![256, 256, 16, 16]⟩ → EReal} {K : Shape.Idx ⟨3, ![256, 16, 4096]⟩ → EReal}
    (F : ℕ → ℕ → ℕ → ℕ → EReal) (hR : ∀ b o y x, R (ix4 b o y x) = F b o y x)
    (hK : ∀ b y n, K (ix3 b y n) = F b (n.val % 256) y (n.val / 256)) (b c Y X : ℕ) (hc : c < 256) :
    at4 R b c Y X = wide K b c Y X := by
  unfold at4 wide at3
  by_cases e : b < 256 ∧ Y < 16 ∧ X < 16
  · rw [dif_pos ⟨e.1, hc, e.2⟩, if_pos e.2.2, dif_pos ⟨e.1, e.2.1, by omega⟩, hR, hK]
    dsimp only
    rw [show (X * 256 + c) % 256 = c by omega, show (X * 256 + c) / 256 = X by omega]
  · rw [dif_neg (by omega)]
    split_ifs with h1 h2
    · omega
    · rfl
    · rfl

/-- The rows picked from the table against the kernel's list of rows. -/
theorem tall_of {R : Shape.Idx ⟨4, ![256, 8, 8, 64]⟩ → EReal} {K : Shape.Idx ⟨2, ![16384, 64]⟩ → EReal}
    (h : ∀ (b : Fin 256) (y x : Fin 8) (c : Fin 64), R (ix4 b y x c) = at2 K (b.val * 64 + y.val * 8 + x.val) c) (b c Y X : ℕ) (hc : c < 64) :
    at4 R b Y X c = tall K b c Y X := by
  unfold at4 tall
  by_cases e : b < 256 ∧ Y < 8 ∧ X < 8
  · rw [dif_pos ⟨e.1, e.2.1, e.2.2, hc⟩, if_pos e.2, h]
  · rw [dif_neg (by omega)]
    split_ifs with h1
    · rw [at2, dif_neg (by omega)]
    · rfl

/-- The sixth stage's array against the kernel's four planes of every second row and column. -/
theorem woven_of {R : Shape.Idx ⟨4, ![256, 256, 16, 16]⟩ → EReal} {K : Shape.Idx ⟨4, ![256, 4, 64, 256]⟩ → EReal}
    (F : ℕ → ℕ → ℕ → ℕ → EReal) (hR : ∀ b o y x, R (ix4 b o y x) = F b o y x)
    (hK : ∀ b p s n, K (ix4 b p s n) = F b n (2 * (s.val / 8) + p.val / 2) (2 * (s.val % 8) + p.val % 2))
    (b c Y X : ℕ) (hc : c < 256) : at4 R b c Y X = woven K b c Y X := by
  unfold woven
  by_cases e : b < 256 ∧ Y < 16 ∧ X < 16
  · rw [at4, dif_pos ⟨e.1, hc, e.2⟩, if_pos e.2, at4, dif_pos ⟨e.1, by omega, by omega, hc⟩, hR, hK]
    dsimp only
    rw [show 2 * ((Y / 2 * 8 + X / 2) / 8) + (Y % 2 * 2 + X % 2) / 2 = Y by omega,
      show 2 * ((Y / 2 * 8 + X / 2) % 8) + (Y % 2 * 2 + X % 2) % 2 = X by omega]
  · rw [at4, dif_neg (by omega)]
    split_ifs with h1
    · rw [at4, dif_neg (by omega)]
    · rfl

/-! ## The stages -/

/-- The arguments of both programs: the images, the table, and the kernels and biases of the six convolutions. -/
@[ext] structure Args where
  /-- The images. -/
  x : Shape.Idx ⟨4, ![256, 3, 32, 32]⟩ → EReal
  /-- The table of codes. -/
  t : Shape.Idx ⟨2, ![512, 64]⟩ → EReal
  /-- The first encoder kernel. -/
  w1 : Shape.Idx ⟨4, ![256, 3, 4, 4]⟩ → EReal
  /-- The first encoder bias. -/
  b1 : Shape.Idx ⟨1, ![256]⟩ → EReal
  /-- The second encoder kernel. -/
  w2 : Shape.Idx ⟨4, ![256, 256, 4, 4]⟩ → EReal
  /-- The second encoder bias. -/
  b2 : Shape.Idx ⟨1, ![256]⟩ → EReal
  /-- The third encoder kernel. -/
  w3 : Shape.Idx ⟨4, ![64, 256, 3, 3]⟩ → EReal
  /-- The third encoder bias. -/
  b3 : Shape.Idx ⟨1, ![64]⟩ → EReal
  /-- The first decoder kernel. -/
  v1 : Shape.Idx ⟨4, ![256, 64, 3, 3]⟩ → EReal
  /-- The first decoder bias. -/
  d1 : Shape.Idx ⟨1, ![256]⟩ → EReal
  /-- The second decoder kernel. -/
  v2 : Shape.Idx ⟨4, ![256, 256, 4, 4]⟩ → EReal
  /-- The second decoder bias. -/
  d2 : Shape.Idx ⟨1, ![256]⟩ → EReal
  /-- The third decoder kernel. -/
  v3 : Shape.Idx ⟨4, ![3, 256, 4, 4]⟩ → EReal
  /-- The third decoder bias. -/
  d3 : Shape.Idx ⟨1, ![3]⟩ → EReal

/-- What the kernel's arrays are, stage by stage. -/
structure KernelStages (a : Args) (K1 : Shape.Idx ⟨3, ![256, 16, 4096]⟩ → EReal) (K2 : Shape.Idx ⟨4, ![256, 8, 8, 256]⟩ → EReal)
    (K3 : Shape.Idx ⟨4, ![256, 8, 8, 64]⟩ → EReal) (K4 : Shape.Idx ⟨2, ![16384, 64]⟩ → EReal)
    (K5 : Shape.Idx ⟨4, ![256, 8, 8, 256]⟩ → EReal) (K6 : Shape.Idx ⟨4, ![256, 4, 64, 256]⟩ → EReal)
    (K7 : Shape.Idx ⟨4, ![256, 2, 16, 96]⟩ → EReal) (K : Shape.Idx ⟨4, ![256, 3, 32, 32]⟩ → EReal) : Prop where
  s1 : ∀ (b : Fin 256) (y : Fin 16) (n : Fin 4096), K1 (ix3 b y n) = max (corr 3 4 2 (fun c => padBy (at4 a.x b c))
    (fun c ky kx => at4 a.w1 (n.val % 256) c ky kx) y (n.val / 256) + at1 a.b1 (n.val % 256)) 0
  s2 : ∀ (b : Fin 256) (y x : Fin 8) (n : Fin 256), K2 (ix4 b y x n) = max (corr 256 4 2 (fun c => padBy (wide K1 b c))
    (fun c ky kx => at4 a.w2 n c ky kx) y x + at1 a.b2 n) 0
  s3 : ∀ (b : Fin 256) (y x : Fin 8) (n : Fin 64), K3 (ix4 b y x n) = corr 256 3 1
    (fun c => padBy (fun Y X => at4 K2 b Y X c)) (fun c ky kx => at4 a.w3 n c ky kx) y x + at1 a.b3 n
  s4 : ∀ (i : Fin 16384) (n : Fin 64) (k : Fin 512), IsFirst (fun x => ReferenceIdeal.Val.dist K3 a.t i x) k →
    K4 (ix2 i n) = at2 a.t k n
  s5 : ∀ (b : Fin 256) (y x : Fin 8) (n : Fin 256), K5 (ix4 b y x n) = max (corr 64 3 1 (fun c => padBy (tall K4 b c))
    (fun c ky kx => at4 a.v1 n c ky kx) y x + at1 a.d1 n) 0
  s6 : ∀ (b : Fin 256) (p : Fin 4) (s : Fin 64) (n : Fin 256), K6 (ix4 b p s n) = max (corr 256 4 1
    (fun c => dilBy (fun Y X => at4 K5 b Y X c)) (fun c ky kx => at4 a.v2 n c ky kx)
    (2 * (s.val / 8) + p.val / 2) (2 * (s.val % 8) + p.val % 2) + at1 a.d2 n) 0
  s7 : ∀ (b : Fin 256) (y : Fin 2) (x : Fin 16) (n : Fin 96), K7 (ix4 b y x n) = corr 256 4 1
    (fun c => dilBy (woven K6 b c)) (fun c ky kx => at4 a.v3 (n.val / 32) c ky kx) (2 * x.val + y.val) (n.val % 32) +
    at1 a.d3 (n.val / 32)
  s8 : ∀ (b : Fin 256) (o : Fin 3) (y x : Fin 32), K (ix4 b o y x) =
    at4 K7 b (y.val % 2) (y.val / 2) (o.val * 32 + x.val)

/-- What the reference's arrays are, stage by stage. -/
structure RefStages (a : Args) (R1 : Shape.Idx ⟨4, ![256, 256, 16, 16]⟩ → EReal) (R2 : Shape.Idx ⟨4, ![256, 256, 8, 8]⟩ → EReal)
    (R3 R4 R4' : Shape.Idx ⟨4, ![256, 8, 8, 64]⟩ → EReal)
    (R5 : Shape.Idx ⟨4, ![256, 256, 8, 8]⟩ → EReal) (R6 : Shape.Idx ⟨4, ![256, 256, 16, 16]⟩ → EReal)
    (R : Shape.Idx ⟨4, ![256, 3, 32, 32]⟩ → EReal) : Prop where
  s1 : ∀ (b o : Fin 256) (y x : Fin 16), R1 (ix4 b o y x) = max (corr 3 4 2 (fun c => padBy (at4 a.x b c))
    (fun c ky kx => at4 a.w1 o c ky kx) y x + at1 a.b1 o) 0
  s2 : ∀ (b o : Fin 256) (y x : Fin 8), R2 (ix4 b o y x) = max (corr 256 4 2 (fun c => padBy (at4 R1 b c))
    (fun c ky kx => at4 a.w2 o c ky kx) y x + at1 a.b2 o) 0
  s3 : ∀ (b : Fin 256) (o : Fin 64) (y x : Fin 8), R3 (ix4 b y x o) = corr 256 3 1 (fun c => padBy (at4 R2 b c))
    (fun c ky kx => at4 a.w3 o c ky kx) y x + at1 a.b3 o
  s4 : ∀ (b : Fin 256) (y x : Fin 8) (c : Fin 64) (k : Fin 512),
    IsFirst (fun j => ReferenceIdeal.Val.dist R3 a.t (b.val * 64 + y.val * 8 + x.val) j) k → R4 (ix4 b y x c) = at2 a.t k c
  s4' : ∀ (b : Fin 256) (y x : Fin 8) (c : Fin 64), R4' (ix4 b y x c) = at4 R3 b y x c + (at4 R4 b y x c - at4 R3 b y x c)
  s5 : ∀ (b o : Fin 256) (y x : Fin 8), R5 (ix4 b o y x) = max (corr 64 3 1
    (fun c => padBy (fun Y X => at4 R4' b Y X c)) (fun c ky kx => at4 a.v1 o c ky kx) y x + at1 a.d1 o) 0
  s6 : ∀ (b o : Fin 256) (y x : Fin 16), R6 (ix4 b o y x) = max (corr 256 4 1 (fun c => dilBy (at4 R5 b c))
    (fun c ky kx => at4 a.v2 o c ky kx) y x + at1 a.d2 o) 0
  s7 : ∀ (b : Fin 256) (o : Fin 3) (y x : Fin 32), R (ix4 b o y x) = corr 256 4 1 (fun c => dilBy (at4 R6 b c))
    (fun c ky kx => at4 a.v3 o c ky kx) y x + at1 a.d3 o

/-- The encoder's arguments are arrays of real numbers. -/
structure Args.EncoderReal (a : Args) : Prop where
  x : ∀ i, IsReal (a.x i)
  w1 : ∀ i, IsReal (a.w1 i)
  b1 : ∀ i, IsReal (a.b1 i)
  w2 : ∀ i, IsReal (a.w2 i)
  b2 : ∀ i, IsReal (a.b2 i)
  w3 : ∀ i, IsReal (a.w3 i)
  b3 : ∀ i, IsReal (a.b3 i)

section
variable {a : Args} {K1 : Shape.Idx ⟨3, ![256, 16, 4096]⟩ → EReal} {K2 : Shape.Idx ⟨4, ![256, 8, 8, 256]⟩ → EReal}
    {K3 : Shape.Idx ⟨4, ![256, 8, 8, 64]⟩ → EReal} {K4 : Shape.Idx ⟨2, ![16384, 64]⟩ → EReal}
    {K5 : Shape.Idx ⟨4, ![256, 8, 8, 256]⟩ → EReal} {K6 : Shape.Idx ⟨4, ![256, 4, 64, 256]⟩ → EReal}
    {K7 : Shape.Idx ⟨4, ![256, 2, 16, 96]⟩ → EReal} {K : Shape.Idx ⟨4, ![256, 3, 32, 32]⟩ → EReal}
    {R1 : Shape.Idx ⟨4, ![256, 256, 16, 16]⟩ → EReal} {R2 : Shape.Idx ⟨4, ![256, 256, 8, 8]⟩ → EReal}
    {R3 R4 R4' : Shape.Idx ⟨4, ![256, 8, 8, 64]⟩ → EReal}
    {R5 : Shape.Idx ⟨4, ![256, 256, 8, 8]⟩ → EReal} {R6 : Shape.Idx ⟨4, ![256, 256, 16, 16]⟩ → EReal}
    {R : Shape.Idx ⟨4, ![256, 3, 32, 32]⟩ → EReal}

/-- The encoder's result is an array of reals. -/
theorem RefStages.real3 (hR : RefStages a R1 R2 R3 R4 R4' R5 R6 R) (ha : a.EncoderReal) (i : Shape.Idx ⟨4, ![256, 8, 8, 64]⟩) : IsReal (R3 i) := by
  have h1 : ∀ i, IsReal (R1 i) := all4 fun b o y x => by
    rw [hR.s1]
    exact ((IsReal.corr (fun _ => IsReal.padBy fun _ _ => IsReal.at4 ha.x _ _ _ _) (fun _ _ _ => IsReal.at4 ha.w1 _ _ _ _) _ _).add
      (IsReal.at1 ha.b1 _)).max IsReal.zero
  have h2 : ∀ i, IsReal (R2 i) := all4 fun b o y x => by
    rw [hR.s2]
    exact ((IsReal.corr (fun _ => IsReal.padBy fun _ _ => IsReal.at4 h1 _ _ _ _) (fun _ _ _ => IsReal.at4 ha.w2 _ _ _ _) _ _).add
      (IsReal.at1 ha.b2 _)).max IsReal.zero
  exact all4 (p := IsReal) (fun b y x o => by
    rw [hR.s3]
    exact (IsReal.corr (fun _ => IsReal.padBy fun _ _ => IsReal.at4 h2 _ _ _ _) (fun _ _ _ => IsReal.at4 ha.w3 _ _ _ _) _ _).add
      (IsReal.at1 ha.b3 _)) i

/-- The two first stages agree. -/
theorem link1 (hK : KernelStages a K1 K2 K3 K4 K5 K6 K7 K) (hR : RefStages a R1 R2 R3 R4 R4' R5 R6 R) (b c Y X : ℕ) (hc : c < 256) :
    at4 R1 b c Y X = wide K1 b c Y X :=
  wide_of (fun b o y x => max (corr 3 4 2 (fun c => padBy (at4 a.x b c)) (fun c ky kx => at4 a.w1 o c ky kx) y x + at1 a.b1 o) 0)
    hR.s1 hK.s1 b c Y X hc

/-- The two second stages agree. -/
theorem link2 (hK : KernelStages a K1 K2 K3 K4 K5 K6 K7 K) (hR : RefStages a R1 R2 R3 R4 R4' R5 R6 R) (b c Y X : ℕ) :
    at4 R2 b c Y X = at4 K2 b Y X c :=
  swap_of (fun b o y x => by
    rw [hR.s2, hK.s2]
    exact congrArg (fun t : EReal => max (t + at1 a.b2 o) 0)
      (corr_congr (fun c hc => padBy_congr fun Y X => link1 hK hR b c Y X hc) fun _ _ _ _ => rfl)) b c Y X

/-- The two encoders agree. -/
theorem link3 (hK : KernelStages a K1 K2 K3 K4 K5 K6 K7 K) (hR : RefStages a R1 R2 R3 R4 R4' R5 R6 R) : R3 = K3 :=
  ext4 fun b y x o => by
    rw [hR.s3, hK.s3]
    exact congrArg (fun t : EReal => t + at1 a.b3 o)
      (corr_congr (fun c _ => padBy_congr fun Y X => link2 hK hR b c Y X) fun _ _ _ _ => rfl)

/-- The two quantized arrays agree. -/
theorem link4 (hK : KernelStages a K1 K2 K3 K4 K5 K6 K7 K) (hR : RefStages a R1 R2 R3 R4 R4' R5 R6 R) (ha : a.EncoderReal)
    (b c Y X : ℕ) (hc : c < 64) : at4 R4' b Y X c = tall K4 b c Y X :=
  tall_of (fun b y x c => by
    obtain ⟨k, hk⟩ := exists_isFirst fun j : Fin 512 => ReferenceIdeal.Val.dist R3 a.t (b.val * 64 + y.val * 8 + x.val) j
    have hb := b.isLt
    have e := hR.s4 b y x c k hk
    rw [link3 hK hR] at hk
    have e' := hK.s4 ⟨b.val * 64 + y.val * 8 + x.val, by omega⟩ c k hk
    rw [hR.s4', add_sub_self_real (IsReal.at4 (hR.real3 ha) _ _ _ _), ← at4_ix R4, e, ← e']
    exact at2_ix K4 _ _) b c Y X hc

/-- The two first decoder stages agree. -/
theorem link5 (hK : KernelStages a K1 K2 K3 K4 K5 K6 K7 K) (hR : RefStages a R1 R2 R3 R4 R4' R5 R6 R) (ha : a.EncoderReal)
    (b c Y X : ℕ) : at4 R5 b c Y X = at4 K5 b Y X c :=
  swap_of (fun b o y x => by
    rw [hR.s5, hK.s5]
    exact congrArg (fun t : EReal => max (t + at1 a.d1 o) 0)
      (corr_congr (fun c hc => padBy_congr fun Y X => link4 hK hR ha b c Y X hc) fun _ _ _ _ => rfl)) b c Y X

/-- The two second decoder stages agree. -/
theorem link6 (hK : KernelStages a K1 K2 K3 K4 K5 K6 K7 K) (hR : RefStages a R1 R2 R3 R4 R4' R5 R6 R) (ha : a.EncoderReal)
    (b c Y X : ℕ) (hc : c < 256) : at4 R6 b c Y X = woven K6 b c Y X :=
  woven_of (fun b o y x => max (corr 256 4 1 (fun c => dilBy (fun Y X => at4 K5 b Y X c)) (fun c ky kx => at4 a.v2 o c ky kx) y x +
      at1 a.d2 o) 0)
    (fun b o y x => by
      rw [hR.s6]
      exact congrArg (fun t : EReal => max (t + at1 a.d2 o) 0)
        (corr_congr (fun c _ => dilBy_congr fun Y X => link5 hK hR ha b c Y X) fun _ _ _ _ => rfl))
    hK.s6 b c Y X hc

/-- The two programs' results agree. -/
theorem link (hK : KernelStages a K1 K2 K3 K4 K5 K6 K7 K) (hR : RefStages a R1 R2 R3 R4 R4' R5 R6 R) (ha : a.EncoderReal) : R = K :=
  ext4 fun b o y x => by
    have ho := o.isLt
    have hy := y.isLt
    have hx := x.isLt
    have e := (at4_ix K7 b ⟨y.val % 2, by omega⟩ ⟨y.val / 2, by omega⟩ ⟨o.val * 32 + x.val, by omega⟩).symm.trans (hK.s7 _ _ _ _)
    dsimp only at e
    rw [show (o.val * 32 + x.val) / 32 = o.val by omega, show (o.val * 32 + x.val) % 32 = x.val by omega,
      show 2 * (y.val / 2) + y.val % 2 = y.val by omega] at e
    rw [hR.s7, hK.s8, e]
    exact congrArg (fun t : EReal => t + at1 a.d3 o)
      (corr_congr (fun c hc => dilBy_congr fun Y X => link6 hK hR ha b c Y X hc) fun _ _ _ _ => rfl)

end

end Cert.Conv

end
-- ==== Proof.Finite.lean ====
/- The precondition read: the predicate says that every entry of seven arrays has magnitude below infinity, so that
   every entry is a real number. -/
module

public import proofs.«01_k».proof.Pre_encoder_inputs_finite
public import proofs.«01_k».proof.Proof.Link
public import Idealize.ShloMosaic.Lib.IdealHost
public import Idealize.ShloMosaic.Lib.StableHlo.Predicate

@[expose] public section

noncomputable section

namespace Cert.Pre_encoder_inputs_finite

open Idealize.ShloMosaic Cert.Conv

/-- The predicate's shape relations. -/
instance facts : Facts where
  bcast_S_S256x3x32x32 := by decide
  reducesTo_S256x3x32x32_S_d0_1_2_3 := by decide
  h_S_ := by decide
  bcast_S_S256x3x4x4 := by decide
  reducesTo_S256x3x4x4_S_d0_1_2_3 := by decide
  bcast_S_S256 := by decide
  reducesTo_S256_S_d0 := by decide
  bcast_S_S256x256x4x4 := by decide
  reducesTo_S256x256x4x4_S_d0_1_2_3 := by decide
  bcast_S_S64x256x3x3 := by decide
  reducesTo_S64x256x3x3_S_d0_1_2_3 := by decide
  bcast_S_S64 := by decide
  reducesTo_S64_S_d0 := by decide

/-- A conjunction of bits is set only when both are. -/
theorem and_bits (a b : BitVec 1) (h : a &&& b = 1#1) : a = 1#1 ∧ b = 1#1 := by
  revert a b
  decide

/-- A folded conjunction of bits that ends set met only set bits. -/
theorem fold_and_bits {α : Type} (f : α → BitVec 1) (S : Finset α) (a : BitVec 1)
    (h : S.fold IntOp.andi a f = 1#1) : ∀ i ∈ S, f i = 1#1 := by
  classical
  induction S using Finset.induction_on with
  | empty => exact fun i hi => absurd hi (Finset.notMem_empty i)
  | insert x S hx ih =>
    rw [Finset.fold_insert hx] at h
    obtain ⟨h1, h2⟩ := and_bits _ _ h
    intro i hi
    rcases Finset.mem_insert.mp hi with rfl | hi
    · exact h1
    · exact ih h2 i hi

/-- A magnitude below infinity is that of a real number. -/
theorem real_of_cmp (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by simpa [Ideal.cmp, StableHlo.Predicate.ofBool_eq_one_iff] using h
  refine IsReal.of_ne (fun e => ?_) fun e => ?_
  · subst e; simp at hlt
  · subst e; simp at hlt

/-- An array all of whose magnitudes are below infinity is one of real numbers. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : IsReal (x i) := by
  rw [Host.reduce_eq_fold] at h
  exact real_of_cmp _ (fold_and_bits _ _ _ h i (Finset.mem_filter.mpr ⟨Finset.mem_univ _, funext fun k => k.elim0⟩))

/-- The precondition makes the encoder's arguments arrays of real numbers. -/
theorem encoder_real (a : Args)
    (h : fn (F := Ideal) a.x a.t a.w1 a.b1 a.w2 a.b2 a.w3 a.b3 a.v1 a.d1 a.v2 a.d2 a.v3 a.d3 = fun _ => 1#1) : a.EncoderReal := by
  have h := congrFun h ix0
  unfold fn fn_part1 at h
  obtain ⟨h, h7⟩ := and_bits _ _ h
  obtain ⟨h, h6⟩ := and_bits _ _ h
  obtain ⟨h, h5⟩ := and_bits _ _ h
  obtain ⟨h, h4⟩ := and_bits _ _ h
  obtain ⟨h, h3⟩ := and_bits _ _ h
  obtain ⟨h1, h2⟩ := and_bits _ _ h
  exact ⟨real_of_all _ _ _ _ h1, real_of_all _ _ _ _ h2, real_of_all _ _ _ _ h3, real_of_all _ _ _ _ h4,
    real_of_all _ _ _ _ h5, real_of_all _ _ _ _ h6, real_of_all _ _ _ _ h7⟩

end Cert.Pre_encoder_inputs_finite

end
-- ==== Proof.Val.Run.lean ====
/- The kernel's run: from any memory every weakly fair execution of @main ends with the result buffer at the contents the
   fold of its host stretches and launches gives it, the argument arrays unchanged, and every counter at zero. The
   segments, their boundaries and the launch layout are those of the frame. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run, with its result. -/
theorem run : θ_run defs (onTc (τ := τ) (main (F := F))) ⟨m, fun _ => 0, ρ⟩ (fun r => (∀ c : Dev nD,
      r.2.mem ((c.tc : Thread nD τ).loc main_v59) = W25 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => ⟨(fun c =>
      ⟨h c _ (mem_uc main_v59 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c)⟩), funext fun g => hz g (.inr (no_unscoped g.2))⟩)

end Cert.KernelIdeal.Val

end
-- ==== Proof.Math.lean ====
/- The kernel's sums, stage by stage, are the correlations: each theorem takes what the operands hold and says that
   the contraction the launch computes is the correlation of the planes. -/
module

public import proofs.«01_k».proof.Proof.Spec

@[expose] public section

noncomputable section

namespace Cert.Conv

open Finset

/-- A sum against a kernel that is zero outside a window is the sum over the window. -/
theorem sum_window (n m a : ℕ) (f g : ℕ → EReal) (h : a + m ≤ n) :
    ∑ q ∈ range n, f q * (if a ≤ q ∧ q < a + m then g (q - a) else 0) = ∑ j ∈ range m, f (a + j) * g j := by
  obtain ⟨r, rfl⟩ : ∃ r, n = a + m + r := ⟨n - (a + m), by omega⟩
  rw [sum_range_add, sum_range_add]
  have e1 : ∑ q ∈ range a, f q * (if a ≤ q ∧ q < a + m then g (q - a) else 0) = 0 :=
    sum_eq_zero fun q hq => by
      have := mem_range.mp hq
      rw [if_neg (by omega), mul_zero]
  have e2 : ∑ q ∈ range r, f (a + m + q) *
      (if a ≤ a + m + q ∧ a + m + q < a + m then g (a + m + q - a) else 0) = 0 :=
    sum_eq_zero fun q hq => by rw [if_neg (by omega), mul_zero]
  rw [e1, e2, zero_add, add_zero]
  refine sum_congr rfl fun j hj => ?_
  have := mem_range.mp hj
  rw [if_pos (by omega), Nat.add_sub_cancel_left]

/-- The correlation of a 4-by-4 kernel, row by row of the window. -/
theorem corr4 (C s : ℕ) (p : ℕ → ℕ → ℕ → EReal) (w : ℕ → ℕ → ℕ → EReal) (y x : ℕ) :
    corr C 4 s p w y x = ∑ ky ∈ range 4, ∑ kx ∈ range 4, ∑ c ∈ range C,
      w c ky kx * p c (s * y + ky) (s * x + kx) := by
  rw [corr_comm, sum_runs 4 4]
  refine sum_congr rfl fun ky _ => sum_congr rfl fun kx hx => ?_
  have := mem_range.mp hx
  rw [show (ky * 4 + kx) / 4 = ky by omega, show (ky * 4 + kx) % 4 = kx by omega]

/-- The first stage's contraction: unrolled rows against a kernel spread along the row. -/
theorem enc1_sum (p w : ℕ → ℕ → ℕ → EReal) (X : ℕ → ℕ → ℕ → ℕ → EReal) (W : ℕ → EReal) (y x : ℕ) (hy : y < 16)
    (hx : x < 16) (hX : ∀ c < 3, ∀ r < 17, ∀ q < 2, ∀ u < 34, X c r q u = p c (2 * r + q) u)
    (hW : ∀ k < 408, W k = if 2 * x ≤ k % 34 ∧ k % 34 < 2 * x + 4 then w (k / 136) (k / 34 % 4) (k % 34 - 2 * x)
      else 0) :
    ∑ k : Fin 408, X (k / 136) (y + k / 34 % 4 / 2) (k / 34 % 2) (k % 34) * W k = corr 3 4 2 p w y x := by
  rw [Fin.sum_univ_eq_sum_range (fun k => X (k / 136) (y + k / 34 % 4 / 2) (k / 34 % 2) (k % 34) * W k),
    sum_runs 12 34, sum_runs 3 4]
  unfold corr
  refine sum_congr rfl fun c hc => ?_
  rw [sum_runs 4 4]
  refine sum_congr rfl fun ky hk => ?_
  have hc := mem_range.mp hc
  have hk := mem_range.mp hk
  have e : ∑ j ∈ range 4, w c ((ky * 4 + j) / 4) ((ky * 4 + j) % 4) *
      p c (2 * y + (ky * 4 + j) / 4) (2 * x + (ky * 4 + j) % 4) =
      ∑ j ∈ range 4, p c (2 * y + ky) (2 * x + j) * w c ky j := by
    refine sum_congr rfl fun j hj => ?_
    have := mem_range.mp hj
    rw [mul_comm, show (ky * 4 + j) / 4 = ky by omega, show (ky * 4 + j) % 4 = j by omega]
  rw [e, ← sum_window 34 4 (2 * x) (fun u => p c (2 * y + ky) u) (fun u => w c ky u) (by omega)]
  refine sum_congr rfl fun u hu => ?_
  have hu := mem_range.mp hu
  rw [hW _ (by omega), show ((c * 4 + ky) * 34 + u) / 136 = c by omega,
    show ((c * 4 + ky) * 34 + u) / 34 % 4 = ky by omega, show ((c * 4 + ky) * 34 + u) / 34 % 2 = ky % 2 by omega,
    show ((c * 4 + ky) * 34 + u) % 34 = u by omega, hX c hc _ (by omega) _ (by omega) u hu,
    show 2 * (y + ky / 2) + ky % 2 = 2 * y + ky by omega]

/-- Sixteen terms taken two by two in each direction are the sixteen terms. -/
theorem sum_quads (F : ℕ → ℕ → EReal) :
    ∑ t ∈ range 4, ∑ q ∈ range 4, F (t / 2 * 2 + q / 2) (t % 2 * 2 + q % 2) = ∑ a ∈ range 4, ∑ b ∈ range 4, F a b := by
  simp only [sum_range_succ, sum_range_zero, zero_add]
  norm_num
  abel

/-- The second stage's contraction: four taps over planes stacked two rows and two columns deep. -/
theorem enc2_sum (p w : ℕ → ℕ → ℕ → EReal) (X : ℕ → ℕ → ℕ → EReal) (W : ℕ → ℕ → EReal) (y x : ℕ) (hy : y < 8)
    (hx : x < 8) (hX : ∀ r < 9, ∀ u < 9, ∀ k < 1024, X r u k = p (k % 256) (2 * r + k / 512) (2 * u + k / 256 % 2))
    (hW : ∀ t < 4, ∀ k < 1024, W t k = w (k % 256) (t / 2 * 2 + k / 512) (t % 2 * 2 + k / 256 % 2)) :
    ∑ t ∈ range 4, ∑ k : Fin 1024, X (y + t / 2) (x + t % 2) k * W t k = corr 256 4 2 p w y x := by
  rw [corr4, ← sum_quads fun ky kx => ∑ c ∈ range 256, w c ky kx * p c (2 * y + ky) (2 * x + kx)]
  refine sum_congr rfl fun t ht => ?_
  have ht := mem_range.mp ht
  rw [Fin.sum_univ_eq_sum_range (fun k => X (y + t / 2) (x + t % 2) k * W t k), sum_runs 4 256]
  refine sum_congr rfl fun q hq => sum_congr rfl fun c hc => ?_
  have hq := mem_range.mp hq
  have hc := mem_range.mp hc
  rw [hX _ (by omega) _ (by omega) _ (by omega), hW t ht _ (by omega), show (q * 256 + c) % 256 = c by omega,
    show (q * 256 + c) / 512 = q / 2 by omega, show (q * 256 + c) / 256 % 2 = q % 2 by omega, mul_comm,
    show 2 * (y + t / 2) + q / 2 = 2 * y + (t / 2 * 2 + q / 2) by omega,
    show 2 * (x + t % 2) + q % 2 = 2 * x + (t % 2 * 2 + q % 2) by omega]

/-- Nine taps, one after the other. -/
theorem taps_sum (C : ℕ) (p w : ℕ → ℕ → ℕ → EReal) (X : ℕ → ℕ → ℕ → EReal) (W : ℕ → ℕ → EReal) (y x : ℕ) (hy : y < 8)
    (hx : x < 8) (hX : ∀ r < 10, ∀ u < 10, ∀ c < C, X r u c = p c r u)
    (hW : ∀ t < 9, ∀ c < C, W t c = w c (t / 3) (t % 3)) :
    ∑ t ∈ range 9, ∑ c : Fin C, X (y + t / 3) (x + t % 3) c * W t c = corr C 3 1 p w y x := by
  rw [corr_comm]
  refine sum_congr rfl fun t ht => ?_
  have ht := mem_range.mp ht
  rw [Fin.sum_univ_eq_sum_range (fun c => X (y + t / 3) (x + t % 3) c * W t c)]
  refine sum_congr rfl fun c hc => ?_
  have hc := mem_range.mp hc
  rw [hX _ (by omega) _ (by omega) c hc, hW t ht c hc, one_mul, one_mul, mul_comm]

/-- Nine taps side by side in one contraction. -/
theorem dec1_sum (p w : ℕ → ℕ → ℕ → EReal) (X : ℕ → ℕ → ℕ → EReal) (W : ℕ → EReal) (y x : ℕ) (hy : y < 8) (hx : x < 8)
    (hX : ∀ r < 10, ∀ u < 10, ∀ c < 64, X r u c = p c r u)
    (hW : ∀ k < 576, W k = w (k % 64) (k / 64 / 3) (k / 64 % 3)) :
    ∑ k : Fin 576, X (y + k / 64 / 3) (x + k / 64 % 3) (k % 64) * W k = corr 64 3 1 p w y x := by
  rw [corr_comm, Fin.sum_univ_eq_sum_range (fun k => X (y + k / 64 / 3) (x + k / 64 % 3) (k % 64) * W k),
    sum_runs 9 64]
  refine sum_congr rfl fun t ht => sum_congr rfl fun c hc => ?_
  have ht := mem_range.mp ht
  have hc := mem_range.mp hc
  rw [show (t * 64 + c) / 64 = t by omega, show (t * 64 + c) % 64 = c by omega, hX _ (by omega) _ (by omega) c hc,
    hW _ (by omega), show (t * 64 + c) / 64 = t by omega, show (t * 64 + c) % 64 = c by omega, one_mul, one_mul,
    mul_comm]

/-- At even places a spread plane is the padded plane. -/
theorem dilBy_even (f : ℕ → ℕ → EReal) (a b : ℕ) : dilBy f (2 * a) (2 * b) = padBy f a b := by
  unfold dilBy padBy
  by_cases h : 1 ≤ a ∧ 1 ≤ b
  · rw [if_pos h, if_pos (by omega), show (2 * a - 2) / 2 = a - 1 by omega, show (2 * b - 2) / 2 = b - 1 by omega]
  · rw [if_neg h, if_neg (by omega)]

/-- In an odd row a spread plane is zero. -/
theorem dilBy_row (f : ℕ → ℕ → EReal) (Y X : ℕ) (h : Y % 2 = 1) : dilBy f Y X = 0 := by
  unfold dilBy
  rw [if_neg (by omega)]

/-- In an odd column a spread plane is zero. -/
theorem dilBy_col (f : ℕ → ℕ → EReal) (Y X : ℕ) (h : X % 2 = 1) : dilBy f Y X = 0 := by
  unfold dilBy
  rw [if_neg (by omega)]

/-- Of four terms those of one parity remain. -/
theorem sum_parity (F : ℕ → EReal) (p : ℕ) (hp : p < 2) (h : ∀ k, (p + k) % 2 = 1 → F k = 0) :
    ∑ k ∈ range 4, F k = ∑ d ∈ range 2, F (d * 2 + p) := by
  have h0 := h 0
  have h1 := h 1
  have h2 := h 2
  have h3 := h 3
  simp only [sum_range_succ, sum_range_zero, zero_add]
  interval_cases p
  · rw [h1 (by norm_num), h3 (by norm_num)]
    simp
  · rw [h0 (by norm_num), h2 (by norm_num)]
    simp

/-- The correlation of a spread plane at a row of one parity: two kernel rows remain. -/
theorem corr_dil_rows (h w : ℕ → ℕ → ℕ → EReal) (i py X : ℕ) (hpy : py < 2) :
    corr 256 4 1 (fun c => dilBy (h c)) w (2 * i + py) X = ∑ dy ∈ range 2, ∑ kx ∈ range 4, ∑ c ∈ range 256,
      w c (dy * 2 + py) kx * dilBy (h c) (2 * (i + py + dy)) (X + kx) := by
  rw [corr4, sum_parity _ py hpy]
  · refine sum_congr rfl fun dy _ => sum_congr rfl fun kx _ => sum_congr rfl fun c _ => ?_
    rw [show 1 * (2 * i + py) + (dy * 2 + py) = 2 * (i + py + dy) by omega, one_mul]
  · intro ky hk
    refine sum_eq_zero fun kx _ => sum_eq_zero fun c _ => ?_
    rw [dilBy_row _ _ _ (by omega), mul_zero]

/-- The fifth stage's contraction at one parity of row and column: four taps over the padded planes. -/
theorem dec2_sum (h w : ℕ → ℕ → ℕ → EReal) (X : ℕ → ℕ → ℕ → EReal) (W : ℕ → ℕ → EReal) (i j py px : ℕ) (hi : i < 8)
    (hj : j < 8) (hpy : py < 2) (hpx : px < 2) (hX : ∀ r < 10, ∀ u < 10, ∀ c < 256, X r u c = padBy (h c) r u)
    (hW : ∀ t < 4, ∀ c < 256, W t c = w c (t / 2 * 2 + py) (t % 2 * 2 + px)) :
    ∑ t ∈ range 4, ∑ c : Fin 256, X (py + t / 2 + i) (px + t % 2 + j) c * W t c =
      corr 256 4 1 (fun c => dilBy (h c)) w (2 * i + py) (2 * j + px) := by
  rw [corr_dil_rows h w i py _ hpy, sum_runs 2 2]
  refine sum_congr rfl fun dy hdy => ?_
  rw [sum_parity _ px hpx]
  · refine sum_congr rfl fun dx hdx => ?_
    have hdy := mem_range.mp hdy
    have hdx := mem_range.mp hdx
    rw [show (dy * 2 + dx) / 2 = dy by omega, show (dy * 2 + dx) % 2 = dx by omega,
      Fin.sum_univ_eq_sum_range (fun c => X (py + dy + i) (px + dx + j) c * W (dy * 2 + dx) c)]
    refine sum_congr rfl fun c hc => ?_
    have hc := mem_range.mp hc
    rw [hX _ (by omega) _ (by omega) c hc, hW _ (by omega) c hc, show (dy * 2 + dx) / 2 = dy by omega,
      show (dy * 2 + dx) % 2 = dx by omega, show 2 * j + px + (dx * 2 + px) = 2 * (j + px + dx) by omega,
      dilBy_even, mul_comm, show py + dy + i = i + py + dy by omega, show px + dx + j = j + px + dx by omega]
  · intro kx hk
    refine sum_eq_zero fun c _ => ?_
    rw [dilBy_col _ _ _ (by omega), mul_zero]

/-- The last stage's contraction: the row pairs, spread along the row by a table of zeros and ones. -/
theorem dec3_sum (h w : ℕ → ℕ → ℕ → EReal) (P S : ℕ → EReal) (r py X o : ℕ) (hpy : py < 2) (hXl : X < 32) (ho : o < 3)
    (hz : ∀ c Y X, 16 ≤ X → h c Y X = 0)
    (hP : ∀ k < 192, k / 4 % 3 = o → P k = ∑ dy ∈ range 2, ∑ c ∈ range 256,
      w c (dy * 2 + py) (k % 4) * padBy (h c) (r + py + dy) (k / 12 + 1))
    (hS : ∀ k < 192, S k = if k / 4 % 3 = o ∧ X + k % 4 = 2 * (k / 12) + 2 then 1 else 0) :
    ∑ k : Fin 192, P k * S k = corr 256 4 1 (fun c => dilBy (h c)) w (2 * r + py) X := by
  rw [corr_dil_rows h w r py _ hpy, Finset.sum_comm, Fin.sum_univ_eq_sum_range (fun k => P k * S k), sum_runs 16 12]
  have e : ∀ j ∈ range 16, ∑ m ∈ range 12, P (j * 12 + m) * S (j * 12 + m) = ∑ kx ∈ range 4,
      (if X + kx = 2 * j + 2 then ∑ dy ∈ range 2, ∑ c ∈ range 256,
        w c (dy * 2 + py) kx * padBy (h c) (r + py + dy) (j + 1) else 0) := by
    intro j hj
    have hj := mem_range.mp hj
    rw [sum_runs 3 4, sum_eq_single o]
    · refine sum_congr rfl fun kx hkx => ?_
      have hkx := mem_range.mp hkx
      rw [hS _ (by omega), show (j * 12 + (o * 4 + kx)) / 4 % 3 = o by omega,
        show (j * 12 + (o * 4 + kx)) % 4 = kx by omega, show (j * 12 + (o * 4 + kx)) / 12 = j by omega,
        hP _ (by omega) (by omega), show (j * 12 + (o * 4 + kx)) % 4 = kx by omega,
        show (j * 12 + (o * 4 + kx)) / 12 = j by omega]
      by_cases hc : X + kx = 2 * j + 2
      · rw [if_pos ⟨rfl, hc⟩, if_pos hc, mul_one]
      · rw [if_neg (fun h => hc h.2), if_neg hc, mul_zero]
    · intro c hc hne
      have hc := mem_range.mp hc
      refine sum_eq_zero fun kx hkx => ?_
      have hkx := mem_range.mp hkx
      rw [hS _ (by omega), if_neg (by omega), mul_zero]
    · exact fun hn => absurd (mem_range.mpr ho) hn
  rw [sum_congr rfl e, Finset.sum_comm]
  refine sum_congr rfl fun kx hkx => ?_
  have hkx := mem_range.mp hkx
  by_cases ho : (X + kx) % 2 = 1
  · rw [sum_eq_zero fun j _ => if_neg (by omega)]
    refine (sum_eq_zero fun dy _ => sum_eq_zero fun c _ => ?_).symm
    rw [dilBy_col _ _ _ ho, mul_zero]
  · obtain ⟨a, ha⟩ : ∃ a, X + kx = 2 * a := ⟨(X + kx) / 2, by omega⟩
    rw [ha]
    simp only [dilBy_even]
    by_cases hr : 1 ≤ a ∧ a ≤ 16
    · rw [sum_eq_single (a - 1)]
      · rw [if_pos (by omega), show a - 1 + 1 = a by omega]
      · intro j hj hne
        rw [if_neg (by omega)]
      · exact fun hn => absurd (mem_range.mpr (by omega)) hn
    · rw [sum_eq_zero fun j hj => if_neg (by have := mem_range.mp hj; omega)]
      refine (sum_eq_zero fun dy _ => sum_eq_zero fun c _ => ?_).symm
      unfold padBy
      split_ifs with hc
      · rw [hz _ _ _ (by omega), mul_zero]
      · rw [mul_zero]

end Cert.Conv

end
-- ==== Proof.Val.Reg0.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk0_0 (t) (i : Fin 32) (j : Fin 3) (k : Fin 17) (l : Fin 2) (n : Fin 34) :
    iblk0 V c 0 t (ix5 i j k l n) = at5 (A := 256) (V c main_v1) (t * 32 + i) j k l n := by
  have idx : ∀ t, win0_0.index t = ![t.val, 0, 0, 0, 0] := by decide +kernel
  have ht : t.val < 8 := t.isLt
  rw [at5, dif_pos (by omega)]
  blk_ext [iblk0, idx t]

/-- Operand 1's block at a grid point, read in the operand's array. -/
theorem iblk0_1 (t) (i : Fin 408) (j : Fin 4096) :
    iblk0 V c 1 t (ix2 i j) = at2 (A := 408) (V c main_v5) i j := by
  have idx : ∀ t, win0_1.index t = ![0, 0] := by decide +kernel
  rw [at2, dif_pos (by omega)]
  blk_ext [iblk0, idx t]

/-- Operand 2's block at a grid point, read in the operand's array. -/
theorem iblk0_2 (t) (i : Fin 1) (j : Fin 4096) :
    iblk0 V c 2 t (ix2 i j) = at2 (A := 1) (V c main_v10) i j := by
  have idx : ∀ t, win0_2.index t = ![0, 0] := by decide +kernel
  rw [at2, dif_pos (by omega)]
  blk_ext [iblk0, idx t]

/-- What launch 0 computes from its operands. One row of windows, unrolled, against the spread kernel. -/
def G0 (X : Shape.Idx ⟨5, ![256, 3, 17, 2, 34]⟩ → EReal) (W : Shape.Idx ⟨2, ![408, 4096]⟩ → EReal) (B : Shape.Idx ⟨2, ![1, 4096]⟩ → EReal)
    (i : Shape.Idx ⟨3, ![256, 16, 4096]⟩) : EReal :=
  max ((∑ k : Fin 408, at5 X (i 0) (k / 136) (i 1 + k / 34 % 4 / 2) (k / 34 % 2) (k % 34) * at2 W k (i 2)) +
    at2 B 0 (i 2)) 0

set_option maxHeartbeats 1600000 in
/-- The result array of launch 0, over every grid point. -/
theorem reg0 : (dat0 V c).arrAt 3 cfg0.N = G0 (V c main_v1) (V c main_v5) (V c main_v10) := by
  have idx : ∀ t, win0_3.index t = ![t.val, 0, 0] := by decide +kernel
  refine (dat0 V c).arrAt_eq_of_covers 3 _ (by decide +kernel) fun t hf y => ?_
  blk_simp
  rw [after0_3]
  unfold out0_3
  idx_vars y
  frame_out
  pointwise [k0_pay1]
  simp only [iblk0_0, iblk0_1, iblk0_2, G0]
  blk_simp [idx t]
  simp only [Fin.val_zero, Fin.val_one, Fin.val_two]
  refine relu_sum_congr fun k => ?_
  have hk := k.isLt
  iterate 11 (refine dite_eq_of ?_ fun h => ?_; · intro h; exact at5_congr (by omega) (by omega) (by omega) (by omega) (by omega))
  exact at5_congr (by omega) (by omega) (by omega) (by omega) (by omega)

end Cert.KernelIdeal.Val

end
-- ==== Proof.Val.Enc1.lean ====
/- The first stage: what the host prepares for the first launch, and what the launch computes from it. -/
module

public import proofs.«01_k».proof.Proof.Val.Host
public import proofs.«01_k».proof.Proof.Math
public import proofs.«01_k».proof.Proof.Val.Reg0
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The first launch's planes: the padded image, its rows in pairs. -/
theorem v1_at (i0 : Fin 256) (i1 : Fin 3) (i2 : Fin 17) (i3 : Fin 2) (i4 : Fin 34) :
    (pre0 V (Proc.devRef .tc main_v1)) (ix5 i0 i1 i2 i3 i4) =
      padBy (at4 (A := 256) (B := 3) (C := 32) (D := 32) (V (Proc.devRef .tc main_arg0)) i0 i1) (2 * i2 + i3) i4 := by
  after_reads_at
  have h2 := i2.isLt
  have h3 := i3.isLt
  have h4 := i4.isLt
  refine dite_eq_of (fun h => ?_) fun h => ?_
  · rw [padBy, if_pos (by omega)]
    refine (at4_ix (A := 256) _ _ _ _ _).trans (at4_congr rfl rfl ?_ ?_) <;> (try dsimp only) <;> omega
  · refine margin_zero.trans ?_
    unfold padBy
    split_ifs with h'
    · simp only [at4]
      rw [dif_neg (by omega)]
    · rfl

/-- The table of the row kernel's places, at a flat place. -/
theorem places_flat : ∀ i : Fin 2176,
    lit0 i = if i.val / 16 % 34 = 2 * (i.val % 16) + i.val / 544 then 1065353216#32 else 0#32 := by
  decide +kernel

/-- The table of the row kernel's places: one where the column is twice the output column plus the tap. -/
theorem places (x : Fin 4) (u : Fin 34) (j : Fin 16) :
    (Ideal.ofBits .f32 (lit0 (S4x34x16.rowMajor (ix3 x u j))) : EReal) = if u.val = 2 * j.val + x.val then 1 else 0 := by
  have e : (S4x34x16.rowMajor (ix3 x u j)).val = (x.val * 34 + u.val) * 16 + j.val :=
    Shape.rowMajor_val_three (d := ![4, 34, 16]) (ix3 x u j)
  refine (congrArg (Ideal.ofBits .f32) (places_flat (S4x34x16.rowMajor (ix3 x u j)))).trans ?_
  rw [e]
  have hx := x.isLt
  have hu := u.isLt
  have hj := j.isLt
  rw [show ((x.val * 34 + u.val) * 16 + j.val) / 16 % 34 = u.val by omega,
    show ((x.val * 34 + u.val) * 16 + j.val) % 16 = j.val by omega,
    show ((x.val * 34 + u.val) * 16 + j.val) / 544 = x.val by omega]
  split_ifs
  · exact one_bits
  · exact zero_bits

/-- The first launch's weights: the row kernel placed along the row. -/
theorem v5_at (i0 : Fin 408) (i1 : Fin 4096) :
    (pre0 V (Proc.devRef .tc main_v5)) (ix2 i0 i1) =
      if 2 * (i1.val / 256) ≤ i0.val % 34 ∧ i0.val % 34 < 2 * (i1.val / 256) + 4 then
        at4 (A := 256) (B := 3) (C := 4) (D := 4) (V (Proc.devRef .tc main_arg2)) (i1 % 256) (i0 / 136) (i0 / 34 % 4)
          (i0 % 34 - 2 * (i1.val / 256)) else 0 := by
  after_reads_at
  have h0 := i0.isLt
  have h1 := i1.isLt
  split_ifs with h
  · refine (Finset.sum_eq_single (⟨i0.val % 34 - 2 * (i1.val / 256), by omega⟩ : Fin 4) (fun x _ hx => ?_)
      fun hn => absurd (Finset.mem_univ _) hn).trans ?_
    · refine (congrArg₂ (fun p q : EReal => p * q) rfl (places _ _ _)).trans ?_
      have : x.val ≠ i0.val % 34 - 2 * (i1.val / 256) := fun e => hx (Fin.ext e)
      rw [if_neg (by dsimp only; omega)]
      exact mul_zero _
    · refine (congrArg₂ (fun p q : EReal => p * q) (at4_ix (A := 256) (V (Proc.devRef .tc main_arg2)) _ _ _ _) (places _ _ _)).trans ?_
      rw [if_pos (by dsimp only; omega)]
      exact mul_one _
  · refine Finset.sum_eq_zero fun x _ => ?_
    refine (congrArg₂ (fun p q : EReal => p * q) rfl (places _ _ _)).trans ?_
    have := x.isLt
    rw [if_neg (by dsimp only; omega)]
    exact mul_zero _

/-- The first launch's offsets: the channels' offsets, once for each column. -/
theorem v10_at (i1 : Fin 4096) : (pre0 V (Proc.devRef .tc main_v10)) (ix2 0 i1) =
    at1 (A := 256) (V (Proc.devRef .tc main_arg3)) (i1 % 256) := by
  after_reads_at
  exact at1_ix (A := 256) (V (Proc.devRef .tc main_arg3)) _

/-- The first launch computes the first stage. -/
theorem kenc1 (b : Fin 256) (y : Fin 16) (n : Fin 4096) :
    G0 (pre0 V (Proc.devRef .tc main_v1)) (pre0 V (Proc.devRef .tc main_v5)) (pre0 V (Proc.devRef .tc main_v10)) (ix3 b y n) =
      max (corr 3 4 2 (fun c => padBy (at4 (A := 256) (B := 3) (C := 32) (D := 32) (V (Proc.devRef .tc main_arg0)) b c))
        (fun c ky kx => at4 (A := 256) (B := 3) (C := 4) (D := 4) (V (Proc.devRef .tc main_arg2)) (n.val % 256) c ky kx) y
        (n.val / 256) + at1 (A := 256) (V (Proc.devRef .tc main_arg3)) (n.val % 256)) 0 := by
  have hn := n.isLt
  unfold G0
  refine congrArg₂ (max : EReal → EReal → EReal) (congrArg₂ (fun p q : EReal => p + q) ?_ ?_) rfl
  · refine enc1_sum _ _ (fun c r q u => at5 (A := 256) (B := 3) (C := 17) (D := 2) (E := 34) (pre0 V (Proc.devRef .tc main_v1)) b c r q u)
      (fun k => at2 (A := 408) (B := 4096) (pre0 V (Proc.devRef .tc main_v5)) k n) y (n / 256) y.isLt (by omega) ?_ ?_
    · intro c hc r hr q hq u hu
      rw [at5, dif_pos ⟨b.isLt, hc, hr, hq, hu⟩]
      exact v1_at V b ⟨c, hc⟩ ⟨r, hr⟩ ⟨q, hq⟩ ⟨u, hu⟩
    · intro k hk
      rw [at2, dif_pos ⟨hk, n.isLt⟩]
      exact v5_at V ⟨k, hk⟩ n
  · exact (at2_ix (A := 1) (pre0 V (Proc.devRef .tc main_v10)) 0 n).symm.trans (v10_at V n)

end Cert.KernelIdeal.Val

end
-- ==== Proof.Val.Reg1.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk1_0 (t) (i : Fin 16) (j : Fin 9) (k : Fin 9) (l : Fin 1024) :
    iblk1 V c 0 t (ix4 i j k l) = at4 (A := 256) (V c main_v16) (t * 16 + i) j k l := by
  have idx : ∀ t, win1_0.index t = ![t.val, 0, 0, 0] := by decide +kernel
  have ht : t.val < 16 := t.isLt
  rw [at4, dif_pos (by omega)]
  blk_ext [iblk1, idx t]

/-- Operand 1's block at a grid point, read in the operand's array. -/
theorem iblk1_1 (t) (i : Fin 4) (j : Fin 1024) (k : Fin 256) :
    iblk1 V c 1 t (ix3 i j k) = at3 (A := 4) (V c main_v20) i j k := by
  have idx : ∀ t, win1_1.index t = ![0, 0, 0] := by decide +kernel
  rw [at3, dif_pos (by omega)]
  blk_ext [iblk1, idx t]

/-- Operand 2's block at a grid point, read in the operand's array. -/
theorem iblk1_2 (t) (i : Fin 1) (j : Fin 256) :
    iblk1 V c 2 t (ix2 i j) = at2 (A := 1) (V c main_v21) i j := by
  have idx : ∀ t, win1_2.index t = ![0, 0] := by decide +kernel
  rw [at2, dif_pos (by omega)]
  blk_ext [iblk1, idx t]

/-- What launch 1 computes from its operands. Four taps over the depth-stacked planes. -/
def G1 (X : Shape.Idx ⟨4, ![256, 9, 9, 1024]⟩ → EReal) (W : Shape.Idx ⟨3, ![4, 1024, 256]⟩ → EReal) (B : Shape.Idx ⟨2, ![1, 256]⟩ → EReal)
    (i : Shape.Idx ⟨4, ![256, 8, 8, 256]⟩) : EReal :=
  max ((∑ t ∈ Finset.range 4, ∑ k : Fin 1024, at4 X (i 0) (i 1 + t / 2) (i 2 + t % 2) k * at3 W t k (i 3)) +
    at2 B 0 (i 3)) 0

/-- The result array of launch 1, over every grid point. -/
theorem reg1 : (dat1 V c).arrAt 3 cfg1.N = G1 (V c main_v16) (V c main_v20) (V c main_v21) := by
  have idx : ∀ t, win1_3.index t = ![t.val, 0, 0, 0] := by decide +kernel
  refine (dat1 V c).arrAt_eq_of_covers 3 _ (by decide +kernel) fun t hf y => ?_
  blk_simp
  rw [after1_3]
  unfold out1_3
  idx_vars y
  frame_out
  pointwise [k1_pay1, k1_pay2, k1_pay3, k1_pay4]
  simp only [iblk1_0, iblk1_1, iblk1_2, G1, Finset.sum_range_succ, Finset.sum_range_zero, zero_add]
  blk_simp [idx t]
  simp only [Nat.add_comm 1, Nat.add_comm 2]
  rfl

end Cert.KernelIdeal.Val

end
-- ==== Proof.Val.Enc2.lean ====
/- The second stage: what the host prepares for the second launch, and what the launch computes from it. -/
module

public import proofs.«01_k».proof.Proof.Val.Host
public import proofs.«01_k».proof.Proof.Math
public import proofs.«01_k».proof.Proof.Val.Reg1
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The second launch's planes: the padded planes, two rows and two columns deep. -/
theorem v16_at (i0 : Fin 256) (i1 i2 : Fin 9) (i3 : Fin 1024) :
    (pre1 V (Proc.devRef .tc main_v16)) (ix4 i0 i1 i2 i3) =
      padBy (wide (V (Proc.devRef .tc main_v11)) i0 (i3.val % 256))
        (2 * i1 + i3.val / 512) (2 * i2 + i3.val / 256 % 2) := by
  after_reads_at
  exact dite_eq_of (fun h => (at3_ix (A := 256) (B := 16) (C := 4096) (V (Proc.devRef .tc main_v11)) _ _ _).trans
      (padBy_wide (by rw [mul_comm]) (by rw [mul_comm]) h))
    fun h => margin_zero.trans (padBy_wide_out (by rw [mul_comm]) (by rw [mul_comm]) h)

/-- The second launch's weights, tap by tap. -/
theorem v20_at (i0 : Fin 4) (i1 : Fin 1024) (i2 : Fin 256) :
    (pre1 V (Proc.devRef .tc main_v20)) (ix3 i0 i1 i2) =
      at4 (A := 256) (B := 256) (C := 4) (D := 4) (V (Proc.devRef .tc main_arg4)) i2 (i1.val % 256) (i0.val / 2 * 2 + i1.val / 512)
        (i0.val % 2 * 2 + i1.val / 256 % 2) := by
  after_reads_at
  have h0 := i0.isLt
  have h1 := i1.isLt
  refine (at4_ix (A := 256) (V (Proc.devRef .tc main_arg4)) _ _ _ _).trans (at4_congr ?_ ?_ ?_ ?_) <;> (try dsimp only) <;> omega

/-- The second launch's offsets. -/
theorem v21_at (i1 : Fin 256) : (pre1 V (Proc.devRef .tc main_v21)) (ix2 0 i1) = at1 (A := 256) (V (Proc.devRef .tc main_arg5)) i1 := by
  after_reads_at
  exact at1_ix (A := 256) (V (Proc.devRef .tc main_arg5)) _

/-- The second launch computes the second stage. -/
theorem kenc2 (b : Fin 256) (y x : Fin 8) (n : Fin 256) :
    G1 (pre1 V (Proc.devRef .tc main_v16)) (pre1 V (Proc.devRef .tc main_v20)) (pre1 V (Proc.devRef .tc main_v21)) (ix4 b y x n) =
      max (corr 256 4 2 (fun c => padBy (wide (V (Proc.devRef .tc main_v11)) b c))
        (fun c ky kx => at4 (A := 256) (B := 256) (C := 4) (D := 4) (V (Proc.devRef .tc main_arg4)) n c ky kx) y x +
        at1 (A := 256) (V (Proc.devRef .tc main_arg5)) n) 0 := by
  unfold G1
  refine congrArg₂ (max : EReal → EReal → EReal) (congrArg₂ (fun p q : EReal => p + q) ?_ ?_) rfl
  · refine enc2_sum _ _ (fun r u k => at4 (A := 256) (B := 9) (C := 9) (D := 1024) (pre1 V (Proc.devRef .tc main_v16)) b r u k)
      (fun t k => at3 (A := 4) (B := 1024) (C := 256) (pre1 V (Proc.devRef .tc main_v20)) t k n) y x y.isLt x.isLt ?_ ?_
    · intro r hr u hu k hk
      rw [at4, dif_pos ⟨b.isLt, hr, hu, hk⟩]
      exact v16_at V b ⟨r, hr⟩ ⟨u, hu⟩ ⟨k, hk⟩
    · intro t ht k hk
      rw [at3, dif_pos ⟨ht, hk, n.isLt⟩]
      exact v20_at V ⟨t, ht⟩ ⟨k, hk⟩ n
  · exact (at2_ix (A := 1) (pre1 V (Proc.devRef .tc main_v21)) 0 n).symm.trans (v21_at V n)

end Cert.KernelIdeal.Val

end
-- ==== Proof.Val.Reg2.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk2_0 (t) (i : Fin 32) (j : Fin 10) (k : Fin 10) (l : Fin 256) :
    iblk2 V c 0 t (ix4 i j k l) = at4 (A := 256) (V c main_v23) (t * 32 + i) j k l := by
  have idx : ∀ t, win2_0.index t = ![t.val, 0, 0, 0] := by decide +kernel
  have ht : t.val < 8 := t.isLt
  rw [at4, dif_pos (by omega)]
  blk_ext [iblk2, idx t]

/-- Operand 1's block at a grid point, read in the operand's array. -/
theorem iblk2_1 (t) (i : Fin 9) (j : Fin 256) (k : Fin 64) :
    iblk2 V c 1 t (ix3 i j k) = at3 (A := 9) (V c main_v25) i j k := by
  have idx : ∀ t, win2_1.index t = ![0, 0, 0] := by decide +kernel
  rw [at3, dif_pos (by omega)]
  blk_ext [iblk2, idx t]

/-- Operand 2's block at a grid point, read in the operand's array. -/
theorem iblk2_2 (t) (i : Fin 1) (j : Fin 64) :
    iblk2 V c 2 t (ix2 i j) = at2 (A := 1) (V c main_v26) i j := by
  have idx : ∀ t, win2_2.index t = ![0, 0] := by decide +kernel
  rw [at2, dif_pos (by omega)]
  blk_ext [iblk2, idx t]

/-- What launch 2 computes from its operands. Nine taps. -/
def G2 (X : Shape.Idx ⟨4, ![256, 10, 10, 256]⟩ → EReal) (W : Shape.Idx ⟨3, ![9, 256, 64]⟩ → EReal) (B : Shape.Idx ⟨2, ![1, 64]⟩ → EReal)
    (i : Shape.Idx ⟨4, ![256, 8, 8, 64]⟩) : EReal :=
  (∑ t ∈ Finset.range 9, ∑ k : Fin 256, at4 X (i 0) (i 1 + t / 3) (i 2 + t % 3) k * at3 W t k (i 3)) + at2 B 0 (i 3)

/-- The result array of launch 2, over every grid point. -/
theorem reg2 : (dat2 V c).arrAt 3 cfg2.N = G2 (V c main_v23) (V c main_v25) (V c main_v26) := by
  have idx : ∀ t, win2_3.index t = ![t.val, 0, 0, 0] := by decide +kernel
  refine (dat2 V c).arrAt_eq_of_covers 3 _ (by decide +kernel) fun t hf y => ?_
  blk_simp
  rw [after2_3]
  unfold out2_3
  idx_vars y
  frame_out
  pointwise [k2_pay1, k2_pay2, k2_pay3, k2_pay4, k2_pay5, k2_pay6, k2_pay7]
  simp only [iblk2_0, iblk2_1, iblk2_2, G2, Finset.sum_range_succ, Finset.sum_range_zero, zero_add]
  blk_simp [idx t]
  simp only [Nat.add_comm 1, Nat.add_comm 2]
  rfl

end Cert.KernelIdeal.Val

end
-- ==== Proof.Val.Enc3.lean ====
/- The third stage: what the host prepares for the third launch, and what the launch computes from it. -/
module

public import proofs.«01_k».proof.Proof.Val.Host
public import proofs.«01_k».proof.Proof.Math
public import proofs.«01_k».proof.Proof.Val.Reg2
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The third launch's planes: the padded planes. -/
theorem v23_at (i0 : Fin 256) (i1 i2 : Fin 10) (i3 : Fin 256) :
    (pre2 V (Proc.devRef .tc main_v23)) (ix4 i0 i1 i2 i3) =
      padBy (fun Y X => at4 (A := 256) (B := 8) (C := 8) (D := 256) (V (Proc.devRef .tc main_v22)) i0 Y X i3) i1 i2 := by
  after_reads_at
  have h1 := i1.isLt
  have h2 := i2.isLt
  refine dite_eq_of (fun h => ?_) fun h => ?_
  · rw [padBy, if_pos (by omega)]
    refine (at4_ix (A := 256) _ _ _ _ _).trans (at4_congr ?_ ?_ ?_ ?_) <;> (try dsimp only) <;> omega
  · refine margin_zero.trans ?_
    unfold padBy
    split_ifs with h'
    · simp only [at4]
      rw [dif_neg (by omega)]
    · rfl

/-- The third launch's weights, tap by tap. -/
theorem v25_at (i0 : Fin 9) (i1 : Fin 256) (i2 : Fin 64) :
    (pre2 V (Proc.devRef .tc main_v25)) (ix3 i0 i1 i2) =
      at4 (A := 64) (B := 256) (C := 3) (D := 3) (V (Proc.devRef .tc main_arg6)) i2 i1 (i0.val / 3) (i0.val % 3) := by
  after_reads_at
  have h0 := i0.isLt
  have h1 := i1.isLt
  refine (at4_ix (A := 64) (V (Proc.devRef .tc main_arg6)) _ _ _ _).trans (at4_congr ?_ ?_ ?_ ?_) <;> (try dsimp only) <;> omega

/-- The third launch's offsets. -/
theorem v26_at (i1 : Fin 64) : (pre2 V (Proc.devRef .tc main_v26)) (ix2 0 i1) = at1 (A := 64) (V (Proc.devRef .tc main_arg7)) i1 := by
  after_reads_at
  exact at1_ix (A := 64) (V (Proc.devRef .tc main_arg7)) _

/-- The third launch computes the third stage. -/
theorem kenc3 (b : Fin 256) (y x : Fin 8) (n : Fin 64) :
    G2 (pre2 V (Proc.devRef .tc main_v23)) (pre2 V (Proc.devRef .tc main_v25)) (pre2 V (Proc.devRef .tc main_v26)) (ix4 b y x n) =
      corr 256 3 1 (fun c => padBy (fun Y X => at4 (A := 256) (B := 8) (C := 8) (D := 256) (V (Proc.devRef .tc main_v22)) b Y X c))
        (fun c ky kx => at4 (A := 64) (B := 256) (C := 3) (D := 3) (V (Proc.devRef .tc main_arg6)) n c ky kx) y x +
        at1 (A := 64) (V (Proc.devRef .tc main_arg7)) n := by
  unfold G2
  refine congrArg₂ (fun p q : EReal => p + q) ?_ ?_
  · refine taps_sum 256 _ _ (fun r u k => at4 (A := 256) (B := 10) (C := 10) (D := 256) (pre2 V (Proc.devRef .tc main_v23)) b r u k)
      (fun t k => at3 (A := 9) (B := 256) (C := 64) (pre2 V (Proc.devRef .tc main_v25)) t k n) y x y.isLt x.isLt ?_ ?_
    · intro r hr u hu k hk
      rw [at4, dif_pos ⟨b.isLt, hr, hu, hk⟩]
      exact v23_at V b ⟨r, hr⟩ ⟨u, hu⟩ ⟨k, hk⟩
    · intro t ht k hk
      rw [at3, dif_pos ⟨ht, hk, n.isLt⟩]
      exact v25_at V ⟨t, ht⟩ ⟨k, hk⟩ n
  · exact (at2_ix (A := 1) (pre2 V (Proc.devRef .tc main_v26)) 0 n).symm.trans (v26_at V n)

end Cert.KernelIdeal.Val

end
-- ==== Proof.Val.Vq.lean ====
/- The nearest code: what the host prepares for the fourth launch, and what the launch computes from it. -/
module

public import proofs.«01_k».proof.Proof.Val.Host
public import proofs.«01_k».proof.Proof.Math
public import proofs.«01_k».proof.Proof.Val.Reg3
public import proofs.«01_k».proof.Proof.Pick
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The fourth launch's rows: the positions' vectors. -/
theorem v28_at (i0 : Fin 16384) (i1 : Fin 64) : (after hostOps3 V) (Proc.devRef .tc main_v28) (ix2 i0 i1) =
    at4 (A := 256) (B := 8) (C := 8) (D := 64) (V (Proc.devRef .tc main_v27)) (i0.val / 64) (i0.val / 8 % 8) (i0.val % 8) i1 := by
  after_reads_at
  have h0 := i0.isLt
  refine (at4_ix (A := 256) (V (Proc.devRef .tc main_v27)) _ _ _ _).trans (at4_congr ?_ ?_ ?_ ?_) <;> (try dsimp only) <;> omega

/-- The fourth launch's second operand: the codes, transposed. -/
theorem v29_at (i0 : Fin 64) (i1 : Fin 512) : (after hostOps3 V) (Proc.devRef .tc main_v29) (ix2 i0 i1) =
    at2 (A := 512) (B := 64) (V (Proc.devRef .tc main_arg1)) i1 i0 := by
  after_reads_at
  exact at2_ix (A := 512) (V (Proc.devRef .tc main_arg1)) _ _

/-- The fourth launch's third operand: the codes' squared lengths. -/
theorem v32_at (i1 : Fin 512) : (after hostOps3 V) (Proc.devRef .tc main_v32) (ix2 0 i1) =
    ∑ k : Fin 64, at2 (A := 512) (B := 64) (V (Proc.devRef .tc main_arg1)) i1 k * at2 (A := 512) (B := 64) (V (Proc.devRef .tc main_arg1)) i1 k := by
  after_reads_at
  exact Finset.sum_congr rfl fun k _ => congrArg₂ (fun p q : EReal => p * q)
    (at2_ix (A := 512) (V (Proc.devRef .tc main_arg1)) _ _) (at2_ix (A := 512) (V (Proc.devRef .tc main_arg1)) _ _)

/-- The fourth launch computes, at each position, the code whose distance is the first least. -/
theorem kvq (Cb : Shape.Idx ⟨2, ![512, 64]⟩ → EReal) (i : Fin 16384) (n : Fin 64) {k : Fin 512}
    (h : IsFirst (fun x : Fin 512 =>
      (∑ k : Fin 64, at4 (A := 256) (B := 8) (C := 8) (D := 64) (V (Proc.devRef .tc main_v27)) (i / 64) (i / 8 % 8) (i % 8) k *
        at4 (A := 256) (B := 8) (C := 8) (D := 64) (V (Proc.devRef .tc main_v27)) (i / 64) (i / 8 % 8) (i % 8) k) -
      Ideal.ofBits .f32 1073741824#32 * (∑ k : Fin 64,
        at4 (A := 256) (B := 8) (C := 8) (D := 64) (V (Proc.devRef .tc main_v27)) (i / 64) (i / 8 % 8) (i % 8) k *
        at2 (A := 512) (B := 64) (V (Proc.devRef .tc main_arg1)) x k) +
      ∑ k : Fin 64, at2 (A := 512) (B := 64) (V (Proc.devRef .tc main_arg1)) x k * at2 (A := 512) (B := 64) (V (Proc.devRef .tc main_arg1)) x k) k) :
    G3 ((after hostOps3 V) (Proc.devRef .tc main_v28)) ((after hostOps3 V) (Proc.devRef .tc main_v29)) ((after hostOps3 V) (Proc.devRef .tc main_v32)) Cb (ix2 i n) = at2 Cb k n := by
  have h' : IsFirst (score (A := 16384) ((after hostOps3 V) (Proc.devRef .tc main_v28)) ((after hostOps3 V) (Proc.devRef .tc main_v29)) ((after hostOps3 V) (Proc.devRef .tc main_v32)) i) k := by
    refine h.congr fun x => ?_
    unfold score
    have e0 : ∀ k : Fin 64, at2 (A := 16384) ((after hostOps3 V) (Proc.devRef .tc main_v28)) i k =
        at4 (A := 256) (B := 8) (C := 8) (D := 64) (V (Proc.devRef .tc main_v27)) (i / 64) (i / 8 % 8) (i % 8) k :=
      fun k => (at2_ix (A := 16384) ((after hostOps3 V) (Proc.devRef .tc main_v28)) i k).symm.trans (v28_at V i k)
    have e1 : ∀ k : Fin 64, at2 (A := 64) ((after hostOps3 V) (Proc.devRef .tc main_v29)) k x = at2 (A := 512) (B := 64) (V (Proc.devRef .tc main_arg1)) x k :=
      fun k => (at2_ix (A := 64) ((after hostOps3 V) (Proc.devRef .tc main_v29)) k x).symm.trans (v29_at V k x)
    have e2 := (at2_ix (A := 1) ((after hostOps3 V) (Proc.devRef .tc main_v32)) 0 x).symm.trans (v32_at V x)
    rw [show at2 (A := 1) ((after hostOps3 V) (Proc.devRef .tc main_v32)) 0 x = _ from e2]
    simp only [e0, e1]
    rw [sub_eq_add_neg, sub_eq_add_neg]
    exact add_right_comm _ _ _
  unfold G3
  rw [show pickWord (score (A := 16384) ((after hostOps3 V) (Proc.devRef .tc main_v28)) ((after hostOps3 V) (Proc.devRef .tc main_v29)) ((after hostOps3 V) (Proc.devRef .tc main_v32))
    ((ix2 i n : Shape.Idx ⟨2, ![16384, 64]⟩) 0)) = BitVec.ofNat 32 k from pickWord_eq h']
  exact onehot_sum k fun x : Fin 512 => at2 Cb x n

end Cert.KernelIdeal.Val

end
-- ==== Proof.Val.Reg4.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk4_0 (t) (i : Fin 32) (j : Fin 10) (k : Fin 10) (l : Fin 64) :
    iblk4 V c 0 t (ix4 i j k l) = at4 (A := 256) (V c main_v35) (t * 32 + i) j k l := by
  have idx : ∀ t, win4_0.index t = ![t.val, 0, 0, 0] := by decide +kernel
  have ht : t.val < 8 := t.isLt
  rw [at4, dif_pos (by omega)]
  blk_ext [iblk4, idx t]

/-- Operand 1's block at a grid point, read in the operand's array. -/
theorem iblk4_1 (t) (i : Fin 576) (j : Fin 256) :
    iblk4 V c 1 t (ix2 i j) = at2 (A := 576) (V c main_v38) i j := by
  have idx : ∀ t, win4_1.index t = ![0, 0] := by decide +kernel
  rw [at2, dif_pos (by omega)]
  blk_ext [iblk4, idx t]

/-- Operand 2's block at a grid point, read in the operand's array. -/
theorem iblk4_2 (t) (i : Fin 1) (j : Fin 256) :
    iblk4 V c 2 t (ix2 i j) = at2 (A := 1) (V c main_v39) i j := by
  have idx : ∀ t, win4_2.index t = ![0, 0] := by decide +kernel
  rw [at2, dif_pos (by omega)]
  blk_ext [iblk4, idx t]

/-- What launch 4 computes from its operands. The nine taps lie side by side in one contraction. -/
def G4 (X : Shape.Idx ⟨4, ![256, 10, 10, 64]⟩ → EReal) (W : Shape.Idx ⟨2, ![576, 256]⟩ → EReal) (B : Shape.Idx ⟨2, ![1, 256]⟩ → EReal)
    (i : Shape.Idx ⟨4, ![256, 8, 8, 256]⟩) : EReal :=
  max ((∑ k : Fin 576, at4 X (i 0) (i 1 + k / 64 / 3) (i 2 + k / 64 % 3) (k % 64) * at2 W k (i 3)) + at2 B 0 (i 3)) 0

set_option maxHeartbeats 1600000 in
/-- The result array of launch 4, over every grid point. -/
theorem reg4 : (dat4 V c).arrAt 3 cfg4.N = G4 (V c main_v35) (V c main_v38) (V c main_v39) := by
  have idx : ∀ t, win4_3.index t = ![t.val, 0, 0, 0] := by decide +kernel
  refine (dat4 V c).arrAt_eq_of_covers 3 _ (by decide +kernel) fun t hf y => ?_
  blk_simp
  rw [after4_3]
  unfold out4_3
  idx_vars y
  frame_out
  pointwise [k4_pay1, k4_pay2, k4_pay3, k4_pay4, k4_pay5, k4_pay6, k4_pay7, k4_pay8, k4_pay9]
  simp only [iblk4_0, iblk4_1, iblk4_2, G4]
  blk_simp [idx t]
  refine relu_sum_congr fun k => ?_
  have hk := k.isLt
  iterate 8 (refine dite_eq_of ?_ fun h => ?_; · intro h; exact at4_congr (by omega) (by omega) (by omega) (by omega))
  exact at4_congr (by omega) (by omega) (by omega) (by omega)

end Cert.KernelIdeal.Val

end
-- ==== Proof.Val.Dec1.lean ====
/- The first decoder stage: what the host prepares for the fifth launch, and what the launch computes from it. -/
module

public import proofs.«01_k».proof.Proof.Val.Host
public import proofs.«01_k».proof.Proof.Math
public import proofs.«01_k».proof.Proof.Val.Reg4
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The fifth launch's planes: the padded planes. -/
theorem v35_at (i0 : Fin 256) (i1 i2 : Fin 10) (i3 : Fin 64) :
    (pre4 V (Proc.devRef .tc main_v35)) (ix4 i0 i1 i2 i3) =
      padBy (tall (V (Proc.devRef .tc main_v33)) i0 i3) i1 i2 := by
  after_reads_at
  exact dite_eq_of (fun h => (at2_ix (A := 16384) (B := 64) (V (Proc.devRef .tc main_v33)) _ _).trans (padBy_tall h))
    fun h => margin_zero.trans (padBy_tall_out h)

/-- The fifth launch's weights, tap after tap. -/
theorem v38_at (i0 : Fin 576) (i1 : Fin 256) :
    (pre4 V (Proc.devRef .tc main_v38)) (ix2 i0 i1) =
      at4 (A := 256) (B := 64) (C := 3) (D := 3) (V (Proc.devRef .tc main_arg8)) i1 (i0.val % 64) (i0.val / 64 / 3) (i0.val / 64 % 3) := by
  after_reads_at
  have h0 := i0.isLt
  have h1 := i1.isLt
  refine (at4_ix (A := 256) (V (Proc.devRef .tc main_arg8)) _ _ _ _).trans (at4_congr ?_ ?_ ?_ ?_) <;> (try dsimp only) <;> omega

/-- The fifth launch's offsets. -/
theorem v39_at (i1 : Fin 256) : (pre4 V (Proc.devRef .tc main_v39)) (ix2 0 i1) = at1 (A := 256) (V (Proc.devRef .tc main_arg9)) i1 := by
  after_reads_at
  exact at1_ix (A := 256) (V (Proc.devRef .tc main_arg9)) _

/-- The fifth launch computes the first decoder stage. -/
theorem kdec1 (b : Fin 256) (y x : Fin 8) (n : Fin 256) :
    G4 (pre4 V (Proc.devRef .tc main_v35)) (pre4 V (Proc.devRef .tc main_v38)) (pre4 V (Proc.devRef .tc main_v39)) (ix4 b y x n) =
      max (corr 64 3 1 (fun c => padBy (tall (V (Proc.devRef .tc main_v33)) b c))
        (fun c ky kx => at4 (A := 256) (B := 64) (C := 3) (D := 3) (V (Proc.devRef .tc main_arg8)) n c ky kx) y x +
        at1 (A := 256) (V (Proc.devRef .tc main_arg9)) n) 0 := by
  unfold G4
  refine congrArg₂ (max : EReal → EReal → EReal) (congrArg₂ (fun p q : EReal => p + q) ?_ ?_) rfl
  · refine dec1_sum _ _ (fun r u k => at4 (A := 256) (B := 10) (C := 10) (D := 64) (pre4 V (Proc.devRef .tc main_v35)) b r u k)
      (fun k => at2 (A := 576) (B := 256) (pre4 V (Proc.devRef .tc main_v38)) k n) y x y.isLt x.isLt ?_ ?_
    · intro r hr u hu k hk
      rw [at4, dif_pos ⟨b.isLt, hr, hu, hk⟩]
      exact v35_at V b ⟨r, hr⟩ ⟨u, hu⟩ ⟨k, hk⟩
    · intro k hk
      rw [at2, dif_pos ⟨hk, n.isLt⟩]
      exact v38_at V ⟨k, hk⟩ n
  · exact (at2_ix (A := 1) (pre4 V (Proc.devRef .tc main_v39)) 0 n).symm.trans (v39_at V n)

end Cert.KernelIdeal.Val

end
-- ==== Proof.Val.Reg5.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- Operand 0's block at a grid point, read in the operand's array. -/
theorem iblk5_0 (t) (i : Fin 16) (j : Fin 10) (k : Fin 10) (l : Fin 256) :
    iblk5 V c 0 t (ix4 i j k l) = at4 (A := 256) (V c main_v45) (t * 16 + i) j k l := by
  have idx : ∀ t, win5_0.index t = ![t.val, 0, 0, 0] := by decide +kernel
  have ht : t.val < 16 := t.isLt
  rw [at4, dif_pos (by omega)]
  blk_ext [iblk5, idx t]

/-- Operand 1's block at a grid point, read in the operand's array. -/
theorem iblk5_1 (t) (i : Fin 4) (j : Fin 4) (k : Fin 256) (l : Fin 256) :
    iblk5 V c 1 t (ix4 i j k l) = at4 (A := 4) (V c main_v44) i j k l := by
  have idx : ∀ t, win5_1.index t = ![0, 0, 0, 0] := by decide +kernel
  rw [at4, dif_pos (by omega)]
  blk_ext [iblk5, idx t]

/-- Operand 2's block at a grid point, read in the operand's array. -/
theorem iblk5_2 (t) (i : Fin 1) (j : Fin 256) :
    iblk5 V c 2 t (ix2 i j) = at2 (A := 1) (V c main_v46) i j := by
  have idx : ∀ t, win5_2.index t = ![0, 0] := by decide +kernel
  rw [at2, dif_pos (by omega)]
  blk_ext [iblk5, idx t]

/-- What launch 5 computes from its operands. For each parity of the output row and column, four taps. -/
def G5 (X : Shape.Idx ⟨4, ![256, 10, 10, 256]⟩ → EReal) (W : Shape.Idx ⟨4, ![4, 4, 256, 256]⟩ → EReal) (B : Shape.Idx ⟨2, ![1, 256]⟩ → EReal)
    (i : Shape.Idx ⟨4, ![256, 4, 64, 256]⟩) : EReal :=
  max ((∑ t ∈ Finset.range 4, ∑ k : Fin 256,
    at4 X (i 0) (i 1 / 2 + t / 2 + i 2 / 8) (i 1 % 2 + t % 2 + i 2 % 8) k * at4 W (i 1) t k (i 3)) + at2 B 0 (i 3)) 0

set_option maxHeartbeats 1600000 in
/-- The result array of launch 5, over every grid point. -/
theorem reg5 : (dat5 V c).arrAt 3 cfg5.N = G5 (V c main_v45) (V c main_v44) (V c main_v46) := by
  have idx : ∀ t, win5_3.index t = ![t.val, 0, 0, 0] := by decide +kernel
  refine (dat5 V c).arrAt_eq_of_covers 3 _ (by decide +kernel) fun t hf y => ?_
  blk_simp
  rw [after5_3]
  unfold out5_3
  idx_vars y
  canon_tiles x h
  all_goals
    idx_vars x
    obtain rfl := Fin.ext h0
    obtain rfl := Fin.ext h2
    obtain rfl := Fin.ext h3
    have e1 : ((y0 : ℕ) * 64 + y2) / 8 % 8 = y2 / 8 := by omega
    have e2 : ((y0 : ℕ) * 64 + y2) % 8 = y2 % 8 := by omega
    have e3 := x1.isLt
    pointwise [k5_pay1, k5_pay2, k5_pay3, k5_pay4, k5_pay5, k5_pay6, k5_pay7, k5_pay8, k5_pay9, k5_pay10, k5_pay11, k5_pay12, k5_pay13, k5_pay14]
    simp only [iblk5_0, iblk5_1, iblk5_2, G5, Finset.sum_range_succ, Finset.sum_range_zero, zero_add]
    blk_simp [idx t]
    rw [Subsingleton.elim x1 0] at h1
    simp only [e1, e2, h1, Fin.val_zero, Nat.add_zero, Nat.reduceDiv, Nat.reduceMod, Nat.reduceAdd, Nat.zero_add]
    rfl

end Cert.KernelIdeal.Val

end
-- ==== Proof.Val.Dec2.lean ====
/- The second decoder stage: what the host prepares for the sixth launch, and what the launch computes from it. -/
module

public import proofs.«01_k».proof.Proof.Val.Host
public import proofs.«01_k».proof.Proof.Math
public import proofs.«01_k».proof.Proof.Val.Reg5
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The sixth launch's planes: the padded planes. -/
theorem v45_at (i0 : Fin 256) (i1 i2 : Fin 10) (i3 : Fin 256) :
    (pre5 V (Proc.devRef .tc main_v45)) (ix4 i0 i1 i2 i3) =
      padBy (fun Y X => at4 (A := 256) (B := 8) (C := 8) (D := 256) (V (Proc.devRef .tc main_v40)) i0 Y X i3) i1 i2 := by
  after_reads_at
  have h1 := i1.isLt
  have h2 := i2.isLt
  refine dite_eq_of (fun h => ?_) fun h => ?_
  · rw [padBy, if_pos (by omega)]
    refine (at4_ix (A := 256) _ _ _ _ _).trans (at4_congr ?_ ?_ ?_ ?_) <;> (try dsimp only) <;> omega
  · refine margin_zero.trans ?_
    unfold padBy
    split_ifs with h'
    · simp only [at4]
      rw [dif_neg (by omega)]
    · rfl

/-- The sixth launch's weights, parity by parity and tap by tap. -/
theorem v44_at (i0 i1 : Fin 4) (i2 i3 : Fin 256) :
    (pre5 V (Proc.devRef .tc main_v44)) (ix4 i0 i1 i2 i3) =
      at4 (A := 256) (B := 256) (C := 4) (D := 4) (V (Proc.devRef .tc main_arg10)) i3 i2 (i1.val / 2 * 2 + i0.val / 2)
        (i1.val % 2 * 2 + i0.val % 2) := by
  after_reads_at
  have h0 := i0.isLt
  have h1 := i1.isLt
  refine (at4_ix (A := 256) (V (Proc.devRef .tc main_arg10)) _ _ _ _).trans (at4_congr ?_ ?_ ?_ ?_) <;> (try dsimp only) <;> omega

/-- The sixth launch's offsets. -/
theorem v46_at (i1 : Fin 256) : (pre5 V (Proc.devRef .tc main_v46)) (ix2 0 i1) = at1 (A := 256) (V (Proc.devRef .tc main_arg11)) i1 := by
  after_reads_at
  exact at1_ix (A := 256) (V (Proc.devRef .tc main_arg11)) _

/-- The sixth launch computes the second decoder stage, each parity of row and column apart. -/
theorem kdec2 (b : Fin 256) (p : Fin 4) (s : Fin 64) (n : Fin 256) :
    G5 (pre5 V (Proc.devRef .tc main_v45)) (pre5 V (Proc.devRef .tc main_v44)) (pre5 V (Proc.devRef .tc main_v46)) (ix4 b p s n) =
      max (corr 256 4 1 (fun c => dilBy (fun Y X => at4 (A := 256) (B := 8) (C := 8) (D := 256) (V (Proc.devRef .tc main_v40)) b Y X c))
        (fun c ky kx => at4 (A := 256) (B := 256) (C := 4) (D := 4) (V (Proc.devRef .tc main_arg10)) n c ky kx)
        (2 * (s.val / 8) + p.val / 2) (2 * (s.val % 8) + p.val % 2) + at1 (A := 256) (V (Proc.devRef .tc main_arg11)) n) 0 := by
  have hp := p.isLt
  have hs := s.isLt
  unfold G5
  refine congrArg₂ (max : EReal → EReal → EReal) (congrArg₂ (fun p q : EReal => p + q) ?_ ?_) rfl
  · refine dec2_sum _ _ (fun r u k => at4 (A := 256) (B := 10) (C := 10) (D := 256) (pre5 V (Proc.devRef .tc main_v45)) b r u k)
      (fun t k => at4 (A := 4) (B := 4) (C := 256) (D := 256) (pre5 V (Proc.devRef .tc main_v44)) p t k n) (s.val / 8) (s.val % 8)
      (p.val / 2) (p.val % 2) (by omega) (by omega) (by omega) (by omega) ?_ ?_
    · intro r hr u hu k hk
      rw [at4, dif_pos ⟨b.isLt, hr, hu, hk⟩]
      exact v45_at V b ⟨r, hr⟩ ⟨u, hu⟩ ⟨k, hk⟩
    · intro t ht k hk
      rw [at4, dif_pos ⟨p.isLt, ht, hk, n.isLt⟩]
      exact v44_at V p ⟨t, ht⟩ ⟨k, hk⟩ n
  · exact (at2_ix (A := 1) (pre5 V (Proc.devRef .tc main_v46)) 0 n).symm.trans (v46_at V n)

end Cert.KernelIdeal.Val

end
-- ==== Proof.Val.Reg6.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- What launch 6 computes from its operands at image `b`, row parity `y`, row `x` and lane `n`: the column products,
    the row pairs, and the spread along a row. -/
def g6 {A : ℕ} (X : Shape.Idx ⟨4, ![A, 16, 16, 256]⟩ → EReal) (W : Shape.Idx ⟨2, ![256, 48]⟩ → EReal)
    (S : Shape.Idx ⟨2, ![192, 96]⟩ → EReal) (B : Shape.Idx ⟨2, ![1, 96]⟩ → EReal) (b y x n : ℕ) : EReal :=
  (∑ k : Fin 192, (if y < 1 then
      (∑ q : Fin 256, at4 X b x (k / 12) q * at2 W q (24 + k % 12)) +
        (if x < 1 then 0 else ∑ q : Fin 256, at4 X b (x - 1) (k / 12) q * at2 W q (k % 12))
    else
      (∑ q : Fin 256, at4 X b x (k / 12) q * at2 W q (12 + k % 12)) +
        (if x < 15 then ∑ q : Fin 256, at4 X b (1 + x) (k / 12) q * at2 W q (36 + k % 12) else 0)) *
      at2 S k n) + at2 B 0 n

/-- The array of those values. -/
def G6 {A : ℕ} (X : Shape.Idx ⟨4, ![A, 16, 16, 256]⟩ → EReal) (W : Shape.Idx ⟨2, ![256, 48]⟩ → EReal)
    (S : Shape.Idx ⟨2, ![192, 96]⟩ → EReal) (B : Shape.Idx ⟨2, ![1, 96]⟩ → EReal)
    (i : Shape.Idx ⟨4, ![A, 2, 16, 96]⟩) : EReal :=
  g6 X W S B (i 0) (i 1) (i 2) (i 3)

/-- One grid point's tile of launch 6 is that function of the point's blocks. -/
theorem out6_apply (x0 : Vec Ideal S32x16x16x256 .f32) (x1 : Vec Ideal S256x48 .f32) (x2 : Vec Ideal S192x96 .f32)
    (x3 : Vec Ideal S1x96 .f32) (y) : out6_4 x0 x1 x2 x3 y = G6 (A := 32) x0 x1 x2 x3 y := by
  unfold out6_4
  idx_vars y
  frame_out
  pointwise [k6_pay1]
  simp only [at4_ix x0, at2_ix x1, at2_ix x2, at2_ix x3]
  show _ = g6 (A := 32) x0 x1 x2 x3 y0 y1 y2 y3
  unfold g6
  refine sum_mul_congr (fun k => ?_) rfl
  have hk := k.isLt
  have e1 : ((y0 : ℕ) * 256 + y2 * 16 + k / 12) % 16 = k / 12 := by omega
  by_cases h : (y1 : ℕ) < 1
  · rw [dif_pos h]
    rw [if_pos h, e1]
    by_cases h2 : (y2 : ℕ) < 1
    · rw [dif_pos h2, if_pos h2]
    · have e2 : ((y0 : ℕ) * 256 + (y2 - 1) * 16 + k / 12) / 16 % 16 = y2 - 1 := by omega
      have e3 : ((y0 : ℕ) * 256 + (y2 - 1) * 16 + k / 12) % 16 = k / 12 := by omega
      rw [dif_neg h2, if_neg h2, e2, e3]
  · rw [dif_neg h]
    rw [if_neg h, e1]
    by_cases h2 : (y2 : ℕ) < 15
    · have e2 : ((y0 : ℕ) * 256 + (1 + y2) * 16 + k / 12) / 16 % 16 = 1 + y2 := by omega
      have e3 : ((y0 : ℕ) * 256 + (1 + y2) * 16 + k / 12) % 16 = k / 12 := by omega
      have e4 : ((y0 : ℕ) * 256 + (1 + y2) * 16 + k / 12) / 256 = y0 := by omega
      rw [dif_pos h2, if_pos h2, e2, e3, e4]
    · rw [dif_neg h2, if_neg h2]
/-- Operand 0's block at a grid point, read in the operand's array. -/
theorem iblk6_0 (t) (i : Fin 32) (j : Fin 16) (k : Fin 16) (l : Fin 256) :
    iblk6 V c 0 t (ix4 i j k l) = at4 (A := 256) (V c main_v50) (t * 32 + i) j k l := by
  have idx : ∀ t, win6_0.index t = ![t.val, 0, 0, 0] := by decide +kernel
  have ht : t.val < 8 := t.isLt
  rw [at4, dif_pos (by omega)]
  blk_ext [iblk6, idx t]

/-- Operand 1's block at a grid point, read in the operand's array. -/
theorem iblk6_1 (t) (i : Fin 256) (j : Fin 48) :
    iblk6 V c 1 t (ix2 i j) = at2 (A := 256) (V c main_v52) i j := by
  have idx : ∀ t, win6_1.index t = ![0, 0] := by decide +kernel
  rw [at2, dif_pos (by omega)]
  blk_ext [iblk6, idx t]

/-- Operand 2's block at a grid point, read in the operand's array. -/
theorem iblk6_2 (t) (i : Fin 192) (j : Fin 96) :
    iblk6 V c 2 t (ix2 i j) = at2 (A := 192) (V c main_cst_0) i j := by
  have idx : ∀ t, win6_2.index t = ![0, 0] := by decide +kernel
  rw [at2, dif_pos (by omega)]
  blk_ext [iblk6, idx t]

/-- Operand 3's block at a grid point, read in the operand's array. -/
theorem iblk6_3 (t) (i : Fin 1) (j : Fin 96) :
    iblk6 V c 3 t (ix2 i j) = at2 (A := 1) (V c main_v55) i j := by
  have idx : ∀ t, win6_3.index t = ![0, 0] := by decide +kernel
  rw [at2, dif_pos (by omega)]
  blk_ext [iblk6, idx t]

/-- The result array of launch 6, over every grid point. -/
theorem reg6 : (dat6 V c).arrAt 4 cfg6.N =
    G6 (A := 256) (V c main_v50) (V c main_v52) (V c main_cst_0) (V c main_v55) := by
  have idx : ∀ t, win6_4.index t = ![t.val, 0, 0, 0] := by decide +kernel
  refine (dat6 V c).arrAt_eq_of_covers 4 _ (by decide +kernel) fun t hf y => ?_
  blk_simp
  rw [after6_4, out6_apply]
  idx_vars y
  have ht : t.val < 8 := t.isLt
  have a0 : ∀ j k l : ℕ, at4 (A := 32) (iblk6 V c 0 t) y0 j k l =
      at4 (A := 256) (V c main_v50) (t * 32 + y0) j k l := fun j k l => by
    by_cases h : j < 16 ∧ k < 16 ∧ l < 256
    · have := iblk6_0 V c t y0 ⟨j, h.1⟩ ⟨k, h.2.1⟩ ⟨l, h.2.2⟩
      rw [at4, dif_pos ⟨y0.isLt, h⟩]
      exact this
    · rw [at4, at4, dif_neg (fun e => h e.2), dif_neg (fun e => h e.2)]
  have a1 : ∀ j k : ℕ, at2 (A := 256) (iblk6 V c 1 t) j k = at2 (A := 256) (V c main_v52) j k := fun j k => by
    by_cases h : j < 256 ∧ k < 48
    · have := iblk6_1 V c t ⟨j, h.1⟩ ⟨k, h.2⟩
      rw [at2, dif_pos h]
      exact this
    · rw [at2, at2, dif_neg h, dif_neg h]
  have a2 : ∀ j k : ℕ, at2 (A := 192) (iblk6 V c 2 t) j k = at2 (A := 192) (V c main_cst_0) j k := fun j k => by
    by_cases h : j < 192 ∧ k < 96
    · have := iblk6_2 V c t ⟨j, h.1⟩ ⟨k, h.2⟩
      rw [at2, dif_pos h]
      exact this
    · rw [at2, at2, dif_neg h, dif_neg h]
  have a3 : ∀ j k : ℕ, at2 (A := 1) (iblk6 V c 3 t) j k = at2 (A := 1) (V c main_v55) j k := fun j k => by
    by_cases h : j < 1 ∧ k < 96
    · have := iblk6_3 V c t ⟨j, h.1⟩ ⟨k, h.2⟩
      rw [at2, dif_pos h]
      exact this
    · rw [at2, at2, dif_neg h, dif_neg h]
  have e : G6 (A := 32) (iblk6 V c 0 t) (iblk6 V c 1 t) (iblk6 V c 2 t) (iblk6 V c 3 t) (ix4 y0 y1 y2 y3) =
      g6 (A := 256) (V c main_v50) (V c main_v52) (V c main_cst_0) (V c main_v55) (t * 32 + y0) y1 y2 y3 := by
    show g6 (A := 32) (iblk6 V c 0 t) (iblk6 V c 1 t) (iblk6 V c 2 t) (iblk6 V c 3 t) y0 y1 y2 y3 = _
    simp only [g6, a0, a1, a2, a3]
  refine e.trans ?_
  unfold G6
  blk_simp [idx t]

end Cert.KernelIdeal.Val

end
-- ==== Proof.Val.Dec3.lean ====
/- The last stage: what the host prepares for the last launch, and what the launch computes from it. -/
module

public import proofs.«01_k».proof.Proof.Val.Host
public import proofs.«01_k».proof.Proof.Math
public import proofs.«01_k».proof.Proof.Val.Reg6
public import Idealize.ShloMosaic.Lib.StableHlo.ReadAt
public import Idealize.ShloMosaic.Lib.Pointwise

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (V : Valuation τ sig (Elt Ideal))

/-- The last launch's planes: the parities of the sixth launch, interleaved. -/
theorem v50_at (i0 : Fin 256) (i1 i2 : Fin 16) (i3 : Fin 256) : (after hostOps6 V) (Proc.devRef .tc main_v50) (ix4 i0 i1 i2 i3) =
    at4 (A := 256) (B := 4) (C := 64) (D := 256) (V (Proc.devRef .tc main_v47)) i0 (i1.val % 2 * 2 + i2.val % 2)
      (i1.val / 2 * 8 + i2.val / 2) i3 := by
  after_reads_at
  have h1 := i1.isLt
  have h2 := i2.isLt
  refine (at4_ix (A := 256) (V (Proc.devRef .tc main_v47)) _ _ _ _).trans (at4_congr ?_ ?_ ?_ ?_) <;> (try dsimp only) <;> omega

/-- The last launch's weights. -/
theorem v52_at (i0 : Fin 256) (i1 : Fin 48) : (after hostOps6 V) (Proc.devRef .tc main_v52) (ix2 i0 i1) =
    at4 (A := 3) (B := 256) (C := 4) (D := 4) (V (Proc.devRef .tc main_arg12)) (i1.val / 4 % 3) i0 (i1.val / 12) (i1.val % 4) := by
  after_reads_at
  have h1 := i1.isLt
  refine (at4_ix (A := 3) (V (Proc.devRef .tc main_arg12)) _ _ _ _).trans (at4_congr ?_ ?_ ?_ ?_) <;> (try dsimp only) <;> omega

/-- The last launch's offsets: the channels' offsets, once for each column. -/
theorem v55_at (i1 : Fin 96) : (after hostOps6 V) (Proc.devRef .tc main_v55) (ix2 0 i1) =
    at1 (A := 3) (V (Proc.devRef .tc main_arg13)) (i1.val / 32) := by
  after_reads_at
  exact at1_ix (A := 3) (V (Proc.devRef .tc main_arg13)) _

/-- The spreading table, at a flat place. -/
theorem spread_flat : ∀ i : Fin 18432, lit1 i = if i.val / 96 / 4 % 3 = i.val % 96 / 32 ∧
    i.val % 96 % 32 + i.val / 96 % 4 = 2 * (i.val / 96 / 12) + 2 then 1065353216#32 else 0#32 := by
  decide +kernel

/-- The spreading table: one where the channels agree and the column is the one the tap reaches. -/
theorem spread (k : Fin 192) (n : Fin 96) :
    (Ideal.ofBits .f32 (lit1 (S192x96.rowMajor (ix2 k n))) : EReal) =
      if k.val / 4 % 3 = n.val / 32 ∧ n.val % 32 + k.val % 4 = 2 * (k.val / 12) + 2 then 1 else 0 := by
  have e : (S192x96.rowMajor (ix2 k n)).val = k.val * 96 + n.val :=
    Shape.rowMajor_val_two (d := ![192, 96]) (ix2 k n)
  refine (congrArg (Ideal.ofBits .f32) (spread_flat (S192x96.rowMajor (ix2 k n)))).trans ?_
  rw [e]
  have hk := k.isLt
  have hn := n.isLt
  rw [show (k.val * 96 + n.val) / 96 = k.val by omega, show (k.val * 96 + n.val) % 96 = n.val by omega]
  split_ifs
  · exact one_bits
  · exact zero_bits

/-- The two rows of kernel positions that meet output rows of one parity, with the rows outside the plane left out,
    are the sum over both with a zero row of margin. -/
theorem dec3_pair (X : Shape.Idx ⟨4, ![256, 16, 16, 256]⟩ → EReal) (W : Shape.Idx ⟨2, ![256, 48]⟩ → EReal)
    (h w : ℕ → ℕ → ℕ → EReal) (b y x k : ℕ) (hy : y < 2) (hx : x < 16)
    (eX : ∀ r < 16, ∀ q : Fin 256, at4 X b r (k / 12) q = h q r (k / 12))
    (eW : ∀ j < 4, ∀ q : Fin 256, at2 W q (j * 12 + k % 12) = w q j (k % 4))
    (hz : ∀ c Y X, 16 ≤ Y → h c Y X = 0) :
    (if y < 1 then
        (∑ q : Fin 256, at4 X b x (k / 12) q * at2 W q (24 + k % 12)) +
        (if x < 1 then 0 else ∑ q : Fin 256, at4 X b (x - 1) (k / 12) q * at2 W q (k % 12))
      else
        (∑ q : Fin 256, at4 X b x (k / 12) q * at2 W q (12 + k % 12)) +
        (if x < 15 then ∑ q : Fin 256, at4 X b (1 + x) (k / 12) q * at2 W q (36 + k % 12) else 0)) =
      ∑ dy ∈ Finset.range 2, ∑ c ∈ Finset.range 256, w c (dy * 2 + y) (k % 4) * padBy (h c) (x + y + dy) (k / 12 + 1) := by
  have eP : ∀ j < 4, ∀ r < 16, ∀ m, m = j * 12 + k % 12 → ∑ q : Fin 256, at4 X b r (k / 12) q * at2 W q m =
      ∑ c ∈ Finset.range 256, w c j (k % 4) * padBy (h c) (r + 1) (k / 12 + 1) := fun j hj r hr m hm => by
    rw [Finset.sum_range]
    refine Finset.sum_congr rfl fun q _ => ?_
    rw [hm, eX r hr q, eW j hj q, padBy, if_pos (by omega), Nat.add_sub_cancel, Nat.add_sub_cancel, mul_comm]
  rw [Finset.sum_range_succ, Finset.sum_range_succ, Finset.sum_range_zero, zero_add]
  by_cases hy0 : y < 1
  · obtain rfl : y = 0 := by omega
    rw [if_pos (by omega), eP 2 (by omega) x hx _ (by omega)]
    refine (add_comm _ _).trans (congrArg₂ (fun p q : EReal => p + q) ?_ rfl)
    split_ifs with hx0
    · refine (Finset.sum_eq_zero fun c _ => ?_).symm
      rw [padBy, if_neg (by omega), mul_zero]
    · rw [eP 0 (by omega) (x - 1) (by omega) _ (by omega), show x - 1 + 1 = x + 0 + 0 by omega]
  · obtain rfl : y = 1 := by omega
    rw [if_neg (by omega), eP 1 (by omega) x hx _ (by omega)]
    refine congrArg₂ (fun p q : EReal => p + q) rfl ?_
    split_ifs with hx0
    · rw [eP 3 (by omega) (1 + x) (by omega) _ (by omega), show 1 + x + 1 = x + 1 + 1 by omega]
    · refine (Finset.sum_eq_zero fun c _ => ?_).symm
      rw [padBy, if_pos (by omega), hz _ _ _ (by omega), mul_zero]

/-- The last launch computes the last stage. -/
theorem kdec3 (S : Shape.Idx ⟨2, ![192, 96]⟩ → EReal) (hS : ∀ (k : Fin 192) (n : Fin 96), S (ix2 k n) =
      if k.val / 4 % 3 = n.val / 32 ∧ n.val % 32 + k.val % 4 = 2 * (k.val / 12) + 2 then 1 else 0)
    (b : Fin 256) (y : Fin 2) (x : Fin 16) (n : Fin 96) :
    g6 (A := 256) ((after hostOps6 V) (Proc.devRef .tc main_v50)) ((after hostOps6 V) (Proc.devRef .tc main_v52)) S ((after hostOps6 V) (Proc.devRef .tc main_v55)) b y x n =
      corr 256 4 1 (fun c => dilBy (woven (V (Proc.devRef .tc main_v47)) b c))
        (fun c ky kx => at4 (A := 3) (B := 256) (C := 4) (D := 4) (V (Proc.devRef .tc main_arg12)) (n.val / 32) c ky kx)
        (2 * x.val + y.val) (n.val % 32) + at1 (A := 3) (V (Proc.devRef .tc main_arg13)) (n.val / 32) := by
  have hy := y.isLt
  have hx := x.isLt
  have hn := n.isLt
  have hz : ∀ c Y X, 16 ≤ Y → woven (V (Proc.devRef .tc main_v47)) b c Y X = 0 := fun c Y X h => if_neg (by omega)
  have hz' : ∀ c Y X, 16 ≤ X → woven (V (Proc.devRef .tc main_v47)) b c Y X = 0 := fun c Y X h => if_neg (by omega)
  unfold g6
  refine congrArg₂ (fun p q : EReal => p + q) ?_ ?_
  · refine dec3_sum (woven (V (Proc.devRef .tc main_v47)) b) (fun c ky kx => at4 (A := 3) (B := 256) (C := 4) (D := 4) (V (Proc.devRef .tc main_arg12)) (n.val / 32) c ky kx)
      (fun k => if y.val < 1 then
        (∑ q : Fin 256, at4 (A := 256) (B := 16) (C := 16) (D := 256) ((after hostOps6 V) (Proc.devRef .tc main_v50)) b x (k / 12) q * at2 (A := 256) (B := 48) ((after hostOps6 V) (Proc.devRef .tc main_v52)) q (24 + k % 12)) +
        (if x.val < 1 then 0 else ∑ q : Fin 256, at4 (A := 256) (B := 16) (C := 16) (D := 256) ((after hostOps6 V) (Proc.devRef .tc main_v50)) b (x - 1) (k / 12) q * at2 (A := 256) (B := 48) ((after hostOps6 V) (Proc.devRef .tc main_v52)) q (k % 12))
      else
        (∑ q : Fin 256, at4 (A := 256) (B := 16) (C := 16) (D := 256) ((after hostOps6 V) (Proc.devRef .tc main_v50)) b x (k / 12) q * at2 (A := 256) (B := 48) ((after hostOps6 V) (Proc.devRef .tc main_v52)) q (12 + k % 12)) +
        (if x.val < 15 then ∑ q : Fin 256, at4 (A := 256) (B := 16) (C := 16) (D := 256) ((after hostOps6 V) (Proc.devRef .tc main_v50)) b (1 + x) (k / 12) q * at2 (A := 256) (B := 48) ((after hostOps6 V) (Proc.devRef .tc main_v52)) q (36 + k % 12) else 0))
      (fun k => at2 S k n) x y (n.val % 32) (n.val / 32) y.isLt (by omega) (by omega) hz' ?_ ?_
    · intro k hk ho
      have eX : ∀ (r : ℕ) (hr : r < 16) (q : Fin 256), at4 (A := 256) ((after hostOps6 V) (Proc.devRef .tc main_v50)) b r (k / 12) q =
          woven (V (Proc.devRef .tc main_v47)) b q.val r (k / 12) := fun r hr q =>
        ((at4_ix (A := 256) ((after hostOps6 V) (Proc.devRef .tc main_v50)) b ⟨r, hr⟩ ⟨k / 12, by omega⟩ q).symm.trans
          (v50_at V b ⟨r, hr⟩ ⟨k / 12, by omega⟩ q)).trans (if_pos (by omega)).symm
      have eW : ∀ (j : ℕ) (hj : j < 4) (q : Fin 256), at2 (A := 256) ((after hostOps6 V) (Proc.devRef .tc main_v52)) q (j * 12 + k % 12) =
          at4 (A := 3) (B := 256) (C := 4) (D := 4) (V (Proc.devRef .tc main_arg12)) (n.val / 32) q j (k % 4) := fun j hj q =>
        ((at2_ix (A := 256) ((after hostOps6 V) (Proc.devRef .tc main_v52)) q ⟨j * 12 + k % 12, by omega⟩).symm.trans
          (v52_at V q ⟨j * 12 + k % 12, by omega⟩)).trans (at4_congr (by dsimp only; omega) rfl (by dsimp only; omega)
            (by dsimp only; omega))
      exact dec3_pair _ _ _ (fun c ky kx => at4 (A := 3) (B := 256) (C := 4) (D := 4) (V (Proc.devRef .tc main_arg12)) (n.val / 32) c ky kx)
        b y x k hy hx eX eW hz
    · intro k hk
      exact (at2_ix S ⟨k, hk⟩ n).symm.trans (hS ⟨k, hk⟩ n)
  · exact (at2_ix (A := 1) ((after hostOps6 V) (Proc.devRef .tc main_v55)) 0 n).symm.trans (v55_at V n)

/-- The result: the last launch's rows put in place. -/
theorem v59_at (i0 : Fin 256) (i1 : Fin 3) (i2 i3 : Fin 32) : (after hostOps7 V) (Proc.devRef .tc main_v59) (ix4 i0 i1 i2 i3) =
    at4 (A := 256) (B := 2) (C := 16) (D := 96) (V (Proc.devRef .tc main_v56)) i0 (i2.val % 2) (i2.val / 2) (i1.val * 32 + i3.val) := by
  after_reads_at
  have h1 := i1.isLt
  have h2 := i2.isLt
  have h3 := i3.isLt
  refine (at4_ix (A := 256) (V (Proc.devRef .tc main_v56)) _ _ _ _).trans (at4_congr ?_ ?_ ?_ ?_) <;> (try dsimp only) <;> omega

end Cert.KernelIdeal.Val

end
-- ==== Proof.Val.Chain.lean ====
/- The kernel's whole program, launch by launch: what each launch leaves in its result array, in terms of the arrays
   before it and of the arguments. -/
module

public import proofs.«01_k».proof.Proof.Link
public import proofs.«01_k».proof.Proof.Val.Enc1
public import proofs.«01_k».proof.Proof.Val.Enc2
public import proofs.«01_k».proof.Proof.Val.Enc3
public import proofs.«01_k».proof.Proof.Val.Vq
public import proofs.«01_k».proof.Proof.Val.Dec1
public import proofs.«01_k».proof.Proof.Val.Dec2
public import proofs.«01_k».proof.Proof.Val.Dec3

@[expose] public section

set_option maxRecDepth 16384

noncomputable section

namespace Cert.KernelIdeal.Val

open Cert.Conv Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The arguments as the stages read them. -/
def args : Args where
  x := m ((c : Thread nD τ).loc main_arg0)
  t := m ((c : Thread nD τ).loc main_arg1)
  w1 := m ((c : Thread nD τ).loc main_arg2)
  b1 := m ((c : Thread nD τ).loc main_arg3)
  w2 := m ((c : Thread nD τ).loc main_arg4)
  b2 := m ((c : Thread nD τ).loc main_arg5)
  w3 := m ((c : Thread nD τ).loc main_arg6)
  b3 := m ((c : Thread nD τ).loc main_arg7)
  v1 := m ((c : Thread nD τ).loc main_arg8)
  d1 := m ((c : Thread nD τ).loc main_arg9)
  v2 := m ((c : Thread nD τ).loc main_arg10)
  d2 := m ((c : Thread nD τ).loc main_arg11)
  v3 := m ((c : Thread nD τ).loc main_arg12)
  d3 := m ((c : Thread nD τ).loc main_arg13)

/-- The first launch's array. -/
theorem chain1 (b : Fin 256) (y : Fin 16) (n : Fin 4096) : W4 m ρ c (Proc.devRef .tc main_v11) (ix3 b y n) =
    max (corr 3 4 2 (fun d => padBy (at4 (args m c).x b d)) (fun d ky kx => at4 (args m c).w1 (n.val % 256) d ky kx) y (n.val / 256) +
      at1 (args m c).b1 (n.val % 256)) 0 :=
  (congrFun ((W4_arr m ρ c 3).trans (reg0 (V3 m ρ) c)) (ix3 b y n)).trans (kenc1 (W0 m ρ c) b y n)

/-- The second launch's array. -/
theorem chain2 (b : Fin 256) (y x : Fin 8) (n : Fin 256) : W8 m ρ c (Proc.devRef .tc main_v22) (ix4 b y x n) =
    max (corr 256 4 2 (fun d => padBy (wide (W4 m ρ c (Proc.devRef .tc main_v11)) b d)) (fun d ky kx => at4 (args m c).w2 n d ky kx) y x + at1 (args m c).b2 n) 0 := by
  have e := (congrFun ((W8_arr m ρ c 3).trans (reg1 (V7 m ρ) c)) (ix4 b y x n)).trans (kenc2 (W4 m ρ c) b y x n)
  rw [W4_args m ρ c main_arg4 (by decide), W4_args m ρ c main_arg5 (by decide)] at e
  exact e

/-- The third launch's array. -/
theorem chain3 (b : Fin 256) (y x : Fin 8) (n : Fin 64) : W12 m ρ c (Proc.devRef .tc main_v27) (ix4 b y x n) =
    corr 256 3 1 (fun d => padBy (fun Y X => at4 (A := 256) (B := 8) (C := 8) (D := 256) (W8 m ρ c (Proc.devRef .tc main_v22)) b Y X d)) (fun d ky kx => at4 (args m c).w3 n d ky kx) y x + at1 (args m c).b3 n := by
  have e := (congrFun ((W12_arr m ρ c 3).trans (reg2 (V11 m ρ) c)) (ix4 b y x n)).trans (kenc3 (W8 m ρ c) b y x n)
  rw [W8_args m ρ c main_arg6 (by decide), W8_args m ρ c main_arg7 (by decide)] at e
  exact e

/-- The fourth launch's array: the rows of the table at the first least scores. -/
theorem chain4 (i : Fin 16384) (n : Fin 64) (k : Fin 512)
    (h : IsFirst (fun x => ReferenceIdeal.Val.dist (W12 m ρ c (Proc.devRef .tc main_v27)) (args m c).t i x) k) :
    W14 m ρ c (Proc.devRef .tc main_v33) (ix2 i n) = at2 (args m c).t k n := by
  have ea : W12 m ρ c (Proc.devRef .tc main_arg1) = (args m c).t := W12_args m ρ c main_arg1 (by decide)
  have e := (congrFun ((W14_arr m ρ c 4).trans (reg3 (V13 m ρ) c)) (ix2 i n)).trans
    (kvq (W12 m ρ c) (V13 m ρ c main_arg1) i n (h.congr fun x => by rw [ea]; rfl))
  exact e.trans (by rw [show V13 m ρ c main_arg1 = (args m c).t from W13_args m ρ c main_arg1 (by decide)])

/-- The fifth launch's array. -/
theorem chain5 (b : Fin 256) (y x : Fin 8) (n : Fin 256) : W18 m ρ c (Proc.devRef .tc main_v40) (ix4 b y x n) =
    max (corr 64 3 1 (fun d => padBy (tall (W14 m ρ c (Proc.devRef .tc main_v33)) b d)) (fun d ky kx => at4 (args m c).v1 n d ky kx) y x + at1 (args m c).d1 n) 0 := by
  have e := (congrFun ((W18_arr m ρ c 3).trans (reg4 (V17 m ρ) c)) (ix4 b y x n)).trans (kdec1 (W14 m ρ c) b y x n)
  rw [W14_args m ρ c main_arg8 (by decide), W14_args m ρ c main_arg9 (by decide)] at e
  exact e

/-- The sixth launch's array. -/
theorem chain6 (b : Fin 256) (p : Fin 4) (s : Fin 64) (n : Fin 256) : W22 m ρ c (Proc.devRef .tc main_v47) (ix4 b p s n) =
    max (corr 256 4 1 (fun d => dilBy (fun Y X => at4 (A := 256) (B := 8) (C := 8) (D := 256) (W18 m ρ c (Proc.devRef .tc main_v40)) b Y X d)) (fun d ky kx => at4 (args m c).v2 n d ky kx)
      (2 * (s.val / 8) + p.val / 2) (2 * (s.val % 8) + p.val % 2) + at1 (args m c).d2 n) 0 := by
  have e := (congrFun ((W22_arr m ρ c 3).trans (reg5 (V21 m ρ) c)) (ix4 b p s n)).trans (kdec2 (W18 m ρ c) b p s n)
  rw [W18_args m ρ c main_arg10 (by decide), W18_args m ρ c main_arg11 (by decide)] at e
  exact e

/-- The table of zeros and ones is kept until the last launch. -/
theorem spread_kept : W23 m ρ c (Proc.devRef .tc main_cst_0) = W1 m ρ c (Proc.devRef .tc main_cst_0) :=
  (W23_of m ρ c main_cst_0 (by decide)).trans <| (W22_of m ρ c main_cst_0 (by decide)).trans <| (W21_of m ρ c main_cst_0 (by decide)).trans <| (W20_of m ρ c main_cst_0 (by decide)).trans <| (W19_of m ρ c main_cst_0 (by decide)).trans <| (W18_of m ρ c main_cst_0 (by decide)).trans <| (W17_of m ρ c main_cst_0 (by decide)).trans <| (W16_of m ρ c main_cst_0 (by decide)).trans <| (W15_of m ρ c main_cst_0 (by decide)).trans <| (W14_of m ρ c main_cst_0 (by decide)).trans <| (W13_of m ρ c main_cst_0 (by decide)).trans <| (W12_of m ρ c main_cst_0 (by decide)).trans <| (W11_of m ρ c main_cst_0 (by decide)).trans <| (W10_of m ρ c main_cst_0 (by decide)).trans <| (W9_of m ρ c main_cst_0 (by decide)).trans <| (W8_of m ρ c main_cst_0 (by decide)).trans <| (W7_of m ρ c main_cst_0 (by decide)).trans <| (W6_of m ρ c main_cst_0 (by decide)).trans <| (W5_of m ρ c main_cst_0 (by decide)).trans <| (W4_of m ρ c main_cst_0 (by decide)).trans <| (W3_of m ρ c main_cst_0 (by decide)).trans <| W2_of m ρ c main_cst_0 (by decide)

/-- The table of zeros and ones the last launch reads. -/
theorem spread_read (k : Fin 192) (n : Fin 96) : (V23 m ρ c main_cst_0 : Shape.Idx ⟨2, ![192, 96]⟩ → EReal) (ix2 k n) =
    if k.val / 4 % 3 = n.val / 32 ∧ n.val % 32 + k.val % 4 = 2 * (k.val / 12) + 2 then (1 : EReal) else 0 :=
  (congrFun (spread_kept m ρ c) (ix2 k n)).trans ((show W1 m ρ c (Proc.devRef .tc main_cst_0) (ix2 k n) = Ideal.ofBits .f32 (lit1 (S192x96.rowMajor (ix2 k n))) by
    after_reads_at).trans (spread k n))

/-- The last launch's array. -/
theorem chain7 (b : Fin 256) (y : Fin 2) (x : Fin 16) (n : Fin 96) : W24 m ρ c (Proc.devRef .tc main_v56) (ix4 b y x n) =
    corr 256 4 1 (fun d => dilBy (woven (W22 m ρ c (Proc.devRef .tc main_v47)) b d)) (fun d ky kx => at4 (args m c).v3 (n.val / 32) d ky kx)
      (2 * x.val + y.val) (n.val % 32) + at1 (args m c).d3 (n.val / 32) := by
  have e := (congrFun ((W24_arr m ρ c 4).trans (reg6 (V23 m ρ) c)) (ix4 b y x n)).trans
    (kdec3 (W22 m ρ c) (V23 m ρ c main_cst_0) (spread_read m ρ c) b y x n)
  rw [W22_args m ρ c main_arg12 (by decide), W22_args m ρ c main_arg13 (by decide)] at e
  exact e

/-- The kernel's arrays, stage by stage. -/
theorem stages : KernelStages (args m c) (W4 m ρ c (Proc.devRef .tc main_v11)) (W8 m ρ c (Proc.devRef .tc main_v22))
    (W12 m ρ c (Proc.devRef .tc main_v27)) (W14 m ρ c (Proc.devRef .tc main_v33)) (W18 m ρ c (Proc.devRef .tc main_v40))
    (W22 m ρ c (Proc.devRef .tc main_v47)) (W24 m ρ c (Proc.devRef .tc main_v56)) (W25 m ρ c (Proc.devRef .tc main_v59)) where
  s1 := chain1 m ρ c
  s2 := chain2 m ρ c
  s3 := chain3 m ρ c
  s4 := chain4 m ρ c
  s5 := chain5 m ρ c
  s6 := chain6 m ρ c
  s7 := chain7 m ρ c
  s8 := v59_at (W24 m ρ c)

end Cert.KernelIdeal.Val

end
-- ==== Proof.Ref.Stage1.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 1: the padded planes. -/
theorem pad1 (V : Valuation τ sig (Elt Ideal)) (i0 : Fin 256) (i1 : Fin 3) (i2 i3 : Fin 34) :
    at4 (A := 256) (B := 3) (C := 34) (D := 34) (after s1p V (Proc.devRef .tc main_v0)) i0 i1 i2 i3 = padBy (at4 (A := 256) (V (Proc.devRef .tc main_arg0)) i0 i1) i2 i3 := by
  rw [← at4_ix]
  after_reads_at
  have h0 := i0.isLt
  have h1 := i1.isLt
  have h2 := i2.isLt
  have h3 := i3.isLt
  refine dite_eq_of (fun h => ?_) fun h => ?_
  · rw [padBy, if_pos (by omega)]
    exact at4_ix (A := 256) (V (Proc.devRef .tc main_arg0)) _ _ _ _
  · unfold padBy
    split_ifs with h'
    · show (0 : EReal) = _
      simp only [at4]
      rw [dif_neg (by omega)]
    · rfl

/-- Stage 1: the rows a window position starts at. -/
theorem rows1 (V : Valuation τ sig (Elt Ideal)) (i0 : Fin 256) (i1 : Fin 3) (i2 : Fin 4) (i3 : Fin 16) (i4 : Fin 34) :
    (after s1r V) (Proc.devRef .tc main_v9) (ix5 i0 i1 i2 i3 i4) = at4 (A := 256) (B := 3) (C := 34) (D := 34) (V (Proc.devRef .tc main_v0)) i0 i1 (2 * i3 + i2) i4 := by
  after_reads_simp
  simp only [Matrix.cons_val_zero, Matrix.cons_val_one, Matrix.cons_val]
  after_reads_simp
  pointwise [fn_main_v9]
  have h2 := i2.isLt
  have h3 := i3.isLt
  iterate 3 (refine dite_eq_of ?_ fun h => ?_; · intro h; rw [at4, dif_pos (by omega)]; congr 2; exact Fin.ext (by simp only []; omega))
  rw [at4, dif_pos (by omega)]; congr 2; exact Fin.ext (by simp only []; omega)

/-- Stage 1: the windows, from the rows. -/
theorem wins1 (V : Valuation τ sig (Elt Ideal)) (i0 : Fin 256) (i1 : Fin 3) (i2 i3 : Fin 4) (i4 i5 : Fin 16) :
    after s1w V (Proc.devRef .tc main_v18) (ix6 i0 i1 i2 i3 i4 i5) = at5 (A := 256) (B := 3) (C := 4) (D := 16) (E := 34) (V (Proc.devRef .tc main_v9)) i0 i1 i2 i4 (2 * i5 + i3) := by
  after_reads_simp
  simp only [Matrix.cons_val_zero, Matrix.cons_val_one, Matrix.cons_val]
  after_reads_simp
  pointwise [fn_main_v18]
  have h2 := i3.isLt
  have h3 := i5.isLt
  iterate 3 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 1. -/
abbrev mid1 (V : Valuation τ sig (Elt Ideal)) : Valuation τ sig (Elt Ideal) := after s1w (after s1r (after s1p V))

/-- Stage 1: a window element is the padded plane's. -/
theorem mid1_win (V : Valuation τ sig (Elt Ideal)) (i0 : Fin 256) (i1 : Fin 3) (i2 i3 : Fin 4) (i4 i5 : Fin 16) :
    mid1 V (Proc.devRef .tc main_v18) (ix6 i0 i1 i2 i3 i4 i5) = padBy (at4 (A := 256) (V (Proc.devRef .tc main_arg0)) i0 i1) (2 * i4 + i2) (2 * i5 + i3) := by
  have h2 := i2.isLt
  have h3 := i3.isLt
  have h4 := i4.isLt
  have h5 := i5.isLt
  have e1 := wins1 (after s1r (after s1p V)) i0 i1 i2 i3 i4 i5
  have e2 := rows1 (after s1p V) i0 i1 i2 i4 ⟨2 * i5 + i3, by omega⟩
  have e3 := pad1 V i0 i1 ⟨2 * i4 + i2, by omega⟩ ⟨2 * i5 + i3, by omega⟩
  refine e1.trans ?_
  rw [at5, dif_pos (by omega)]
  exact e2.trans e3

/-- The window steps of stage 1 write none of the arguments. -/
theorem mid1_keep (V : Valuation τ sig (Elt Ideal)) (r : Ref sig .tc) (h : r ∉ s1w_W ++ s1r_W ++ s1p_W) :
    mid1 V (Proc.devRef .tc r) = V (Proc.devRef .tc r) := by
  simp only [List.mem_append, not_or] at h
  unfold mid1
  rw [s1w_keep _ _ (by tauto), s1r_keep _ _ (by tauto), s1p_keep _ _ (by tauto)]

/-- Stage 1 of the reference: its result is the correlation of the padded planes, plus the bias, rectified. -/
theorem stage1 (V : Valuation τ sig (Elt Ideal)) (b : Fin 256) (o : Fin 256) (y x : Fin 16) :
    (after s1d (mid1 V)) (Proc.devRef .tc main_v26) (ix4 b o y x) =
      (max (corr 3 4 2 (fun i1 => padBy (at4 (A := 256) (V (Proc.devRef .tc main_arg0)) b i1)) (fun i1 ky kx => at4 (A := 256) (V (Proc.devRef .tc main_arg2)) o i1 ky kx) y x + at1 (A := 256) (V (Proc.devRef .tc main_arg3)) o) 0 : EReal) := by
  after_reads_at
  refine congrArg₂ (max : EReal → EReal → EReal) ?_ rfl
  refine congrArg₂ (fun p q : EReal => p + q) ?_ (at1_ix (A := 256) (V (Proc.devRef .tc main_arg3)) o)
  unfold corr
  simp only [Finset.sum_range]
  refine Finset.sum_congr rfl fun c _ => Finset.sum_congr rfl fun t _ => ?_
  have hb := b.isLt
  have ho := o.isLt
  have hc := c.isLt
  have ht : t.val < 16 := t.isLt
  refine congrArg₂ (fun p q : EReal => p * q) ?_ (mid1_win V b c ⟨t / 4, by omega⟩ ⟨t % 4, by omega⟩ y x)
  exact at4_ix (A := 256) (V (Proc.devRef .tc main_arg2)) o c ⟨t / 4, by omega⟩ ⟨t % 4, by omega⟩

end Cert.ReferenceIdeal.Val

end
-- ==== Proof.Ref.Stage2.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 2: the padded planes. -/
theorem pad2 (V : Valuation τ sig (Elt Ideal)) (i0 : Fin 256) (i1 : Fin 256) (i2 i3 : Fin 18) :
    at4 (A := 256) (B := 256) (C := 18) (D := 18) (after s2p V (Proc.devRef .tc main_v27)) i0 i1 i2 i3 = padBy (at4 (A := 256) (V (Proc.devRef .tc main_v26)) i0 i1) i2 i3 := by
  rw [← at4_ix]
  after_reads_at
  have h0 := i0.isLt
  have h1 := i1.isLt
  have h2 := i2.isLt
  have h3 := i3.isLt
  refine dite_eq_of (fun h => ?_) fun h => ?_
  · rw [padBy, if_pos (by omega)]
    exact at4_ix (A := 256) (V (Proc.devRef .tc main_v26)) _ _ _ _
  · unfold padBy
    split_ifs with h'
    · show (0 : EReal) = _
      simp only [at4]
      rw [dif_neg (by omega)]
    · rfl

/-- Stage 2: the rows a window position starts at. -/
theorem rows2 (V : Valuation τ sig (Elt Ideal)) (i0 : Fin 256) (i1 : Fin 256) (i2 : Fin 4) (i3 : Fin 8) (i4 : Fin 18) :
    (after s2r V) (Proc.devRef .tc main_v36) (ix5 i0 i1 i2 i3 i4) = at4 (A := 256) (B := 256) (C := 18) (D := 18) (V (Proc.devRef .tc main_v27)) i0 i1 (2 * i3 + i2) i4 := by
  after_reads_simp
  simp only [Matrix.cons_val_zero, Matrix.cons_val_one, Matrix.cons_val]
  after_reads_simp
  pointwise [fn_main_v36]
  have h2 := i2.isLt
  have h3 := i3.isLt
  iterate 3 (refine dite_eq_of ?_ fun h => ?_; · intro h; rw [at4, dif_pos (by omega)]; congr 2; exact Fin.ext (by simp only []; omega))
  rw [at4, dif_pos (by omega)]; congr 2; exact Fin.ext (by simp only []; omega)

/-- Stage 2: the windows, from the rows. -/
theorem wins2 (V : Valuation τ sig (Elt Ideal)) (i0 : Fin 256) (i1 : Fin 256) (i2 i3 : Fin 4) (i4 i5 : Fin 8) :
    after s2w V (Proc.devRef .tc main_v45) (ix6 i0 i1 i2 i3 i4 i5) = at5 (A := 256) (B := 256) (C := 4) (D := 8) (E := 18) (V (Proc.devRef .tc main_v36)) i0 i1 i2 i4 (2 * i5 + i3) := by
  after_reads_simp
  simp only [Matrix.cons_val_zero, Matrix.cons_val_one, Matrix.cons_val]
  after_reads_simp
  pointwise [fn_main_v45]
  have h2 := i3.isLt
  have h3 := i5.isLt
  iterate 3 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 2. -/
abbrev mid2 (V : Valuation τ sig (Elt Ideal)) : Valuation τ sig (Elt Ideal) := after s2w (after s2r (after s2p V))

/-- Stage 2: a window element is the padded plane's. -/
theorem mid2_win (V : Valuation τ sig (Elt Ideal)) (i0 : Fin 256) (i1 : Fin 256) (i2 i3 : Fin 4) (i4 i5 : Fin 8) :
    mid2 V (Proc.devRef .tc main_v45) (ix6 i0 i1 i2 i3 i4 i5) = padBy (at4 (A := 256) (V (Proc.devRef .tc main_v26)) i0 i1) (2 * i4 + i2) (2 * i5 + i3) := by
  have h2 := i2.isLt
  have h3 := i3.isLt
  have h4 := i4.isLt
  have h5 := i5.isLt
  have e1 := wins2 (after s2r (after s2p V)) i0 i1 i2 i3 i4 i5
  have e2 := rows2 (after s2p V) i0 i1 i2 i4 ⟨2 * i5 + i3, by omega⟩
  have e3 := pad2 V i0 i1 ⟨2 * i4 + i2, by omega⟩ ⟨2 * i5 + i3, by omega⟩
  refine e1.trans ?_
  rw [at5, dif_pos (by omega)]
  exact e2.trans e3

/-- The window steps of stage 2 write none of the arguments. -/
theorem mid2_keep (V : Valuation τ sig (Elt Ideal)) (r : Ref sig .tc) (h : r ∉ s2w_W ++ s2r_W ++ s2p_W) :
    mid2 V (Proc.devRef .tc r) = V (Proc.devRef .tc r) := by
  simp only [List.mem_append, not_or] at h
  unfold mid2
  rw [s2w_keep _ _ (by tauto), s2r_keep _ _ (by tauto), s2p_keep _ _ (by tauto)]

/-- Stage 2 of the reference: its result is the correlation of the padded planes, plus the bias, rectified. -/
theorem stage2 (V : Valuation τ sig (Elt Ideal)) (b : Fin 256) (o : Fin 256) (y x : Fin 8) :
    (after s2d (mid2 V)) (Proc.devRef .tc main_v53) (ix4 b o y x) =
      (max (corr 256 4 2 (fun i1 => padBy (at4 (A := 256) (V (Proc.devRef .tc main_v26)) b i1)) (fun i1 ky kx => at4 (A := 256) (V (Proc.devRef .tc main_arg4)) o i1 ky kx) y x + at1 (A := 256) (V (Proc.devRef .tc main_arg5)) o) 0 : EReal) := by
  after_reads_at
  refine congrArg₂ (max : EReal → EReal → EReal) ?_ rfl
  refine congrArg₂ (fun p q : EReal => p + q) ?_ (at1_ix (A := 256) (V (Proc.devRef .tc main_arg5)) o)
  unfold corr
  simp only [Finset.sum_range]
  refine Finset.sum_congr rfl fun c _ => Finset.sum_congr rfl fun t _ => ?_
  have hb := b.isLt
  have ho := o.isLt
  have hc := c.isLt
  have ht : t.val < 16 := t.isLt
  refine congrArg₂ (fun p q : EReal => p * q) ?_ (mid2_win V b c ⟨t / 4, by omega⟩ ⟨t % 4, by omega⟩ y x)
  exact at4_ix (A := 256) (V (Proc.devRef .tc main_arg4)) o c ⟨t / 4, by omega⟩ ⟨t % 4, by omega⟩

end Cert.ReferenceIdeal.Val

end
-- ==== Proof.Ref.Stage3.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 3: the padded planes. -/
theorem pad3 (V : Valuation τ sig (Elt Ideal)) (i0 : Fin 256) (i1 : Fin 256) (i2 i3 : Fin 10) :
    at4 (A := 256) (B := 256) (C := 10) (D := 10) (after s3p V (Proc.devRef .tc main_v54)) i0 i1 i2 i3 = padBy (at4 (A := 256) (V (Proc.devRef .tc main_v53)) i0 i1) i2 i3 := by
  rw [← at4_ix]
  after_reads_at
  have h0 := i0.isLt
  have h1 := i1.isLt
  have h2 := i2.isLt
  have h3 := i3.isLt
  refine dite_eq_of (fun h => ?_) fun h => ?_
  · rw [padBy, if_pos (by omega)]
    exact at4_ix (A := 256) (V (Proc.devRef .tc main_v53)) _ _ _ _
  · unfold padBy
    split_ifs with h'
    · show (0 : EReal) = _
      simp only [at4]
      rw [dif_neg (by omega)]
    · rfl

/-- Stage 3: the rows a window position starts at. -/
theorem rows3 (V : Valuation τ sig (Elt Ideal)) (i0 : Fin 256) (i1 : Fin 256) (i2 : Fin 3) (i3 : Fin 8) (i4 : Fin 10) :
    (after s3rb (after s3ra V)) (Proc.devRef .tc main_v61) (ix5 i0 i1 i2 i3 i4) = at4 (A := 256) (B := 256) (C := 10) (D := 10) (V (Proc.devRef .tc main_v54)) i0 i1 (1 * i3 + i2) i4 := by
  after_reads_simp
  simp only [Matrix.cons_val_zero, Matrix.cons_val_one, Matrix.cons_val]
  after_reads_simp
  pointwise [fn_main_v61]
  have h2 := i2.isLt
  have h3 := i3.isLt
  iterate 2 (refine dite_eq_of ?_ fun h => ?_; · intro h; rw [at4, dif_pos (by omega)]; congr 2; exact Fin.ext (by simp only []; omega))
  rw [at4, dif_pos (by omega)]; congr 2; exact Fin.ext (by simp only []; omega)

/-- Stage 3: the windows, from the rows. -/
theorem wins3 (V : Valuation τ sig (Elt Ideal)) (i0 : Fin 256) (i1 : Fin 256) (i2 i3 : Fin 3) (i4 i5 : Fin 8) :
    after s3w V (Proc.devRef .tc main_v68) (ix6 i0 i1 i2 i3 i4 i5) = at5 (A := 256) (B := 256) (C := 3) (D := 8) (E := 10) (V (Proc.devRef .tc main_v61)) i0 i1 i2 i4 (1 * i5 + i3) := by
  after_reads_simp
  simp only [Matrix.cons_val_zero, Matrix.cons_val_one, Matrix.cons_val]
  after_reads_simp
  pointwise [fn_main_v68]
  have h2 := i3.isLt
  have h3 := i5.isLt
  iterate 2 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 3. -/
abbrev mid3 (V : Valuation τ sig (Elt Ideal)) : Valuation τ sig (Elt Ideal) := after s3w (after s3rb (after s3ra (after s3p V)))

/-- Stage 3: a window element is the padded plane's. -/
theorem mid3_win (V : Valuation τ sig (Elt Ideal)) (i0 : Fin 256) (i1 : Fin 256) (i2 i3 : Fin 3) (i4 i5 : Fin 8) :
    mid3 V (Proc.devRef .tc main_v68) (ix6 i0 i1 i2 i3 i4 i5) = padBy (at4 (A := 256) (V (Proc.devRef .tc main_v53)) i0 i1) (1 * i4 + i2) (1 * i5 + i3) := by
  have h2 := i2.isLt
  have h3 := i3.isLt
  have h4 := i4.isLt
  have h5 := i5.isLt
  have e1 := wins3 (after s3rb (after s3ra (after s3p V))) i0 i1 i2 i3 i4 i5
  have e2 := rows3 (after s3p V) i0 i1 i2 i4 ⟨1 * i5 + i3, by omega⟩
  have e3 := pad3 V i0 i1 ⟨1 * i4 + i2, by omega⟩ ⟨1 * i5 + i3, by omega⟩
  refine e1.trans ?_
  rw [at5, dif_pos (by omega)]
  exact e2.trans e3

/-- The window steps of stage 3 write none of the arguments. -/
theorem mid3_keep (V : Valuation τ sig (Elt Ideal)) (r : Ref sig .tc) (h : r ∉ s3w_W ++ s3ra_W ++ s3rb_W ++ s3p_W) :
    mid3 V (Proc.devRef .tc r) = V (Proc.devRef .tc r) := by
  simp only [List.mem_append, not_or] at h
  unfold mid3
  rw [s3w_keep _ _ (by tauto), s3rb_keep _ _ (by tauto), s3ra_keep _ _ (by tauto), s3p_keep _ _ (by tauto)]

/-- Stage 3 of the reference: its result is the correlation of the padded planes, plus the bias. -/
theorem stage3 (V : Valuation τ sig (Elt Ideal)) (b : Fin 256) (o : Fin 64) (y x : Fin 8) :
    (after s3d (mid3 V)) (Proc.devRef .tc main_v76) (ix4 b y x o) =
      (corr 256 3 1 (fun i1 => padBy (at4 (A := 256) (V (Proc.devRef .tc main_v53)) b i1)) (fun i1 ky kx => at4 (A := 64) (V (Proc.devRef .tc main_arg6)) o i1 ky kx) y x + at1 (A := 64) (V (Proc.devRef .tc main_arg7)) o : EReal) := by
  after_reads_at
  refine congrArg₂ (fun p q : EReal => p + q) ?_ (at1_ix (A := 64) (V (Proc.devRef .tc main_arg7)) o)
  unfold corr
  simp only [Finset.sum_range]
  refine Finset.sum_congr rfl fun c _ => Finset.sum_congr rfl fun t _ => ?_
  have hb := b.isLt
  have ho := o.isLt
  have hc := c.isLt
  have ht : t.val < 9 := t.isLt
  refine congrArg₂ (fun p q : EReal => p * q) ?_ (mid3_win V b c ⟨t / 3, by omega⟩ ⟨t % 3, by omega⟩ y x)
  exact at4_ix (A := 64) (V (Proc.devRef .tc main_arg6)) o c ⟨t / 3, by omega⟩ ⟨t % 3, by omega⟩

end Cert.ReferenceIdeal.Val

end
-- ==== Proof.Ref.Stage5.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 5: the padded planes. -/
theorem pad5 (V : Valuation τ sig (Elt Ideal)) (i0 : Fin 256) (i1 : Fin 64) (i2 i3 : Fin 10) :
    at4 (A := 256) (B := 64) (C := 10) (D := 10) (after s5p V (Proc.devRef .tc main_v98)) i0 i1 i2 i3 = padBy (fun Y X => at4 (A := 256) (V (Proc.devRef .tc main_v96)) i0 Y X i1) i2 i3 := by
  rw [← at4_ix]
  after_reads_at
  have h0 := i0.isLt
  have h1 := i1.isLt
  have h2 := i2.isLt
  have h3 := i3.isLt
  refine dite_eq_of (fun h => ?_) fun h => ?_
  · rw [padBy, if_pos (by omega)]
    exact at4_ix (A := 256) (V (Proc.devRef .tc main_v96)) _ _ _ _
  · unfold padBy
    split_ifs with h'
    · show (0 : EReal) = _
      simp only [at4]
      rw [dif_neg (by omega)]
    · rfl

/-- Stage 5: the rows a window position starts at. -/
theorem rows5 (V : Valuation τ sig (Elt Ideal)) (i0 : Fin 256) (i1 : Fin 64) (i2 : Fin 3) (i3 : Fin 8) (i4 : Fin 10) :
    (after s5r V) (Proc.devRef .tc main_v105) (ix5 i0 i1 i2 i3 i4) = at4 (A := 256) (B := 64) (C := 10) (D := 10) (V (Proc.devRef .tc main_v98)) i0 i1 (1 * i3 + i2) i4 := by
  after_reads_simp
  simp only [Matrix.cons_val_zero, Matrix.cons_val_one, Matrix.cons_val]
  after_reads_simp
  pointwise [fn_main_v105]
  have h2 := i2.isLt
  have h3 := i3.isLt
  iterate 2 (refine dite_eq_of ?_ fun h => ?_; · intro h; rw [at4, dif_pos (by omega)]; congr 2; exact Fin.ext (by simp only []; omega))
  rw [at4, dif_pos (by omega)]; congr 2; exact Fin.ext (by simp only []; omega)

/-- Stage 5: the windows, from the rows. -/
theorem wins5 (V : Valuation τ sig (Elt Ideal)) (i0 : Fin 256) (i1 : Fin 64) (i2 i3 : Fin 3) (i4 i5 : Fin 8) :
    after s5w V (Proc.devRef .tc main_v112) (ix6 i0 i1 i2 i3 i4 i5) = at5 (A := 256) (B := 64) (C := 3) (D := 8) (E := 10) (V (Proc.devRef .tc main_v105)) i0 i1 i2 i4 (1 * i5 + i3) := by
  after_reads_simp
  simp only [Matrix.cons_val_zero, Matrix.cons_val_one, Matrix.cons_val]
  after_reads_simp
  pointwise [fn_main_v112]
  have h2 := i3.isLt
  have h3 := i5.isLt
  iterate 2 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 5. -/
abbrev mid5 (V : Valuation τ sig (Elt Ideal)) : Valuation τ sig (Elt Ideal) := after s5w (after s5r (after s5p V))

/-- Stage 5: a window element is the padded plane's. -/
theorem mid5_win (V : Valuation τ sig (Elt Ideal)) (i0 : Fin 256) (i1 : Fin 64) (i2 i3 : Fin 3) (i4 i5 : Fin 8) :
    mid5 V (Proc.devRef .tc main_v112) (ix6 i0 i1 i2 i3 i4 i5) = padBy (fun Y X => at4 (A := 256) (V (Proc.devRef .tc main_v96)) i0 Y X i1) (1 * i4 + i2) (1 * i5 + i3) := by
  have h2 := i2.isLt
  have h3 := i3.isLt
  have h4 := i4.isLt
  have h5 := i5.isLt
  have e1 := wins5 (after s5r (after s5p V)) i0 i1 i2 i3 i4 i5
  have e2 := rows5 (after s5p V) i0 i1 i2 i4 ⟨1 * i5 + i3, by omega⟩
  have e3 := pad5 V i0 i1 ⟨1 * i4 + i2, by omega⟩ ⟨1 * i5 + i3, by omega⟩
  refine e1.trans ?_
  rw [at5, dif_pos (by omega)]
  exact e2.trans e3

/-- The window steps of stage 5 write none of the arguments. -/
theorem mid5_keep (V : Valuation τ sig (Elt Ideal)) (r : Ref sig .tc) (h : r ∉ s5w_W ++ s5r_W ++ s5p_W) :
    mid5 V (Proc.devRef .tc r) = V (Proc.devRef .tc r) := by
  simp only [List.mem_append, not_or] at h
  unfold mid5
  rw [s5w_keep _ _ (by tauto), s5r_keep _ _ (by tauto), s5p_keep _ _ (by tauto)]

/-- Stage 5 of the reference: its result is the correlation of the padded planes, plus the bias, rectified. -/
theorem stage5 (V : Valuation τ sig (Elt Ideal)) (b : Fin 256) (o : Fin 256) (y x : Fin 8) :
    (after s5d (mid5 V)) (Proc.devRef .tc main_v120) (ix4 b o y x) =
      (max (corr 64 3 1 (fun i1 => padBy (fun Y X => at4 (A := 256) (V (Proc.devRef .tc main_v96)) b Y X i1)) (fun i1 ky kx => at4 (A := 256) (V (Proc.devRef .tc main_arg8)) o i1 ky kx) y x + at1 (A := 256) (V (Proc.devRef .tc main_arg9)) o) 0 : EReal) := by
  after_reads_at
  refine congrArg₂ (max : EReal → EReal → EReal) ?_ rfl
  refine congrArg₂ (fun p q : EReal => p + q) ?_ (at1_ix (A := 256) (V (Proc.devRef .tc main_arg9)) o)
  unfold corr
  simp only [Finset.sum_range]
  refine Finset.sum_congr rfl fun c _ => Finset.sum_congr rfl fun t _ => ?_
  have hb := b.isLt
  have ho := o.isLt
  have hc := c.isLt
  have ht : t.val < 9 := t.isLt
  refine congrArg₂ (fun p q : EReal => p * q) ?_ (mid5_win V b c ⟨t / 3, by omega⟩ ⟨t % 3, by omega⟩ y x)
  exact at4_ix (A := 256) (V (Proc.devRef .tc main_arg8)) o c ⟨t / 3, by omega⟩ ⟨t % 3, by omega⟩

end Cert.ReferenceIdeal.Val

end
-- ==== Proof.Ref.Stage6.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 6: the spread planes. -/
theorem pad6 (V : Valuation τ sig (Elt Ideal)) (i0 : Fin 256) (i1 : Fin 256) (i2 i3 : Fin 19) :
    at4 (A := 256) (B := 256) (C := 19) (D := 19) (after s6p V (Proc.devRef .tc main_v121)) i0 i1 i2 i3 = dilBy (at4 (A := 256) (V (Proc.devRef .tc main_v120)) i0 i1) i2 i3 := by
  rw [← at4_ix]
  after_reads_at
  have h0 := i0.isLt
  have h1 := i1.isLt
  have h2 := i2.isLt
  have h3 := i3.isLt
  refine dite_eq_of (fun h => ?_) fun h => ?_
  · rw [dilBy, if_pos (by omega)]
    exact at4_ix (A := 256) (V (Proc.devRef .tc main_v120)) _ _ _ _
  · unfold dilBy
    split_ifs with h'
    · show (0 : EReal) = _
      simp only [at4]
      rw [dif_neg (by omega)]
    · rfl

/-- Stage 6: the rows a window position starts at. -/
theorem rows6 (V : Valuation τ sig (Elt Ideal)) (i0 : Fin 256) (i1 : Fin 256) (i2 : Fin 4) (i3 : Fin 16) (i4 : Fin 19) :
    (after s6r V) (Proc.devRef .tc main_v130) (ix5 i0 i1 i2 i3 i4) = at4 (A := 256) (B := 256) (C := 19) (D := 19) (V (Proc.devRef .tc main_v121)) i0 i1 (1 * i3 + i2) i4 := by
  after_reads_simp
  simp only [Matrix.cons_val_zero, Matrix.cons_val_one, Matrix.cons_val]
  after_reads_simp
  pointwise [fn_main_v130]
  have h2 := i2.isLt
  have h3 := i3.isLt
  iterate 3 (refine dite_eq_of ?_ fun h => ?_; · intro h; rw [at4, dif_pos (by omega)]; congr 2; exact Fin.ext (by simp only []; omega))
  rw [at4, dif_pos (by omega)]; congr 2; exact Fin.ext (by simp only []; omega)

/-- Stage 6: the windows, from the rows. -/
theorem wins6 (V : Valuation τ sig (Elt Ideal)) (i0 : Fin 256) (i1 : Fin 256) (i2 i3 : Fin 4) (i4 i5 : Fin 16) :
    after s6w V (Proc.devRef .tc main_v139) (ix6 i0 i1 i2 i3 i4 i5) = at5 (A := 256) (B := 256) (C := 4) (D := 16) (E := 19) (V (Proc.devRef .tc main_v130)) i0 i1 i2 i4 (1 * i5 + i3) := by
  after_reads_simp
  simp only [Matrix.cons_val_zero, Matrix.cons_val_one, Matrix.cons_val]
  after_reads_simp
  pointwise [fn_main_v139]
  have h2 := i3.isLt
  have h3 := i5.isLt
  iterate 3 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 6. -/
abbrev mid6 (V : Valuation τ sig (Elt Ideal)) : Valuation τ sig (Elt Ideal) := after s6w (after s6r (after s6p V))

/-- Stage 6: a window element is the spread plane's. -/
theorem mid6_win (V : Valuation τ sig (Elt Ideal)) (i0 : Fin 256) (i1 : Fin 256) (i2 i3 : Fin 4) (i4 i5 : Fin 16) :
    mid6 V (Proc.devRef .tc main_v139) (ix6 i0 i1 i2 i3 i4 i5) = dilBy (at4 (A := 256) (V (Proc.devRef .tc main_v120)) i0 i1) (1 * i4 + i2) (1 * i5 + i3) := by
  have h2 := i2.isLt
  have h3 := i3.isLt
  have h4 := i4.isLt
  have h5 := i5.isLt
  have e1 := wins6 (after s6r (after s6p V)) i0 i1 i2 i3 i4 i5
  have e2 := rows6 (after s6p V) i0 i1 i2 i4 ⟨1 * i5 + i3, by omega⟩
  have e3 := pad6 V i0 i1 ⟨1 * i4 + i2, by omega⟩ ⟨1 * i5 + i3, by omega⟩
  refine e1.trans ?_
  rw [at5, dif_pos (by omega)]
  exact e2.trans e3

/-- The window steps of stage 6 write none of the arguments. -/
theorem mid6_keep (V : Valuation τ sig (Elt Ideal)) (r : Ref sig .tc) (h : r ∉ s6w_W ++ s6r_W ++ s6p_W) :
    mid6 V (Proc.devRef .tc r) = V (Proc.devRef .tc r) := by
  simp only [List.mem_append, not_or] at h
  unfold mid6
  rw [s6w_keep _ _ (by tauto), s6r_keep _ _ (by tauto), s6p_keep _ _ (by tauto)]

/-- Stage 6 of the reference: its result is the correlation of the spread planes, plus the bias, rectified. -/
theorem stage6 (V : Valuation τ sig (Elt Ideal)) (b : Fin 256) (o : Fin 256) (y x : Fin 16) :
    (after s6d (mid6 V)) (Proc.devRef .tc main_v147) (ix4 b o y x) =
      (max (corr 256 4 1 (fun i1 => dilBy (at4 (A := 256) (V (Proc.devRef .tc main_v120)) b i1)) (fun i1 ky kx => at4 (A := 256) (V (Proc.devRef .tc main_arg10)) o i1 ky kx) y x + at1 (A := 256) (V (Proc.devRef .tc main_arg11)) o) 0 : EReal) := by
  after_reads_at
  refine congrArg₂ (max : EReal → EReal → EReal) ?_ rfl
  refine congrArg₂ (fun p q : EReal => p + q) ?_ (at1_ix (A := 256) (V (Proc.devRef .tc main_arg11)) o)
  unfold corr
  simp only [Finset.sum_range]
  refine Finset.sum_congr rfl fun c _ => Finset.sum_congr rfl fun t _ => ?_
  have hb := b.isLt
  have ho := o.isLt
  have hc := c.isLt
  have ht : t.val < 16 := t.isLt
  refine congrArg₂ (fun p q : EReal => p * q) ?_ (mid6_win V b c ⟨t / 4, by omega⟩ ⟨t % 4, by omega⟩ y x)
  exact at4_ix (A := 256) (V (Proc.devRef .tc main_arg10)) o c ⟨t / 4, by omega⟩ ⟨t % 4, by omega⟩

end Cert.ReferenceIdeal.Val

end
-- ==== Proof.Ref.Stage7.lean ====
module

public import proofs.«01_k».proof.Proof.Ref.Ops
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Val

open Cert.Conv Cert.ReferenceIdeal Cert.ReferenceIdeal.Line Idealize.ShloMosaic Idealize.ShloMosaic.TcCoe Idealize.SL.Sem Idealize.ShloMosaic.StableHlo

/-- Stage 7: the spread planes. -/
theorem pad7 (V : Valuation τ sig (Elt Ideal)) (i0 : Fin 256) (i1 : Fin 256) (i2 i3 : Fin 35) :
    at4 (A := 256) (B := 256) (C := 35) (D := 35) (after s7p V (Proc.devRef .tc main_v148)) i0 i1 i2 i3 = dilBy (at4 (A := 256) (V (Proc.devRef .tc main_v147)) i0 i1) i2 i3 := by
  rw [← at4_ix]
  after_reads_at
  have h0 := i0.isLt
  have h1 := i1.isLt
  have h2 := i2.isLt
  have h3 := i3.isLt
  refine dite_eq_of (fun h => ?_) fun h => ?_
  · rw [dilBy, if_pos (by omega)]
    exact at4_ix (A := 256) (V (Proc.devRef .tc main_v147)) _ _ _ _
  · unfold dilBy
    split_ifs with h'
    · show (0 : EReal) = _
      simp only [at4]
      rw [dif_neg (by omega)]
    · rfl

/-- Stage 7: the rows a window position starts at. -/
theorem rows7 (V : Valuation τ sig (Elt Ideal)) (i0 : Fin 256) (i1 : Fin 256) (i2 : Fin 4) (i3 : Fin 32) (i4 : Fin 35) :
    (after s7r V) (Proc.devRef .tc main_v157) (ix5 i0 i1 i2 i3 i4) = at4 (A := 256) (B := 256) (C := 35) (D := 35) (V (Proc.devRef .tc main_v148)) i0 i1 (1 * i3 + i2) i4 := by
  after_reads_simp
  simp only [Matrix.cons_val_zero, Matrix.cons_val_one, Matrix.cons_val]
  after_reads_simp
  pointwise [fn_main_v157]
  have h2 := i2.isLt
  have h3 := i3.isLt
  iterate 3 (refine dite_eq_of ?_ fun h => ?_; · intro h; rw [at4, dif_pos (by omega)]; congr 2; exact Fin.ext (by simp only []; omega))
  rw [at4, dif_pos (by omega)]; congr 2; exact Fin.ext (by simp only []; omega)

/-- Stage 7: the windows, from the rows. -/
theorem wins7 (V : Valuation τ sig (Elt Ideal)) (i0 : Fin 256) (i1 : Fin 256) (i2 i3 : Fin 4) (i4 i5 : Fin 32) :
    after s7w V (Proc.devRef .tc main_v166) (ix6 i0 i1 i2 i3 i4 i5) = at5 (A := 256) (B := 256) (C := 4) (D := 32) (E := 35) (V (Proc.devRef .tc main_v157)) i0 i1 i2 i4 (1 * i5 + i3) := by
  after_reads_simp
  simp only [Matrix.cons_val_zero, Matrix.cons_val_one, Matrix.cons_val]
  after_reads_simp
  pointwise [fn_main_v166]
  have h2 := i3.isLt
  have h3 := i5.isLt
  iterate 3 (refine dite_eq_of ?_ fun h => ?_; · intro h; rw [at5, dif_pos (by omega)]; congr 2; exact Fin.ext (by simp only []; omega))
  rw [at5, dif_pos (by omega)]; congr 2; exact Fin.ext (by simp only []; omega)

/-- The contents after the window steps of stage 7. -/
abbrev mid7 (V : Valuation τ sig (Elt Ideal)) : Valuation τ sig (Elt Ideal) := after s7w (after s7r (after s7p V))

/-- Stage 7: a window element is the spread plane's. -/
theorem mid7_win (V : Valuation τ sig (Elt Ideal)) (i0 : Fin 256) (i1 : Fin 256) (i2 i3 : Fin 4) (i4 i5 : Fin 32) :
    mid7 V (Proc.devRef .tc main_v166) (ix6 i0 i1 i2 i3 i4 i5) = dilBy (at4 (A := 256) (V (Proc.devRef .tc main_v147)) i0 i1) (1 * i4 + i2) (1 * i5 + i3) := by
  have h2 := i2.isLt
  have h3 := i3.isLt
  have h4 := i4.isLt
  have h5 := i5.isLt
  have e1 := wins7 (after s7r (after s7p V)) i0 i1 i2 i3 i4 i5
  have e2 := rows7 (after s7p V) i0 i1 i2 i4 ⟨1 * i5 + i3, by omega⟩
  have e3 := pad7 V i0 i1 ⟨1 * i4 + i2, by omega⟩ ⟨1 * i5 + i3, by omega⟩
  refine e1.trans ?_
  rw [at5, dif_pos (by omega)]
  exact e2.trans e3

/-- The window steps of stage 7 write none of the arguments. -/
theorem mid7_keep (V : Valuation τ sig (Elt Ideal)) (r : Ref sig .tc) (h : r ∉ s7w_W ++ s7r_W ++ s7p_W) :
    mid7 V (Proc.devRef .tc r) = V (Proc.devRef .tc r) := by
  simp only [List.mem_append, not_or] at h
  unfold mid7
  rw [s7w_keep _ _ (by tauto), s7r_keep _ _ (by tauto), s7p_keep _ _ (by tauto)]

/-- Stage 7 of the reference: its result is the correlation of the spread planes, plus the bias. -/
theorem stage7 (V : Valuation τ sig (Elt Ideal)) (b : Fin 256) (o : Fin 3) (y x : Fin 32) :
    (after s7db (after s7da (mid7 V))) (Proc.devRef .tc main_v173) (ix4 b o y x) =
      (corr 256 4 1 (fun i1 => dilBy (at4 (A := 256) (V (Proc.devRef .tc main_v147)) b i1)) (fun i1 ky kx => at4 (A := 3) (V (Proc.devRef .tc main_arg12)) o i1 ky kx) y x + at1 (A := 3) (V (Proc.devRef .tc main_arg13)) o : EReal) := by
  have e : after s7da (mid7 V) (Proc.devRef .tc main_v170) (ix4 b o y x) = (corr 256 4 1 (fun i1 => dilBy (at4 (A := 256) (V (Proc.devRef .tc main_v147)) b i1)) (fun i1 ky kx => at4 (A := 3) (V (Proc.devRef .tc main_arg12)) o i1 ky kx) y x : EReal) := by
    after_reads_at
    unfold corr
    simp only [Finset.sum_range]
    refine Finset.sum_congr rfl fun c _ => Finset.sum_congr rfl fun t _ => ?_
    have hb := b.isLt
    have ho := o.isLt
    have hc := c.isLt
    have ht : t.val < 16 := t.isLt
    refine congrArg₂ (fun p q : EReal => p * q) ?_ (mid7_win V b c ⟨t / 4, by omega⟩ ⟨t % 4, by omega⟩ y x)
    exact at4_ix (A := 3) (V (Proc.devRef .tc main_arg12)) o c ⟨t / 4, by omega⟩ ⟨t % 4, by omega⟩
  generalize hU : after s7da (mid7 V) = U at e
  after_reads_at
  refine congrArg₂ (fun p q : EReal => p + q) e ?_
  rw [← hU, s7da_keep _ _ (by decide), mid7_keep _ _ (by decide)]
  exact at1_ix (A := 3) (V (Proc.devRef .tc main_arg13)) o

end Cert.ReferenceIdeal.Val

end
-- ==== Proof.Ref.Chain.lean ====
/- The reference's whole line of operations, stage by stage: what each stage's array is in terms of the arrays before
   it and of the arguments. -/
module

public import proofs.«01_k».proof.Proof.Link
public import proofs.«01_k».proof.Proof.Ref.Stage1
public import proofs.«01_k».proof.Proof.Ref.Stage2
public import proofs.«01_k».proof.Proof.Ref.Stage3
public import proofs.«01_k».proof.Proof.Ref.Stage5
public import proofs.«01_k».proof.Proof.Ref.Stage6
public import proofs.«01_k».proof.Proof.Ref.Stage7

@[expose] public section

set_option maxRecDepth 16384

noncomputable section

namespace Cert.ReferenceIdeal.Val

open Cert.Conv Cert.ReferenceIdeal Cert.ReferenceIdeal.Gen Cert.ReferenceIdeal.Line Idealize.ShloMosaic Idealize.ShloMosaic.TcCoe Idealize.SL.Sem Idealize.ShloMosaic.StableHlo

variable (V : Valuation τ sig (Elt Ideal))

/-- The references of the arguments. -/
abbrev argList : List (Ref sig .tc) := [main_arg0, main_arg1, main_arg2, main_arg3, main_arg4, main_arg5, main_arg6, main_arg7, main_arg8, main_arg9, main_arg10, main_arg11, main_arg12, main_arg13]

/-- The arguments as the stages read them. -/
def args : Args where
  x := V (Proc.devRef .tc main_arg0)
  t := V (Proc.devRef .tc main_arg1)
  w1 := V (Proc.devRef .tc main_arg2)
  b1 := V (Proc.devRef .tc main_arg3)
  w2 := V (Proc.devRef .tc main_arg4)
  b2 := V (Proc.devRef .tc main_arg5)
  w3 := V (Proc.devRef .tc main_arg6)
  b3 := V (Proc.devRef .tc main_arg7)
  v1 := V (Proc.devRef .tc main_arg8)
  d1 := V (Proc.devRef .tc main_arg9)
  v2 := V (Proc.devRef .tc main_arg10)
  d2 := V (Proc.devRef .tc main_arg11)
  v3 := V (Proc.devRef .tc main_arg12)
  d3 := V (Proc.devRef .tc main_arg13)

/-- The contents after the first stage. -/
def r1 : Valuation τ sig (Elt Ideal) := after s1d (mid1 V)

/-- The contents after the second stage. -/
def r2 : Valuation τ sig (Elt Ideal) := after s2d (mid2 (r1 V))

/-- The contents after the third stage. -/
def r3 : Valuation τ sig (Elt Ideal) := after s3d (mid3 (r2 V))

/-- The contents after the codes are picked. -/
def r3c : Valuation τ sig (Elt Ideal) := after s4a (after s4d (r3 V))

/-- The contents after the rows are taken from the table. -/
def r3t : Valuation τ sig (Elt Ideal) := after s4tb (after s4ta (r3c V))

/-- The contents after the straight-through sum. -/
def r4 : Valuation τ sig (Elt Ideal) := after s4e (r3t V)

/-- The contents after the first decoder stage. -/
def r5 : Valuation τ sig (Elt Ideal) := after s5d (mid5 (r4 V))

/-- The contents after the second decoder stage. -/
def r6 : Valuation τ sig (Elt Ideal) := after s6d (mid6 (r5 V))

/-- The contents after the last stage. -/
def r7 : Valuation τ sig (Elt Ideal) := after s7db (after s7da (mid7 (r6 V)))

/-- The arguments after that step. -/
theorem r1_args (r : Ref sig .tc) (h : r ∈ argList) : r1 V (Proc.devRef .tc r) = V (Proc.devRef .tc r) := by
  unfold r1
  rw [s1d_keep _ r, mid1_keep _ r]
  · exact (by decide : ∀ r ∈ argList, r ∉ s1w_W ++ s1r_W ++ s1p_W) r h
  · exact (by decide : ∀ r ∈ argList, r ∉ s1d_W) r h

/-- The arguments after that step. -/
theorem r2_args (r : Ref sig .tc) (h : r ∈ argList) : r2 V (Proc.devRef .tc r) = V (Proc.devRef .tc r) := by
  unfold r2
  rw [s2d_keep _ r, mid2_keep _ r, r1_args V r h]
  · exact (by decide : ∀ r ∈ argList, r ∉ s2w_W ++ s2r_W ++ s2p_W) r h
  · exact (by decide : ∀ r ∈ argList, r ∉ s2d_W) r h

/-- The arguments after that step. -/
theorem r3_args (r : Ref sig .tc) (h : r ∈ argList) : r3 V (Proc.devRef .tc r) = V (Proc.devRef .tc r) := by
  unfold r3
  rw [s3d_keep _ r, mid3_keep _ r, r2_args V r h]
  · exact (by decide : ∀ r ∈ argList, r ∉ s3w_W ++ s3ra_W ++ s3rb_W ++ s3p_W) r h
  · exact (by decide : ∀ r ∈ argList, r ∉ s3d_W) r h

/-- The arguments after that step. -/
theorem r3c_args (r : Ref sig .tc) (h : r ∈ argList) : r3c V (Proc.devRef .tc r) = V (Proc.devRef .tc r) := by
  unfold r3c
  rw [s4a_keep _ r, s4d_keep _ r, r3_args V r h]
  · exact (by decide : ∀ r ∈ argList, r ∉ s4d_W) r h
  · exact (by decide : ∀ r ∈ argList, r ∉ s4a_W) r h

/-- The arguments after that step. -/
theorem r3t_args (r : Ref sig .tc) (h : r ∈ argList) : r3t V (Proc.devRef .tc r) = V (Proc.devRef .tc r) := by
  unfold r3t
  rw [s4tb_keep _ r, s4ta_keep _ r, r3c_args V r h]
  · exact (by decide : ∀ r ∈ argList, r ∉ s4ta_W) r h
  · exact (by decide : ∀ r ∈ argList, r ∉ s4tb_W) r h

/-- The arguments after that step. -/
theorem r4_args (r : Ref sig .tc) (h : r ∈ argList) : r4 V (Proc.devRef .tc r) = V (Proc.devRef .tc r) := by
  unfold r4
  rw [s4e_keep _ r, r3t_args V r h]
  · exact (by decide : ∀ r ∈ argList, r ∉ s4e_W) r h

/-- The arguments after that step. -/
theorem r5_args (r : Ref sig .tc) (h : r ∈ argList) : r5 V (Proc.devRef .tc r) = V (Proc.devRef .tc r) := by
  unfold r5
  rw [s5d_keep _ r, mid5_keep _ r, r4_args V r h]
  · exact (by decide : ∀ r ∈ argList, r ∉ s5w_W ++ s5r_W ++ s5p_W) r h
  · exact (by decide : ∀ r ∈ argList, r ∉ s5d_W) r h

/-- The arguments after that step. -/
theorem r6_args (r : Ref sig .tc) (h : r ∈ argList) : r6 V (Proc.devRef .tc r) = V (Proc.devRef .tc r) := by
  unfold r6
  rw [s6d_keep _ r, mid6_keep _ r, r5_args V r h]
  · exact (by decide : ∀ r ∈ argList, r ∉ s6w_W ++ s6r_W ++ s6p_W) r h
  · exact (by decide : ∀ r ∈ argList, r ∉ s6d_W) r h

/-- The encoder's result is still there when the rows have been taken. -/
theorem r3t_v76 : r3t V (Proc.devRef .tc main_v76) = r3 V (Proc.devRef .tc main_v76) := by
  unfold r3t r3c
  rw [s4tb_keep _ _ (by decide), s4ta_keep _ _ (by decide), s4a_keep _ _ (by decide), s4d_keep _ _ (by decide)]

/-- The last stage's contents are those after all operations. -/
theorem r7_eq : r7 V = after ops V := by
  rw [after_ops]
  rfl

/-- The first stage's array. -/
theorem chain1 (b o : Fin 256) (y x : Fin 16) : r1 V (Proc.devRef .tc main_v26) (ix4 b o y x) =
    max (corr 3 4 2 (fun c => padBy (at4 (args V).x b c)) (fun c ky kx => at4 (args V).w1 o c ky kx) y x + at1 (args V).b1 o) 0 :=
  stage1 V b o y x

/-- The second stage's array. -/
theorem chain2 (b o : Fin 256) (y x : Fin 8) : r2 V (Proc.devRef .tc main_v53) (ix4 b o y x) =
    max (corr 256 4 2 (fun c => padBy (at4 (A := 256) (B := 256) (C := 16) (D := 16) (r1 V (Proc.devRef .tc main_v26)) b c)) (fun c ky kx => at4 (args V).w2 o c ky kx) y x + at1 (args V).b2 o) 0 := by
  have e := stage2 (r1 V) b o y x
  rw [r1_args V main_arg4 (by decide), r1_args V main_arg5 (by decide)] at e
  exact e

/-- The third stage's array. -/
theorem chain3 (b : Fin 256) (o : Fin 64) (y x : Fin 8) : r3 V (Proc.devRef .tc main_v76) (ix4 b y x o) =
    corr 256 3 1 (fun c => padBy (at4 (A := 256) (B := 256) (C := 8) (D := 8) (r2 V (Proc.devRef .tc main_v53)) b c)) (fun c ky kx => at4 (args V).w3 o c ky kx) y x + at1 (args V).b3 o := by
  have e := stage3 (r2 V) b o y x
  rw [r2_args V main_arg6 (by decide), r2_args V main_arg7 (by decide)] at e
  exact e

/-- The first decoder stage's array. -/
theorem chain5 (b o : Fin 256) (y x : Fin 8) : r5 V (Proc.devRef .tc main_v120) (ix4 b o y x) =
    max (corr 64 3 1 (fun c => padBy (fun Y X => at4 (A := 256) (B := 8) (C := 8) (D := 64) (r4 V (Proc.devRef .tc main_v96)) b Y X c)) (fun c ky kx => at4 (args V).v1 o c ky kx) y x + at1 (args V).d1 o) 0 := by
  have e := stage5 (r4 V) b o y x
  rw [r4_args V main_arg8 (by decide), r4_args V main_arg9 (by decide)] at e
  exact e

/-- The second decoder stage's array. -/
theorem chain6 (b o : Fin 256) (y x : Fin 16) : r6 V (Proc.devRef .tc main_v147) (ix4 b o y x) =
    max (corr 256 4 1 (fun c => dilBy (at4 (A := 256) (B := 256) (C := 8) (D := 8) (r5 V (Proc.devRef .tc main_v120)) b c)) (fun c ky kx => at4 (args V).v2 o c ky kx) y x + at1 (args V).d2 o) 0 := by
  have e := stage6 (r5 V) b o y x
  rw [r5_args V main_arg10 (by decide), r5_args V main_arg11 (by decide)] at e
  exact e

/-- The last stage's array. -/
theorem chain7 (b : Fin 256) (o : Fin 3) (y x : Fin 32) : r7 V (Proc.devRef .tc main_v173) (ix4 b o y x) =
    corr 256 4 1 (fun c => dilBy (at4 (A := 256) (B := 256) (C := 16) (D := 16) (r6 V (Proc.devRef .tc main_v147)) b c)) (fun c ky kx => at4 (args V).v3 o c ky kx) y x + at1 (args V).d3 o := by
  have e := stage7 (r6 V) b o y x
  rw [r6_args V main_arg12 (by decide), r6_args V main_arg13 (by decide)] at e
  exact e

/-- The rows taken from the table are those of the first least scores. -/
theorem chain4 (b : Fin 256) (y x : Fin 8) (c : Fin 64) (k : Fin 512)
    (h : IsFirst (fun j => dist (r3 V (Proc.devRef .tc main_v76)) (args V).t (b.val * 64 + y.val * 8 + x.val) j) k) :
    r3t V (Proc.devRef .tc main_v94) (ix4 b y x c) = at2 (args V).t k c := by
  have hb := b.isLt
  have ea : r3 V (Proc.devRef .tc main_arg1) = (args V).t := r3_args V main_arg1 (by decide)
  have e := codes (r3 V) ⟨b.val * 64 + y.val * 8 + x.val, by omega⟩ (h.congr fun j => by rw [ea])
  refine (takes (r3c V) b y x c e).trans ?_
  rw [r3c_args V main_arg1 (by decide)]
  exact at2_ix (args V).t k c

/-- The straight-through sum. -/
theorem chain4' (b : Fin 256) (y x : Fin 8) (c : Fin 64) : r4 V (Proc.devRef .tc main_v96) (ix4 b y x c) =
    at4 (A := 256) (B := 8) (C := 8) (D := 64) (r3 V (Proc.devRef .tc main_v76)) b y x c +
      (at4 (A := 256) (B := 8) (C := 8) (D := 64) (r3t V (Proc.devRef .tc main_v94)) b y x c -
        at4 (A := 256) (B := 8) (C := 8) (D := 64) (r3 V (Proc.devRef .tc main_v76)) b y x c) := by
  have e := through (r3t V) b y x c
  rw [r3t_v76] at e
  exact e

/-- The reference's arrays, stage by stage. -/
theorem stages : RefStages (args V) (r1 V (Proc.devRef .tc main_v26)) (r2 V (Proc.devRef .tc main_v53))
    (r3 V (Proc.devRef .tc main_v76)) (r3t V (Proc.devRef .tc main_v94)) (r4 V (Proc.devRef .tc main_v96))
    (r5 V (Proc.devRef .tc main_v120)) (r6 V (Proc.devRef .tc main_v147)) (r7 V (Proc.devRef .tc main_v173)) where
  s1 := chain1 V
  s2 := chain2 V
  s3 := chain3 V
  s4 := chain4 V
  s4' := chain4' V
  s5 := chain5 V
  s6 := chain6 V
  s7 := chain7 V

end Cert.ReferenceIdeal.Val

end
-- ==== Proof.lean ====
/- The claim: the kernel computes the reference's result over the extended reals, for encoder arguments that are arrays of
   real numbers; all three programs run, leave their arguments unchanged and end with every counter at zero.

   The kernel's run ends with its result at a fold of host stretches and launches (Proof/Val/Run.lean), the reference's at
   a fold of host operations (Proof/Ref/Ops.lean). Each launch's result array is read as a sum over the arrays before it
   (Proof/Val/), each stage of the reference likewise (Proof/Ref/), both against the same correlation sums
   (Proof/Spec.lean, Proof/Math.lean). Proof/Link.lean compares the two stage by stage. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Finite
public import proofs.«01_k».proof.Proof.Val.Run
public import proofs.«01_k».proof.Proof.Val.Chain
public import proofs.«01_k».proof.Proof.Ref.Chain
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_kernel : Cert.quiescent_Kernel := fun m ρ _ => Cert.Kernel.Gen.frame m ρ

/-- The same over the extended reals. -/
theorem frame_ideal : Cert.quiescent_KernelIdeal := fun m ρ _ => Cert.KernelIdeal.Gen.frame m ρ

/-- The same from memories that meet the precondition. -/
theorem frame_ideal_pre : Cert.quiescent_KernelIdeal_pre_encoder_inputs_finite := fun m ρ _ => Cert.KernelIdeal.Gen.frame m ρ

/-- The reference runs, keeps its arguments and ends with every counter at zero: it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Line.run m ρ)

/-- The same from memories that meet the precondition. -/
theorem frame_reference_pre : Cert.quiescent_ReferenceIdeal_pre_encoder_inputs_finite := fun m ρ _ =>
  frame_reference m ρ trivial

/-- The kernel's and the reference's results are equal. -/
theorem algebraic : Cert.algebraic_KernelIdeal_ReferenceIdeal_pre_encoder_inputs_finite := by
  intro m g m' g' hpre hagree
  refine ⟨fun c => Cert.KernelIdeal.Gen.W25 m g c (Proc.devRef .tc Cert.KernelIdeal.main_v59),
    (θ_run Cert.KernelIdeal.defs _ _).mono (fun r h => h.1) (Cert.KernelIdeal.Val.run m g),
    (θ_run Cert.ReferenceIdeal.defs _ _).mono (fun r h c => ⟨(h c).1.trans ?_, (h c).2⟩) (Cert.ReferenceIdeal.Line.run m' g')⟩
  obtain ⟨h0, h1, h2, h3, h4, h5, h6, h7, h8, h9, h10, h11, h12, h13⟩ := hagree c
  have ea : Cert.ReferenceIdeal.Val.args (StableHlo.launchContents m' c) = Cert.KernelIdeal.Val.args m c :=
    Cert.Conv.Args.ext h0 h1 h2 h3 h4 h5 h6 h7 h8 h9 h10 h11 h12 h13
  have hR := Cert.ReferenceIdeal.Val.stages (StableHlo.launchContents m' c)
  rw [ea, Cert.ReferenceIdeal.Val.r7_eq] at hR
  exact Cert.Conv.link (Cert.KernelIdeal.Val.stages m g c) hR
    (Cert.Pre_encoder_inputs_finite.encoder_real (Cert.KernelIdeal.Val.args m c) (hpre c))

/-- The claim. -/
theorem claim : Cert.Claim :=
  ⟨Cert.Kernel.Gen.facts, Cert.KernelIdeal.Gen.facts, Cert.ReferenceIdeal.Gen.facts, Cert.Pre_encoder_inputs_finite.facts,
    frame_kernel, frame_ideal, frame_ideal_pre, frame_reference, frame_reference_pre, trivial, algebraic⟩

end Cert.Proof

end
